-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_RglruIn (m : (ℓ : Loc Cert.RglruIn.nD Cert.RglruIn.τ Cert.RglruIn.sig) → Buf (Elt Bits) ℓ) : Prop :=
  True

def Pre_RglruInIdeal (m : (ℓ : Loc Cert.RglruInIdeal.nD Cert.RglruInIdeal.τ Cert.RglruInIdeal.sig) → Buf (Elt Ideal) ℓ) : Prop :=
  True

def Pre_RglruInRefIdeal (m : (ℓ : Loc Cert.RglruInRefIdeal.nD Cert.RglruInRefIdeal.τ Cert.RglruInRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_CmpKeys (m : (ℓ : Loc Cert.CmpKeys.nD Cert.CmpKeys.τ Cert.CmpKeys.sig) → Buf (Elt Bits) ℓ) : Prop :=
  True

def Pre_CmpKeysIdeal (m : (ℓ : Loc Cert.CmpKeysIdeal.nD Cert.CmpKeysIdeal.τ Cert.CmpKeysIdeal.sig) → Buf (Elt Ideal) ℓ) : Prop :=
  True

def Pre_CmpKeysRefIdeal (m : (ℓ : Loc Cert.CmpKeysRefIdeal.nD Cert.CmpKeysRefIdeal.τ Cert.CmpKeysRefIdeal.sig) → Buf (Elt Ideal) ℓ) : Prop :=
  True

def Pre_CmpValues (m : (ℓ : Loc Cert.CmpValues.nD Cert.CmpValues.τ Cert.CmpValues.sig) → Buf (Elt Bits) ℓ) : Prop :=
  True

def Pre_CmpValuesIdeal (m : (ℓ : Loc Cert.CmpValuesIdeal.nD Cert.CmpValuesIdeal.τ Cert.CmpValuesIdeal.sig) → Buf (Elt Ideal) ℓ) : Prop :=
  True

def Pre_CmpValuesRefIdeal (m : (ℓ : Loc Cert.CmpValuesRefIdeal.nD Cert.CmpValuesRefIdeal.τ Cert.CmpValuesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4))
      ∧ r.2.sem = fun _ => 0)

def quiescent_RglruIn [hRglruIn : Cert.RglruIn.Facts] : Prop :=
  ∀ (m : (ℓ : Loc Cert.RglruIn.nD Cert.RglruIn.τ Cert.RglruIn.sig) → Buf (Elt Bits) ℓ) (g : Dev Cert.RglruIn.nD → PrngReg), Pre_RglruIn m →
    θ_run (Cert.RglruIn.defs (F := Bits)) (onTc (τ := Cert.RglruIn.τ) (Cert.RglruIn.main (F := Bits))) ⟨m, fun _ => 0, g⟩ (fun r => (∀ c : Dev Cert.RglruIn.nD,
      r.2.mem ((c.tc : Thread Cert.RglruIn.nD Cert.RglruIn.τ).loc Cert.RglruIn.main_arg0) = m ((c.tc : Thread Cert.RglruIn.nD Cert.RglruIn.τ).loc Cert.RglruIn.main_arg0)
      ∧ r.2.mem ((c.tc : Thread Cert.RglruIn.nD Cert.RglruIn.τ).loc Cert.RglruIn.main_arg1) = m ((c.tc : Thread Cert.RglruIn.nD Cert.RglruIn.τ).loc Cert.RglruIn.main_arg1)
      ∧ r.2.mem ((c.tc : Thread Cert.RglruIn.nD Cert.RglruIn.τ).loc Cert.RglruIn.main_arg2) = m ((c.tc : Thread Cert.RglruIn.nD Cert.RglruIn.τ).loc Cert.RglruIn.main_arg2))
      ∧ r.2.sem = fun _ => 0)

def quiescent_RglruInIdeal [hRglruInIdeal : Cert.RglruInIdeal.Facts] : Prop :=
  ∀ (m : (ℓ : Loc Cert.RglruInIdeal.nD Cert.RglruInIdeal.τ Cert.RglruInIdeal.sig) → Buf (Elt Ideal) ℓ) (g : Dev Cert.RglruInIdeal.nD → PrngReg), Pre_RglruInIdeal m →
    θ_run (Cert.RglruInIdeal.defs (F := Ideal)) (onTc (τ := Cert.RglruInIdeal.τ) (Cert.RglruInIdeal.main (F := Ideal))) ⟨m, fun _ => 0, g⟩ (fun r => (∀ c : Dev Cert.RglruInIdeal.nD,
      r.2.mem ((c.tc : Thread Cert.RglruInIdeal.nD Cert.RglruInIdeal.τ).loc Cert.RglruInIdeal.main_arg0) = m ((c.tc : Thread Cert.RglruInIdeal.nD Cert.RglruInIdeal.τ).loc Cert.RglruInIdeal.main_arg0)
      ∧ r.2.mem ((c.tc : Thread Cert.RglruInIdeal.nD Cert.RglruInIdeal.τ).loc Cert.RglruInIdeal.main_arg1) = m ((c.tc : Thread Cert.RglruInIdeal.nD Cert.RglruInIdeal.τ).loc Cert.RglruInIdeal.main_arg1)
      ∧ r.2.mem ((c.tc : Thread Cert.RglruInIdeal.nD Cert.RglruInIdeal.τ).loc Cert.RglruInIdeal.main_arg2) = m ((c.tc : Thread Cert.RglruInIdeal.nD Cert.RglruInIdeal.τ).loc Cert.RglruInIdeal.main_arg2))
      ∧ r.2.sem = fun _ => 0)

def quiescent_RglruInRefIdeal [hRglruInRefIdeal : Cert.RglruInRefIdeal.Facts] : Prop :=
  ∀ (m : (ℓ : Loc Cert.RglruInRefIdeal.nD Cert.RglruInRefIdeal.τ Cert.RglruInRefIdeal.sig) → Buf (Elt Ideal) ℓ) (g : Dev Cert.RglruInRefIdeal.nD → PrngReg), Pre_RglruInRefIdeal m →
    θ_run (Cert.RglruInRefIdeal.defs (F := Ideal)) (onTc (τ := Cert.RglruInRefIdeal.τ) (Cert.RglruInRefIdeal.main (F := Ideal))) ⟨m, fun _ => 0, g⟩ (fun r => (∀ c : Dev Cert.RglruInRefIdeal.nD,
      r.2.mem ((c.tc : Thread Cert.RglruInRefIdeal.nD Cert.RglruInRefIdeal.τ).loc Cert.RglruInRefIdeal.main_arg0) = m ((c.tc : Thread Cert.RglruInRefIdeal.nD Cert.RglruInRefIdeal.τ).loc Cert.RglruInRefIdeal.main_arg0)
      ∧ r.2.mem ((c.tc : Thread Cert.RglruInRefIdeal.nD Cert.RglruInRefIdeal.τ).loc Cert.RglruInRefIdeal.main_arg1) = m ((c.tc : Thread Cert.RglruInRefIdeal.nD Cert.RglruInRefIdeal.τ).loc Cert.RglruInRefIdeal.main_arg1)
      ∧ r.2.mem ((c.tc : Thread Cert.RglruInRefIdeal.nD Cert.RglruInRefIdeal.τ).loc Cert.RglruInRefIdeal.main_arg2) = m ((c.tc : Thread Cert.RglruInRefIdeal.nD Cert.RglruInRefIdeal.τ).loc Cert.RglruInRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3))
      ∧ r.2.sem = fun _ => 0)

def quiescent_CmpKeys [hCmpKeys : Cert.CmpKeys.Facts] : Prop :=
  ∀ (m : (ℓ : Loc Cert.CmpKeys.nD Cert.CmpKeys.τ Cert.CmpKeys.sig) → Buf (Elt Bits) ℓ) (g : Dev Cert.CmpKeys.nD → PrngReg), Pre_CmpKeys m →
    θ_run (Cert.CmpKeys.defs (F := Bits)) (onTc (τ := Cert.CmpKeys.τ) (Cert.CmpKeys.main (F := Bits))) ⟨m, fun _ => 0, g⟩ (fun r => (∀ c : Dev Cert.CmpKeys.nD,
      r.2.mem ((c.tc : Thread Cert.CmpKeys.nD Cert.CmpKeys.τ).loc Cert.CmpKeys.main_arg0) = m ((c.tc : Thread Cert.CmpKeys.nD Cert.CmpKeys.τ).loc Cert.CmpKeys.main_arg0)
      ∧ r.2.mem ((c.tc : Thread Cert.CmpKeys.nD Cert.CmpKeys.τ).loc Cert.CmpKeys.main_arg1) = m ((c.tc : Thread Cert.CmpKeys.nD Cert.CmpKeys.τ).loc Cert.CmpKeys.main_arg1)
      ∧ r.2.mem ((c.tc : Thread Cert.CmpKeys.nD Cert.CmpKeys.τ).loc Cert.CmpKeys.main_arg2) = m ((c.tc : Thread Cert.CmpKeys.nD Cert.CmpKeys.τ).loc Cert.CmpKeys.main_arg2)
      ∧ r.2.mem ((c.tc : Thread Cert.CmpKeys.nD Cert.CmpKeys.τ).loc Cert.CmpKeys.main_arg3) = m ((c.tc : Thread Cert.CmpKeys.nD Cert.CmpKeys.τ).loc Cert.CmpKeys.main_arg3))
      ∧ r.2.sem = fun _ => 0)

def quiescent_CmpKeysIdeal [hCmpKeysIdeal : Cert.CmpKeysIdeal.Facts] : Prop :=
  ∀ (m : (ℓ : Loc Cert.CmpKeysIdeal.nD Cert.CmpKeysIdeal.τ Cert.CmpKeysIdeal.sig) → Buf (Elt Ideal) ℓ) (g : Dev Cert.CmpKeysIdeal.nD → PrngReg), Pre_CmpKeysIdeal m →
    θ_run (Cert.CmpKeysIdeal.defs (F := Ideal)) (onTc (τ := Cert.CmpKeysIdeal.τ) (Cert.CmpKeysIdeal.main (F := Ideal))) ⟨m, fun _ => 0, g⟩ (fun r => (∀ c : Dev Cert.CmpKeysIdeal.nD,
      r.2.mem ((c.tc : Thread Cert.CmpKeysIdeal.nD Cert.CmpKeysIdeal.τ).loc Cert.CmpKeysIdeal.main_arg0) = m ((c.tc : Thread Cert.CmpKeysIdeal.nD Cert.CmpKeysIdeal.τ).loc Cert.CmpKeysIdeal.main_arg0)
      ∧ r.2.mem ((c.tc : Thread Cert.CmpKeysIdeal.nD Cert.CmpKeysIdeal.τ).loc Cert.CmpKeysIdeal.main_arg1) = m ((c.tc : Thread Cert.CmpKeysIdeal.nD Cert.CmpKeysIdeal.τ).loc Cert.CmpKeysIdeal.main_arg1)
      ∧ r.2.mem ((c.tc : Thread Cert.CmpKeysIdeal.nD Cert.CmpKeysIdeal.τ).loc Cert.CmpKeysIdeal.main_arg2) = m ((c.tc : Thread Cert.CmpKeysIdeal.nD Cert.CmpKeysIdeal.τ).loc Cert.CmpKeysIdeal.main_arg2)
      ∧ r.2.mem ((c.tc : Thread Cert.CmpKeysIdeal.nD Cert.CmpKeysIdeal.τ).loc Cert.CmpKeysIdeal.main_arg3) = m ((c.tc : Thread Cert.CmpKeysIdeal.nD Cert.CmpKeysIdeal.τ).loc Cert.CmpKeysIdeal.main_arg3))
      ∧ r.2.sem = fun _ => 0)

def quiescent_CmpKeysRefIdeal [hCmpKeysRefIdeal : Cert.CmpKeysRefIdeal.Facts] : Prop :=
  ∀ (m : (ℓ : Loc Cert.CmpKeysRefIdeal.nD Cert.CmpKeysRefIdeal.τ Cert.CmpKeysRefIdeal.sig) → Buf (Elt Ideal) ℓ) (g : Dev Cert.CmpKeysRefIdeal.nD → PrngReg), Pre_CmpKeysRefIdeal m →
    θ_run (Cert.CmpKeysRefIdeal.defs (F := Ideal)) (onTc (τ := Cert.CmpKeysRefIdeal.τ) (Cert.CmpKeysRefIdeal.main (F := Ideal))) ⟨m, fun _ => 0, g⟩ (fun r => (∀ c : Dev Cert.CmpKeysRefIdeal.nD,
      r.2.mem ((c.tc : Thread Cert.CmpKeysRefIdeal.nD Cert.CmpKeysRefIdeal.τ).loc Cert.CmpKeysRefIdeal.main_arg0) = m ((c.tc : Thread Cert.CmpKeysRefIdeal.nD Cert.CmpKeysRefIdeal.τ).loc Cert.CmpKeysRefIdeal.main_arg0)
      ∧ r.2.mem ((c.tc : Thread Cert.CmpKeysRefIdeal.nD Cert.CmpKeysRefIdeal.τ).loc Cert.CmpKeysRefIdeal.main_arg1) = m ((c.tc : Thread Cert.CmpKeysRefIdeal.nD Cert.CmpKeysRefIdeal.τ).loc Cert.CmpKeysRefIdeal.main_arg1)
      ∧ r.2.mem ((c.tc : Thread Cert.CmpKeysRefIdeal.nD Cert.CmpKeysRefIdeal.τ).loc Cert.CmpKeysRefIdeal.main_arg2) = m ((c.tc : Thread Cert.CmpKeysRefIdeal.nD Cert.CmpKeysRefIdeal.τ).loc Cert.CmpKeysRefIdeal.main_arg2)
      ∧ r.2.mem ((c.tc : Thread Cert.CmpKeysRefIdeal.nD Cert.CmpKeysRefIdeal.τ).loc Cert.CmpKeysRefIdeal.main_arg3) = m ((c.tc : Thread Cert.CmpKeysRefIdeal.nD Cert.CmpKeysRefIdeal.τ).loc Cert.CmpKeysRefIdeal.main_arg3))
      ∧ r.2.sem = fun _ => 0)

def quiescent_CmpValues [hCmpValues : Cert.CmpValues.Facts] : Prop :=
  ∀ (m : (ℓ : Loc Cert.CmpValues.nD Cert.CmpValues.τ Cert.CmpValues.sig) → Buf (Elt Bits) ℓ) (g : Dev Cert.CmpValues.nD → PrngReg), Pre_CmpValues m →
    θ_run (Cert.CmpValues.defs (F := Bits)) (onTc (τ := Cert.CmpValues.τ) (Cert.CmpValues.main (F := Bits))) ⟨m, fun _ => 0, g⟩ (fun r => (∀ c : Dev Cert.CmpValues.nD,
      r.2.mem ((c.tc : Thread Cert.CmpValues.nD Cert.CmpValues.τ).loc Cert.CmpValues.main_arg0) = m ((c.tc : Thread Cert.CmpValues.nD Cert.CmpValues.τ).loc Cert.CmpValues.main_arg0)
      ∧ r.2.mem ((c.tc : Thread Cert.CmpValues.nD Cert.CmpValues.τ).loc Cert.CmpValues.main_arg1) = m ((c.tc : Thread Cert.CmpValues.nD Cert.CmpValues.τ).loc Cert.CmpValues.main_arg1)
      ∧ r.2.mem ((c.tc : Thread Cert.CmpValues.nD Cert.CmpValues.τ).loc Cert.CmpValues.main_arg2) = m ((c.tc : Thread Cert.CmpValues.nD Cert.CmpValues.τ).loc Cert.CmpValues.main_arg2)
      ∧ r.2.mem ((c.tc : Thread Cert.CmpValues.nD Cert.CmpValues.τ).loc Cert.CmpValues.main_arg3) = m ((c.tc : Thread Cert.CmpValues.nD Cert.CmpValues.τ).loc Cert.CmpValues.main_arg3))
      ∧ r.2.sem = fun _ => 0)

def quiescent_CmpValuesIdeal [hCmpValuesIdeal : Cert.CmpValuesIdeal.Facts] : Prop :=
  ∀ (m : (ℓ : Loc Cert.CmpValuesIdeal.nD Cert.CmpValuesIdeal.τ Cert.CmpValuesIdeal.sig) → Buf (Elt Ideal) ℓ) (g : Dev Cert.CmpValuesIdeal.nD → PrngReg), Pre_CmpValuesIdeal m →
    θ_run (Cert.CmpValuesIdeal.defs (F := Ideal)) (onTc (τ := Cert.CmpValuesIdeal.τ) (Cert.CmpValuesIdeal.main (F := Ideal))) ⟨m, fun _ => 0, g⟩ (fun r => (∀ c : Dev Cert.CmpValuesIdeal.nD,
      r.2.mem ((c.tc : Thread Cert.CmpValuesIdeal.nD Cert.CmpValuesIdeal.τ).loc Cert.CmpValuesIdeal.main_arg0) = m ((c.tc : Thread Cert.CmpValuesIdeal.nD Cert.CmpValuesIdeal.τ).loc Cert.CmpValuesIdeal.main_arg0)
      ∧ r.2.mem ((c.tc : Thread Cert.CmpValuesIdeal.nD Cert.CmpValuesIdeal.τ).loc Cert.CmpValuesIdeal.main_arg1) = m ((c.tc : Thread Cert.CmpValuesIdeal.nD Cert.CmpValuesIdeal.τ).loc Cert.CmpValuesIdeal.main_arg1)
      ∧ r.2.mem ((c.tc : Thread Cert.CmpValuesIdeal.nD Cert.CmpValuesIdeal.τ).loc Cert.CmpValuesIdeal.main_arg2) = m ((c.tc : Thread Cert.CmpValuesIdeal.nD Cert.CmpValuesIdeal.τ).loc Cert.CmpValuesIdeal.main_arg2)
      ∧ r.2.mem ((c.tc : Thread Cert.CmpValuesIdeal.nD Cert.CmpValuesIdeal.τ).loc Cert.CmpValuesIdeal.main_arg3) = m ((c.tc : Thread Cert.CmpValuesIdeal.nD Cert.CmpValuesIdeal.τ).loc Cert.CmpValuesIdeal.main_arg3))
      ∧ r.2.sem = fun _ => 0)

def quiescent_CmpValuesRefIdeal [hCmpValuesRefIdeal : Cert.CmpValuesRefIdeal.Facts] : Prop :=
  ∀ (m : (ℓ : Loc Cert.CmpValuesRefIdeal.nD Cert.CmpValuesRefIdeal.τ Cert.CmpValuesRefIdeal.sig) → Buf (Elt Ideal) ℓ) (g : Dev Cert.CmpValuesRefIdeal.nD → PrngReg), Pre_CmpValuesRefIdeal m →
    θ_run (Cert.CmpValuesRefIdeal.defs (F := Ideal)) (onTc (τ := Cert.CmpValuesRefIdeal.τ) (Cert.CmpValuesRefIdeal.main (F := Ideal))) ⟨m, fun _ => 0, g⟩ (fun r => (∀ c : Dev Cert.CmpValuesRefIdeal.nD,
      r.2.mem ((c.tc : Thread Cert.CmpValuesRefIdeal.nD Cert.CmpValuesRefIdeal.τ).loc Cert.CmpValuesRefIdeal.main_arg0) = m ((c.tc : Thread Cert.CmpValuesRefIdeal.nD Cert.CmpValuesRefIdeal.τ).loc Cert.CmpValuesRefIdeal.main_arg0)
      ∧ r.2.mem ((c.tc : Thread Cert.CmpValuesRefIdeal.nD Cert.CmpValuesRefIdeal.τ).loc Cert.CmpValuesRefIdeal.main_arg1) = m ((c.tc : Thread Cert.CmpValuesRefIdeal.nD Cert.CmpValuesRefIdeal.τ).loc Cert.CmpValuesRefIdeal.main_arg1)
      ∧ r.2.mem ((c.tc : Thread Cert.CmpValuesRefIdeal.nD Cert.CmpValuesRefIdeal.τ).loc Cert.CmpValuesRefIdeal.main_arg2) = m ((c.tc : Thread Cert.CmpValuesRefIdeal.nD Cert.CmpValuesRefIdeal.τ).loc Cert.CmpValuesRefIdeal.main_arg2)
      ∧ r.2.mem ((c.tc : Thread Cert.CmpValuesRefIdeal.nD Cert.CmpValuesRefIdeal.τ).loc Cert.CmpValuesRefIdeal.main_arg3) = m ((c.tc : Thread Cert.CmpValuesRefIdeal.nD Cert.CmpValuesRefIdeal.τ).loc Cert.CmpValuesRefIdeal.main_arg3))
      ∧ r.2.sem = fun _ => 0)

def preserves_Kernel_KernelIdeal : Prop :=
  IdealRules.named_const.Statement Cert.KernelIdeal.κ "mask" .f32 0xF149F2CA#32 ⊥

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v4)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v4) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v32) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4))

def preserves_RglruIn_RglruInIdeal : Prop :=
  True

def algebraic_RglruInIdeal_RglruInRefIdeal [hRglruInIdeal : Cert.RglruInIdeal.Facts] [hRglruInRefIdeal : Cert.RglruInRefIdeal.Facts] : Prop :=
  ∀ (m : (ℓ : Loc Cert.RglruInIdeal.nD Cert.RglruInIdeal.τ Cert.RglruInIdeal.sig) → Buf (Elt Ideal) ℓ) (g : Dev Cert.RglruInIdeal.nD → PrngReg)
    (m' : (ℓ : Loc Cert.RglruInRefIdeal.nD Cert.RglruInRefIdeal.τ Cert.RglruInRefIdeal.sig) → Buf (Elt Ideal) ℓ) (g' : Dev Cert.RglruInRefIdeal.nD → PrngReg), Pre_RglruInIdeal m →
    (∀ c : Dev Cert.RglruInIdeal.nD,
      m' ((c.tc : Thread Cert.RglruInRefIdeal.nD Cert.RglruInRefIdeal.τ).loc Cert.RglruInRefIdeal.main_arg0) = m ((c.tc : Thread Cert.RglruInIdeal.nD Cert.RglruInIdeal.τ).loc Cert.RglruInIdeal.main_arg0)
      ∧ m' ((c.tc : Thread Cert.RglruInRefIdeal.nD Cert.RglruInRefIdeal.τ).loc Cert.RglruInRefIdeal.main_arg1) = m ((c.tc : Thread Cert.RglruInIdeal.nD Cert.RglruInIdeal.τ).loc Cert.RglruInIdeal.main_arg1)
      ∧ m' ((c.tc : Thread Cert.RglruInRefIdeal.nD Cert.RglruInRefIdeal.τ).loc Cert.RglruInRefIdeal.main_arg2) = m ((c.tc : Thread Cert.RglruInIdeal.nD Cert.RglruInIdeal.τ).loc Cert.RglruInIdeal.main_arg2)) →
    ∃ (v0 : (c : Dev Cert.RglruInIdeal.nD) → Buf (Elt Ideal) ((c.tc : Thread Cert.RglruInIdeal.nD Cert.RglruInIdeal.τ).loc Cert.RglruInIdeal.main_v2_0)) (v1 : (c : Dev Cert.RglruInIdeal.nD) → Buf (Elt Ideal) ((c.tc : Thread Cert.RglruInIdeal.nD Cert.RglruInIdeal.τ).loc Cert.RglruInIdeal.main_v2_1)),
      θ_run (Cert.RglruInIdeal.defs (F := Ideal)) (onTc (τ := Cert.RglruInIdeal.τ) (Cert.RglruInIdeal.main (F := Ideal))) ⟨m, fun _ => 0, g⟩ (fun r => ∀ c : Dev Cert.RglruInIdeal.nD,
          r.2.mem ((c.tc : Thread Cert.RglruInIdeal.nD Cert.RglruInIdeal.τ).loc Cert.RglruInIdeal.main_v2_0) = v0 c
          ∧ r.2.mem ((c.tc : Thread Cert.RglruInIdeal.nD Cert.RglruInIdeal.τ).loc Cert.RglruInIdeal.main_v2_1) = v1 c
          ∧ r.2.mem ((c.tc : Thread Cert.RglruInIdeal.nD Cert.RglruInIdeal.τ).loc Cert.RglruInIdeal.main_arg0) = m ((c.tc : Thread Cert.RglruInIdeal.nD Cert.RglruInIdeal.τ).loc Cert.RglruInIdeal.main_arg0)
          ∧ r.2.mem ((c.tc : Thread Cert.RglruInIdeal.nD Cert.RglruInIdeal.τ).loc Cert.RglruInIdeal.main_arg1) = m ((c.tc : Thread Cert.RglruInIdeal.nD Cert.RglruInIdeal.τ).loc Cert.RglruInIdeal.main_arg1)
          ∧ r.2.mem ((c.tc : Thread Cert.RglruInIdeal.nD Cert.RglruInIdeal.τ).loc Cert.RglruInIdeal.main_arg2) = m ((c.tc : Thread Cert.RglruInIdeal.nD Cert.RglruInIdeal.τ).loc Cert.RglruInIdeal.main_arg2))
      ∧ θ_run (Cert.RglruInRefIdeal.defs (F := Ideal)) (onTc (τ := Cert.RglruInRefIdeal.τ) (Cert.RglruInRefIdeal.main (F := Ideal))) ⟨m', fun _ => 0, g'⟩ (fun r => ∀ c : Dev Cert.RglruInRefIdeal.nD,
          r.2.mem ((c.tc : Thread Cert.RglruInRefIdeal.nD Cert.RglruInRefIdeal.τ).loc Cert.RglruInRefIdeal.main_v19) = v0 c
          ∧ r.2.mem ((c.tc : Thread Cert.RglruInRefIdeal.nD Cert.RglruInRefIdeal.τ).loc Cert.RglruInRefIdeal.main_v36) = v1 c
          ∧ r.2.mem ((c.tc : Thread Cert.RglruInRefIdeal.nD Cert.RglruInRefIdeal.τ).loc Cert.RglruInRefIdeal.main_arg0) = m' ((c.tc : Thread Cert.RglruInRefIdeal.nD Cert.RglruInRefIdeal.τ).loc Cert.RglruInRefIdeal.main_arg0)
          ∧ r.2.mem ((c.tc : Thread Cert.RglruInRefIdeal.nD Cert.RglruInRefIdeal.τ).loc Cert.RglruInRefIdeal.main_arg1) = m' ((c.tc : Thread Cert.RglruInRefIdeal.nD Cert.RglruInRefIdeal.τ).loc Cert.RglruInRefIdeal.main_arg1)
          ∧ r.2.mem ((c.tc : Thread Cert.RglruInRefIdeal.nD Cert.RglruInRefIdeal.τ).loc Cert.RglruInRefIdeal.main_arg2) = m' ((c.tc : Thread Cert.RglruInRefIdeal.nD Cert.RglruInRefIdeal.τ).loc Cert.RglruInRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v43_0)) (v1 : (c : Dev Cert.KvProjIdeal.nD) → Buf (Elt Ideal) ((c.tc : Thread Cert.KvProjIdeal.nD Cert.KvProjIdeal.τ).loc Cert.KvProjIdeal.main_v43_1)) (v2 : (c : Dev Cert.KvProjIdeal.nD) → Buf (Elt Ideal) ((c.tc : Thread Cert.KvProjIdeal.nD Cert.KvProjIdeal.τ).loc Cert.KvProjIdeal.main_v43_2)) (v3 : (c : Dev Cert.KvProjIdeal.nD) → Buf (Elt Ideal) ((c.tc : Thread Cert.KvProjIdeal.nD Cert.KvProjIdeal.τ).loc Cert.KvProjIdeal.main_v43_3)) (v4 : (c : Dev Cert.KvProjIdeal.nD) → Buf (Elt Ideal) ((c.tc : Thread Cert.KvProjIdeal.nD Cert.KvProjIdeal.τ).loc Cert.KvProjIdeal.main_v43_4)) (v5 : (c : Dev Cert.KvProjIdeal.nD) → Buf (Elt Ideal) ((c.tc : Thread Cert.KvProjIdeal.nD Cert.KvProjIdeal.τ).loc Cert.KvProjIdeal.main_v43_5)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v43_0) = v0 c
          ∧ r.2.mem ((c.tc : Thread Cert.KvProjIdeal.nD Cert.KvProjIdeal.τ).loc Cert.KvProjIdeal.main_v43_1) = v1 c
          ∧ r.2.mem ((c.tc : Thread Cert.KvProjIdeal.nD Cert.KvProjIdeal.τ).loc Cert.KvProjIdeal.main_v43_2) = v2 c
          ∧ r.2.mem ((c.tc : Thread Cert.KvProjIdeal.nD Cert.KvProjIdeal.τ).loc Cert.KvProjIdeal.main_v43_3) = v3 c
          ∧ r.2.mem ((c.tc : Thread Cert.KvProjIdeal.nD Cert.KvProjIdeal.τ).loc Cert.KvProjIdeal.main_v43_4) = v4 c
          ∧ r.2.mem ((c.tc : Thread Cert.KvProjIdeal.nD Cert.KvProjIdeal.τ).loc Cert.KvProjIdeal.main_v43_5) = v5 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v110) = v0 c
          ∧ r.2.mem ((c.tc : Thread Cert.KvProjRefIdeal.nD Cert.KvProjRefIdeal.τ).loc Cert.KvProjRefIdeal.main_v111) = v1 c
          ∧ r.2.mem ((c.tc : Thread Cert.KvProjRefIdeal.nD Cert.KvProjRefIdeal.τ).loc Cert.KvProjRefIdeal.main_v112) = v2 c
          ∧ r.2.mem ((c.tc : Thread Cert.KvProjRefIdeal.nD Cert.KvProjRefIdeal.τ).loc Cert.KvProjRefIdeal.main_v113) = v3 c
          ∧ r.2.mem ((c.tc : Thread Cert.KvProjRefIdeal.nD Cert.KvProjRefIdeal.τ).loc Cert.KvProjRefIdeal.main_v114) = v4 c
          ∧ r.2.mem ((c.tc : Thread Cert.KvProjRefIdeal.nD Cert.KvProjRefIdeal.τ).loc Cert.KvProjRefIdeal.main_v115) = v5 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)) →
    ∃ (v0 : (c : Dev Cert.QProjIdeal.nD) → Buf (Elt Ideal) ((c.tc : Thread Cert.QProjIdeal.nD Cert.QProjIdeal.τ).loc Cert.QProjIdeal.main_v35_0)) (v1 : (c : Dev Cert.QProjIdeal.nD) → Buf (Elt Ideal) ((c.tc : Thread Cert.QProjIdeal.nD Cert.QProjIdeal.τ).loc Cert.QProjIdeal.main_v35_1)) (v2 : (c : Dev Cert.QProjIdeal.nD) → Buf (Elt Ideal) ((c.tc : Thread Cert.QProjIdeal.nD Cert.QProjIdeal.τ).loc Cert.QProjIdeal.main_v35_2)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v35_0) = v0 c
          ∧ r.2.mem ((c.tc : Thread Cert.QProjIdeal.nD Cert.QProjIdeal.τ).loc Cert.QProjIdeal.main_v35_1) = v1 c
          ∧ r.2.mem ((c.tc : Thread Cert.QProjIdeal.nD Cert.QProjIdeal.τ).loc Cert.QProjIdeal.main_v35_2) = v2 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v34) = v0 c
          ∧ r.2.mem ((c.tc : Thread Cert.QProjRefIdeal.nD Cert.QProjRefIdeal.τ).loc Cert.QProjRefIdeal.main_v73) = v1 c
          ∧ r.2.mem ((c.tc : Thread Cert.QProjRefIdeal.nD Cert.QProjRefIdeal.τ).loc Cert.QProjRefIdeal.main_v29) = v2 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3))

def preserves_CmpKeys_CmpKeysIdeal : Prop :=
  True

def algebraic_CmpKeysIdeal_CmpKeysRefIdeal [hCmpKeysIdeal : Cert.CmpKeysIdeal.Facts] [hCmpKeysRefIdeal : Cert.CmpKeysRefIdeal.Facts] : Prop :=
  ∀ (m : (ℓ : Loc Cert.CmpKeysIdeal.nD Cert.CmpKeysIdeal.τ Cert.CmpKeysIdeal.sig) → Buf (Elt Ideal) ℓ) (g : Dev Cert.CmpKeysIdeal.nD → PrngReg)
    (m' : (ℓ : Loc Cert.CmpKeysRefIdeal.nD Cert.CmpKeysRefIdeal.τ Cert.CmpKeysRefIdeal.sig) → Buf (Elt Ideal) ℓ) (g' : Dev Cert.CmpKeysRefIdeal.nD → PrngReg), Pre_CmpKeysIdeal m →
    (∀ c : Dev Cert.CmpKeysIdeal.nD,
      m' ((c.tc : Thread Cert.CmpKeysRefIdeal.nD Cert.CmpKeysRefIdeal.τ).loc Cert.CmpKeysRefIdeal.main_arg0) = m ((c.tc : Thread Cert.CmpKeysIdeal.nD Cert.CmpKeysIdeal.τ).loc Cert.CmpKeysIdeal.main_arg0)
      ∧ m' ((c.tc : Thread Cert.CmpKeysRefIdeal.nD Cert.CmpKeysRefIdeal.τ).loc Cert.CmpKeysRefIdeal.main_arg1) = m ((c.tc : Thread Cert.CmpKeysIdeal.nD Cert.CmpKeysIdeal.τ).loc Cert.CmpKeysIdeal.main_arg1)
      ∧ m' ((c.tc : Thread Cert.CmpKeysRefIdeal.nD Cert.CmpKeysRefIdeal.τ).loc Cert.CmpKeysRefIdeal.main_arg2) = m ((c.tc : Thread Cert.CmpKeysIdeal.nD Cert.CmpKeysIdeal.τ).loc Cert.CmpKeysIdeal.main_arg2)
      ∧ m' ((c.tc : Thread Cert.CmpKeysRefIdeal.nD Cert.CmpKeysRefIdeal.τ).loc Cert.CmpKeysRefIdeal.main_arg3) = m ((c.tc : Thread Cert.CmpKeysIdeal.nD Cert.CmpKeysIdeal.τ).loc Cert.CmpKeysIdeal.main_arg3)) →
    ∃ (v0 : (c : Dev Cert.CmpKeysIdeal.nD) → Buf (Elt Ideal) ((c.tc : Thread Cert.CmpKeysIdeal.nD Cert.CmpKeysIdeal.τ).loc Cert.CmpKeysIdeal.main_v8)),
      θ_run (Cert.CmpKeysIdeal.defs (F := Ideal)) (onTc (τ := Cert.CmpKeysIdeal.τ) (Cert.CmpKeysIdeal.main (F := Ideal))) ⟨m, fun _ => 0, g⟩ (fun r => ∀ c : Dev Cert.CmpKeysIdeal.nD,
          r.2.mem ((c.tc : Thread Cert.CmpKeysIdeal.nD Cert.CmpKeysIdeal.τ).loc Cert.CmpKeysIdeal.main_v8) = v0 c
          ∧ r.2.mem ((c.tc : Thread Cert.CmpKeysIdeal.nD Cert.CmpKeysIdeal.τ).loc Cert.CmpKeysIdeal.main_arg0) = m ((c.tc : Thread Cert.CmpKeysIdeal.nD Cert.CmpKeysIdeal.τ).loc Cert.CmpKeysIdeal.main_arg0)
          ∧ r.2.mem ((c.tc : Thread Cert.CmpKeysIdeal.nD Cert.CmpKeysIdeal.τ).loc Cert.CmpKeysIdeal.main_arg1) = m ((c.tc : Thread Cert.CmpKeysIdeal.nD Cert.CmpKeysIdeal.τ).loc Cert.CmpKeysIdeal.main_arg1)
          ∧ r.2.mem ((c.tc : Thread Cert.CmpKeysIdeal.nD Cert.CmpKeysIdeal.τ).loc Cert.CmpKeysIdeal.main_arg2) = m ((c.tc : Thread Cert.CmpKeysIdeal.nD Cert.CmpKeysIdeal.τ).loc Cert.CmpKeysIdeal.main_arg2)
          ∧ r.2.mem ((c.tc : Thread Cert.CmpKeysIdeal.nD Cert.CmpKeysIdeal.τ).loc Cert.CmpKeysIdeal.main_arg3) = m ((c.tc : Thread Cert.CmpKeysIdeal.nD Cert.CmpKeysIdeal.τ).loc Cert.CmpKeysIdeal.main_arg3))
      ∧ θ_run (Cert.CmpKeysRefIdeal.defs (F := Ideal)) (onTc (τ := Cert.CmpKeysRefIdeal.τ) (Cert.CmpKeysRefIdeal.main (F := Ideal))) ⟨m', fun _ => 0, g'⟩ (fun r => ∀ c : Dev Cert.CmpKeysRefIdeal.nD,
          r.2.mem ((c.tc : Thread Cert.CmpKeysRefIdeal.nD Cert.CmpKeysRefIdeal.τ).loc Cert.CmpKeysRefIdeal.main_v30) = v0 c
          ∧ r.2.mem ((c.tc : Thread Cert.CmpKeysRefIdeal.nD Cert.CmpKeysRefIdeal.τ).loc Cert.CmpKeysRefIdeal.main_arg0) = m' ((c.tc : Thread Cert.CmpKeysRefIdeal.nD Cert.CmpKeysRefIdeal.τ).loc Cert.CmpKeysRefIdeal.main_arg0)
          ∧ r.2.mem ((c.tc : Thread Cert.CmpKeysRefIdeal.nD Cert.CmpKeysRefIdeal.τ).loc Cert.CmpKeysRefIdeal.main_arg1) = m' ((c.tc : Thread Cert.CmpKeysRefIdeal.nD Cert.CmpKeysRefIdeal.τ).loc Cert.CmpKeysRefIdeal.main_arg1)
          ∧ r.2.mem ((c.tc : Thread Cert.CmpKeysRefIdeal.nD Cert.CmpKeysRefIdeal.τ).loc Cert.CmpKeysRefIdeal.main_arg2) = m' ((c.tc : Thread Cert.CmpKeysRefIdeal.nD Cert.CmpKeysRefIdeal.τ).loc Cert.CmpKeysRefIdeal.main_arg2)
          ∧ r.2.mem ((c.tc : Thread Cert.CmpKeysRefIdeal.nD Cert.CmpKeysRefIdeal.τ).loc Cert.CmpKeysRefIdeal.main_arg3) = m' ((c.tc : Thread Cert.CmpKeysRefIdeal.nD Cert.CmpKeysRefIdeal.τ).loc Cert.CmpKeysRefIdeal.main_arg3))

def preserves_CmpValues_CmpValuesIdeal : Prop :=
  True

def algebraic_CmpValuesIdeal_CmpValuesRefIdeal [hCmpValuesIdeal : Cert.CmpValuesIdeal.Facts] [hCmpValuesRefIdeal : Cert.CmpValuesRefIdeal.Facts] : Prop :=
  ∀ (m : (ℓ : Loc Cert.CmpValuesIdeal.nD Cert.CmpValuesIdeal.τ Cert.CmpValuesIdeal.sig) → Buf (Elt Ideal) ℓ) (g : Dev Cert.CmpValuesIdeal.nD → PrngReg)
    (m' : (ℓ : Loc Cert.CmpValuesRefIdeal.nD Cert.CmpValuesRefIdeal.τ Cert.CmpValuesRefIdeal.sig) → Buf (Elt Ideal) ℓ) (g' : Dev Cert.CmpValuesRefIdeal.nD → PrngReg), Pre_CmpValuesIdeal m →
    (∀ c : Dev Cert.CmpValuesIdeal.nD,
      m' ((c.tc : Thread Cert.CmpValuesRefIdeal.nD Cert.CmpValuesRefIdeal.τ).loc Cert.CmpValuesRefIdeal.main_arg0) = m ((c.tc : Thread Cert.CmpValuesIdeal.nD Cert.CmpValuesIdeal.τ).loc Cert.CmpValuesIdeal.main_arg0)
      ∧ m' ((c.tc : Thread Cert.CmpValuesRefIdeal.nD Cert.CmpValuesRefIdeal.τ).loc Cert.CmpValuesRefIdeal.main_arg1) = m ((c.tc : Thread Cert.CmpValuesIdeal.nD Cert.CmpValuesIdeal.τ).loc Cert.CmpValuesIdeal.main_arg1)
      ∧ m' ((c.tc : Thread Cert.CmpValuesRefIdeal.nD Cert.CmpValuesRefIdeal.τ).loc Cert.CmpValuesRefIdeal.main_arg2) = m ((c.tc : Thread Cert.CmpValuesIdeal.nD Cert.CmpValuesIdeal.τ).loc Cert.CmpValuesIdeal.main_arg2)
      ∧ m' ((c.tc : Thread Cert.CmpValuesRefIdeal.nD Cert.CmpValuesRefIdeal.τ).loc Cert.CmpValuesRefIdeal.main_arg3) = m ((c.tc : Thread Cert.CmpValuesIdeal.nD Cert.CmpValuesIdeal.τ).loc Cert.CmpValuesIdeal.main_arg3)) →
    ∃ (v0 : (c : Dev Cert.CmpValuesIdeal.nD) → Buf (Elt Ideal) ((c.tc : Thread Cert.CmpValuesIdeal.nD Cert.CmpValuesIdeal.τ).loc Cert.CmpValuesIdeal.main_v7)),
      θ_run (Cert.CmpValuesIdeal.defs (F := Ideal)) (onTc (τ := Cert.CmpValuesIdeal.τ) (Cert.CmpValuesIdeal.main (F := Ideal))) ⟨m, fun _ => 0, g⟩ (fun r => ∀ c : Dev Cert.CmpValuesIdeal.nD,
          r.2.mem ((c.tc : Thread Cert.CmpValuesIdeal.nD Cert.CmpValuesIdeal.τ).loc Cert.CmpValuesIdeal.main_v7) = v0 c
          ∧ r.2.mem ((c.tc : Thread Cert.CmpValuesIdeal.nD Cert.CmpValuesIdeal.τ).loc Cert.CmpValuesIdeal.main_arg0) = m ((c.tc : Thread Cert.CmpValuesIdeal.nD Cert.CmpValuesIdeal.τ).loc Cert.CmpValuesIdeal.main_arg0)
          ∧ r.2.mem ((c.tc : Thread Cert.CmpValuesIdeal.nD Cert.CmpValuesIdeal.τ).loc Cert.CmpValuesIdeal.main_arg1) = m ((c.tc : Thread Cert.CmpValuesIdeal.nD Cert.CmpValuesIdeal.τ).loc Cert.CmpValuesIdeal.main_arg1)
          ∧ r.2.mem ((c.tc : Thread Cert.CmpValuesIdeal.nD Cert.CmpValuesIdeal.τ).loc Cert.CmpValuesIdeal.main_arg2) = m ((c.tc : Thread Cert.CmpValuesIdeal.nD Cert.CmpValuesIdeal.τ).loc Cert.CmpValuesIdeal.main_arg2)
          ∧ r.2.mem ((c.tc : Thread Cert.CmpValuesIdeal.nD Cert.CmpValuesIdeal.τ).loc Cert.CmpValuesIdeal.main_arg3) = m ((c.tc : Thread Cert.CmpValuesIdeal.nD Cert.CmpValuesIdeal.τ).loc Cert.CmpValuesIdeal.main_arg3))
      ∧ θ_run (Cert.CmpValuesRefIdeal.defs (F := Ideal)) (onTc (τ := Cert.CmpValuesRefIdeal.τ) (Cert.CmpValuesRefIdeal.main (F := Ideal))) ⟨m', fun _ => 0, g'⟩ (fun r => ∀ c : Dev Cert.CmpValuesRefIdeal.nD,
          r.2.mem ((c.tc : Thread Cert.CmpValuesRefIdeal.nD Cert.CmpValuesRefIdeal.τ).loc Cert.CmpValuesRefIdeal.main_v30) = v0 c
          ∧ r.2.mem ((c.tc : Thread Cert.CmpValuesRefIdeal.nD Cert.CmpValuesRefIdeal.τ).loc Cert.CmpValuesRefIdeal.main_arg0) = m' ((c.tc : Thread Cert.CmpValuesRefIdeal.nD Cert.CmpValuesRefIdeal.τ).loc Cert.CmpValuesRefIdeal.main_arg0)
          ∧ r.2.mem ((c.tc : Thread Cert.CmpValuesRefIdeal.nD Cert.CmpValuesRefIdeal.τ).loc Cert.CmpValuesRefIdeal.main_arg1) = m' ((c.tc : Thread Cert.CmpValuesRefIdeal.nD Cert.CmpValuesRefIdeal.τ).loc Cert.CmpValuesRefIdeal.main_arg1)
          ∧ r.2.mem ((c.tc : Thread Cert.CmpValuesRefIdeal.nD Cert.CmpValuesRefIdeal.τ).loc Cert.CmpValuesRefIdeal.main_arg2) = m' ((c.tc : Thread Cert.CmpValuesRefIdeal.nD Cert.CmpValuesRefIdeal.τ).loc Cert.CmpValuesRefIdeal.main_arg2)
          ∧ r.2.mem ((c.tc : Thread Cert.CmpValuesRefIdeal.nD Cert.CmpValuesRefIdeal.τ).loc Cert.CmpValuesRefIdeal.main_arg3) = m' ((c.tc : Thread Cert.CmpValuesRefIdeal.nD Cert.CmpValuesRefIdeal.τ).loc Cert.CmpValuesRefIdeal.main_arg3))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hRglruIn : Cert.RglruIn.Facts) (hRglruInIdeal : Cert.RglruInIdeal.Facts) (hRglruInRefIdeal : Cert.RglruInRefIdeal.Facts) (hKvProj : Cert.KvProj.Facts) (hKvProjIdeal : Cert.KvProjIdeal.Facts) (hKvProjRefIdeal : Cert.KvProjRefIdeal.Facts) (hQProj : Cert.QProj.Facts) (hQProjIdeal : Cert.QProjIdeal.Facts) (hQProjRefIdeal : Cert.QProjRefIdeal.Facts) (hCmpKeys : Cert.CmpKeys.Facts) (hCmpKeysIdeal : Cert.CmpKeysIdeal.Facts) (hCmpKeysRefIdeal : Cert.CmpKeysRefIdeal.Facts) (hCmpValues : Cert.CmpValues.Facts) (hCmpValuesIdeal : Cert.CmpValuesIdeal.Facts) (hCmpValuesRefIdeal : Cert.CmpValuesRefIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_RglruIn (hRglruIn := hRglruIn)
    ∧ quiescent_RglruInIdeal (hRglruInIdeal := hRglruInIdeal)
    ∧ quiescent_RglruInRefIdeal (hRglruInRefIdeal := hRglruInRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_QProj (hQProj := hQProj)
    ∧ quiescent_QProjIdeal (hQProjIdeal := hQProjIdeal)
    ∧ quiescent_QProjRefIdeal (hQProjRefIdeal := hQProjRefIdeal)
    ∧ quiescent_CmpKeys (hCmpKeys := hCmpKeys)
    ∧ quiescent_CmpKeysIdeal (hCmpKeysIdeal := hCmpKeysIdeal)
    ∧ quiescent_CmpKeysRefIdeal (hCmpKeysRefIdeal := hCmpKeysRefIdeal)
    ∧ quiescent_CmpValues (hCmpValues := hCmpValues)
    ∧ quiescent_CmpValuesIdeal (hCmpValuesIdeal := hCmpValuesIdeal)
    ∧ quiescent_CmpValuesRefIdeal (hCmpValuesRefIdeal := hCmpValuesRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_RglruIn_RglruInIdeal
    ∧ algebraic_RglruInIdeal_RglruInRefIdeal (hRglruInIdeal := hRglruInIdeal) (hRglruInRefIdeal := hRglruInRefIdeal)
    ∧ preserves_KvProj_KvProjIdeal
    ∧ algebraic_KvProjIdeal_KvProjRefIdeal (hKvProjIdeal := hKvProjIdeal) (hKvProjRefIdeal := hKvProjRefIdeal)
    ∧ preserves_QProj_QProjIdeal
    ∧ algebraic_QProjIdeal_QProjRefIdeal (hQProjIdeal := hQProjIdeal) (hQProjRefIdeal := hQProjRefIdeal)
    ∧ preserves_CmpKeys_CmpKeysIdeal
    ∧ algebraic_CmpKeysIdeal_CmpKeysRefIdeal (hCmpKeysIdeal := hCmpKeysIdeal) (hCmpKeysRefIdeal := hCmpKeysRefIdeal)
    ∧ preserves_CmpValues_CmpValuesIdeal
    ∧ algebraic_CmpValuesIdeal_CmpValuesRefIdeal (hCmpValuesIdeal := hCmpValuesIdeal) (hCmpValuesRefIdeal := hCmpValuesRefIdeal)
-- ==== Kernel.lean ====
abbrev S1048576x128 : Shape := ⟨2, ![1048576, 128]⟩
abbrev S65536x128 : Shape := ⟨2, ![65536, 128]⟩
abbrev S16384x128 : Shape := ⟨2, ![16384, 128]⟩
abbrev S8192x128 : Shape := ⟨2, ![8192, 128]⟩
abbrev S65536x512 : Shape := ⟨2, ![65536, 512]⟩
abbrev S10240x2048 : Shape := ⟨2, ![10240, 2048]⟩
abbrev S65536x1024 : Shape := ⟨2, ![65536, 1024]⟩
abbrev S1024x1024 : Shape := ⟨2, ![1024, 1024]⟩
abbrev S32x128 : Shape := ⟨2, ![32, 128]⟩
abbrev S256 : Shape := ⟨1, ![256]⟩
abbrev S1x256x1 : Shape := ⟨3, ![1, 256, 1]⟩
abbrev S3 : Shape := ⟨1, ![3]⟩
abbrev S3x1x1 : Shape := ⟨3, ![3, 1, 1]⟩
abbrev S_ : Shape := ⟨0, ![]⟩
abbrev S3x256x1 : Shape := ⟨3, ![3, 256, 1]⟩
abbrev S1x1x256 : Shape := ⟨3, ![1, 1, 256]⟩
abbrev S3x256x256 : Shape := ⟨3, ![3, 256, 256]⟩
abbrev S1x256x256 : Shape := ⟨3, ![1, 256, 256]⟩
abbrev S5x256x256 : Shape := ⟨3, ![5, 256, 256]⟩
abbrev S4096x128 : Shape := ⟨2, ![4096, 128]⟩
abbrev S256x128 : Shape := ⟨2, ![256, 128]⟩
abbrev S512x128 : Shape := ⟨2, ![512, 128]⟩
abbrev S2048x512 : Shape := ⟨2, ![2048, 512]⟩
abbrev S320x2048 : Shape := ⟨2, ![320, 2048]⟩
abbrev S256x1024 : Shape := ⟨2, ![256, 1024]⟩
abbrev S128x256 : Shape := ⟨2, ![128, 256]⟩
abbrev S1024x256 : Shape := ⟨2, ![1024, 256]⟩
abbrev S1x256 : Shape := ⟨2, ![1, 256]⟩
abbrev S1x1024 : Shape := ⟨2, ![1, 1024]⟩
abbrev S128x1 : Shape := ⟨2, ![128, 1]⟩
abbrev S128x1024 : Shape := ⟨2, ![128, 1024]⟩
abbrev S32x256 : Shape := ⟨2, ![32, 256]⟩
abbrev S128x128 : Shape := ⟨2, ![128, 128]⟩
abbrev S1024x128 : Shape := ⟨2, ![1024, 128]⟩
abbrev S1024 : Shape := ⟨1, ![1024]⟩
abbrev S64x128 : Shape := ⟨2, ![64, 128]⟩
abbrev S64x1024 : Shape := ⟨2, ![64, 1024]⟩
abbrev S64x256 : Shape := ⟨2, ![64, 256]⟩
abbrev S80x1024 : Shape := ⟨2, ![80, 1024]⟩
abbrev S256x256 : Shape := ⟨2, ![256, 256]⟩
abbrev S8x1024 : Shape := ⟨2, ![8, 1024]⟩
abbrev S80x256 : Shape := ⟨2, ![80, 256]⟩

abbrev nBuf : Space → Nat
  | .hbm => 49
  | .vmem => 29
  | .smem => 0
  | _ => 0

abbrev bufTy : (tb : Table) → Fin (tcTables nBuf tb) → BufTy
  | .hbm, ⟨0, _⟩ => ⟨S1048576x128, .bf16⟩
  | .hbm, ⟨1, _⟩ => ⟨S1048576x128, .bf16⟩
  | .hbm, ⟨2, _⟩ => ⟨S65536x128, .f32⟩
  | .hbm, ⟨3, _⟩ => ⟨S16384x128, .bf16⟩
  | .hbm, ⟨4, _⟩ => ⟨S8192x128, .bf16⟩
  | .hbm, ⟨5, _⟩ => ⟨S65536x512, .bf16⟩
  | .hbm, ⟨6, _⟩ => ⟨S10240x2048, .bf16⟩
  | .hbm, ⟨7, _⟩ => ⟨S65536x512, .bf16⟩
  | .hbm, ⟨8, _⟩ => ⟨S10240x2048, .bf16⟩
  | .hbm, ⟨9, _⟩ => ⟨S65536x1024, .f32⟩
  | .hbm, ⟨10, _⟩ => ⟨S1024x1024, .bf16⟩
  | .hbm, ⟨11, _⟩ => ⟨S32x128, .f32⟩
  | .hbm, ⟨12, _⟩ => ⟨S256, .i32⟩
  | .hbm, ⟨13, _⟩ => ⟨S1x256x1, .i32⟩
  | .hbm, ⟨14, _⟩ => ⟨S3, .i32⟩
  | .hbm, ⟨15, _⟩ => ⟨S3x1x1, .i32⟩
  | .hbm, ⟨16, _⟩ => ⟨S_, .i32⟩
  | .hbm, ⟨17, _⟩ => ⟨S3x1x1, .i32⟩
  | .hbm, ⟨18, _⟩ => ⟨S3x1x1, .i32⟩
  | .hbm, ⟨19, _⟩ => ⟨S3x256x1, .i32⟩
  | .hbm, ⟨20, _⟩ => ⟨S3x256x1, .i32⟩
  | .hbm, ⟨21, _⟩ => ⟨S3x256x1, .i32⟩
  | .hbm, ⟨22, _⟩ => ⟨S_, .i32⟩
  | .hbm, ⟨23, _⟩ => ⟨S3x256x1, .i32⟩
  | .hbm, ⟨24, _⟩ => ⟨S3x256x1, .i32⟩
  | .hbm, ⟨25, _⟩ => ⟨S256, .i32⟩
  | .hbm, ⟨26, _⟩ => ⟨S1x1x256, .i32⟩
  | .hbm, ⟨27, _⟩ => ⟨S3x256x256, .i32⟩
  | .hbm, ⟨28, _⟩ => ⟨S3x256x256, .i32⟩
  | .hbm, ⟨29, _⟩ => ⟨S3x256x256, .i1⟩
  | .hbm, ⟨30, _⟩ => ⟨S_, .i32⟩
  | .hbm, ⟨31, _⟩ => ⟨S1x1x256, .i32⟩
  | .hbm, ⟨32, _⟩ => ⟨S1x1x256, .i32⟩
  | .hbm, ⟨33, _⟩ => ⟨S3x256x256, .i32⟩
  | .hbm, ⟨34, _⟩ => ⟨S3x256x256, .i32⟩
  | .hbm, ⟨35, _⟩ => ⟨S3x256x256, .i1⟩
  | .hbm, ⟨36, _⟩ => ⟨S3x256x256, .i1⟩
  | .hbm, ⟨37, _⟩ => ⟨S_, .f32⟩
  | .hbm, ⟨38, _⟩ => ⟨S_, .f32⟩
  | .hbm, ⟨39, _⟩ => ⟨S3x256x256, .f32⟩
  | .hbm, ⟨40, _⟩ => ⟨S3x256x256, .f32⟩
  | .hbm, ⟨41, _⟩ => ⟨S3x256x256, .f32⟩
  | .hbm, ⟨42, _⟩ => ⟨S3x256x256, .f32⟩
  | .hbm, ⟨43, _⟩ => ⟨S_, .f32⟩
  | .hbm, ⟨44, _⟩ => ⟨S1x256x256, .f32⟩
  | .hbm, ⟨45, _⟩ => ⟨S_, .f32⟩
  | .hbm, ⟨46, _⟩ => ⟨S1x256x256, .f32⟩
  | .hbm, ⟨47, _⟩ => ⟨S5x256x256, .f32⟩
  | .hbm, ⟨48, _⟩ => ⟨S65536x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S256x128, .f32⟩
  | .local _ .vmem, ⟨5, _⟩ => ⟨S256x128, .f32⟩
  | .local _ .vmem, ⟨6, _⟩ => ⟨S512x128, .bf16⟩
  | .local _ .vmem, ⟨7, _⟩ => ⟨S512x128, .bf16⟩
  | .local _ .vmem, ⟨8, _⟩ => ⟨S256x128, .bf16⟩
  | .local _ .vmem, ⟨9, _⟩ => ⟨S256x128, .bf16⟩
  | .local _ .vmem, ⟨10, _⟩ => ⟨S2048x512, .bf16⟩
  | .local _ .vmem, ⟨11, _⟩ => ⟨S2048x512, .bf16⟩
  | .local _ .vmem, ⟨12, _⟩ => ⟨S320x2048, .bf16⟩
  | .local _ .vmem, ⟨13, _⟩ => ⟨S320x2048, .bf16⟩
  | .local _ .vmem, ⟨14, _⟩ => ⟨S2048x512, .bf16⟩
  | .local _ .vmem, ⟨15, _⟩ => ⟨S2048x512, .bf16⟩
  | .local _ .vmem, ⟨16, _⟩ => ⟨S320x2048, .bf16⟩
  | .local _ .vmem, ⟨17, _⟩ => ⟨S320x2048, .bf16⟩
  | .local _ .vmem, ⟨18, _⟩ => ⟨S256x1024, .f32⟩
  | .local _ .vmem, ⟨19, _⟩ => ⟨S256x1024, .f32⟩
  | .local _ .vmem, ⟨20, _⟩ => ⟨S1024x1024, .bf16⟩
  | .local _ .vmem, ⟨21, _⟩ => ⟨S32x128, .f32⟩
  | .local _ .vmem, ⟨22, _⟩ => ⟨S5x256x256, .f32⟩
  | .local _ .vmem, ⟨23, _⟩ => ⟨S256x1024, .f32⟩
  | .local _ .vmem, ⟨24, _⟩ => ⟨S256x1024, .f32⟩
  | .local _ .vmem, ⟨25, _⟩ => ⟨S128x256, .f32⟩
  | .local _ .vmem, ⟨26, _⟩ => ⟨S1024x256, .f32⟩
  | .local _ .vmem, ⟨27, _⟩ => ⟨S1024x1024, .f32⟩
  | .local _ .vmem, ⟨28, _⟩ => ⟨S1024x1024, .f32⟩
  | _, _ => ⟨S1048576x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let arg1 : BitVec 32 := BitVec.ofNat 32 (i 1).val
  let c0_i32_466 : BitVec 32 := 0#32
  let v1981 : BitVec 1 := Scalar.cmpi .eq arg1 c0_i32_466
  let c2_i32_467 : BitVec 32 := 2#32
  let c4_i32_468 : BitVec 32 := 4#32
  let v1982 : BitVec 32 := Scalar.select v1981 c2_i32_467 c4_i32_468
  let v1983 : Index := Scalar.indexCast v1982
  let c0_469 : Index := 0#32
  let c0_470 : Index := 0#32
  ![v1983.toNat, 0, 0]
def k0_mult2 : BitVec 32 :=
  let c0_i32_471 : BitVec 32 := 0#32
  c0_i32_471
@[reducible] def k0_t1_loop (i : grid0.Coords) : Scf.Loop 32 :=
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_529 : BitVec 32 := 1#32
  ⟨c0_i32_527, v2112, c1_i32_529⟩
def k0_off2 (i : grid0.Coords) (k0_t1 : Fin (k0_t1_loop i).trips) (c1_i32_869 : BitVec 32) : Fin 3 → Nat :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let v2987 : BitVec 32 := Scalar.addi v2986 c1_i32_869
  let arg1 : BitVec 32 := BitVec.ofNat 32 (i 1).val
  let v2988 : BitVec 1 := Scalar.cmpi .eq v2987 arg1
  let c2_i32_870 : BitVec 32 := 2#32
  let c4_i32_871 : BitVec 32 := 4#32
  let v2989 : BitVec 32 := Scalar.select v2988 c2_i32_870 c4_i32_871
  let v2990 : Index := Scalar.indexCast v2989
  let c0_872 : Index := 0#32
  let c0_873 : Index := 0#32
  ![v2990.toNat, 0, 0]
def k0_mult3 (i : grid0.Coords) (k0_t1 : Fin (k0_t1_loop i).trips) : BitVec 32 :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let c1_i32_869 : BitVec 32 := 1#32
  let v2987 : BitVec 32 := Scalar.addi v2986 c1_i32_869
  let c256_i32_874 : BitVec 32 := 256#32
  let v2993 : BitVec 32 := Scalar.muli v2987 c256_i32_874
  v2993
def k0_off3 (i : grid0.Coords) (k0_t1 : Fin (k0_t1_loop i).trips) (c1_i32_869 : BitVec 32) : Fin 2 → Nat :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v2995 : Index := Scalar.indexCast v2994
  let c0_875 : Index := 0#32
  ![v2995.toNat, 0]
def k0_off4 (i : grid0.Coords) (k0_t1 : Fin (k0_t1_loop i).trips) (c0_i32_880 : BitVec 32) (c1_i32_869 : BitVec 32) (c0_i32_881 : BitVec 32) : Fin 2 → Nat :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let v2987 : BitVec 32 := Scalar.addi v2986 c1_i32_869
  let c4_i32_879 : BitVec 32 := 4#32
  let v2999 : BitVec 32 := Scalar.muli v2987 c4_i32_879
  let v3000 : BitVec 32 := Scalar.addi c0_i32_880 v2999
  let v3001 : BitVec 32 := Scalar.addi v3000 c0_i32_881
  let v3002 : Index := Scalar.indexCast v3001
  let c0_882 : Index := 0#32
  ![v3002.toNat, 0]
def k0_off5 (i : grid0.Coords) (k0_t1 : Fin (k0_t1_loop i).trips) (c1_i32_869 : BitVec 32) : Fin 2 → Nat :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v3051 : Index := Scalar.indexCast v2994
  let c128_901 : Index := 128#32
  ![v3051.toNat, 128]
def k0_off6 (i : grid0.Coords) (k0_t1 : Fin (k0_t1_loop i).trips) (c1_i32_869 : BitVec 32) : Fin 2 → Nat :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v3107 : Index := Scalar.indexCast v2994
  let c256_926 : Index := 256#32
  ![v3107.toNat, 256]
def k0_off7 (i : grid0.Coords) (k0_t1 : Fin (k0_t1_loop i).trips) (c1_i32_869 : BitVec 32) : Fin 2 → Nat :=
  let c2_i32_868 : BitVec 32 := 2#32
  let c0_i32_527 : BitVec 32 := 0#32
  let c1_i32_529 : BitVec 32 := 1#32
  let arg20 : BitVec 32 := Scf.iv c0_i32_527 c1_i32_529 k0_t1
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v3163 : Index := Scalar.indexCast v2994
  let c384_952 : Index := 384#32
  ![v3163.toNat, 384]
def k0_mult4 (i : grid0.Coords) (k0_t1 : Fin (k0_t1_loop i).trips) : BitVec 32 :=
  let c2_i32_977 : BitVec 32 := 2#32
  let c0_i32_527 : BitVec 32 := 0#32
  let c1_i32_529 : BitVec 32 := 1#32
  let arg20 : BitVec 32 := Scf.iv c0_i32_527 c1_i32_529 k0_t1
  let v3219 : BitVec 32 := Scalar.muli c2_i32_977 arg20
  let c256_i32_978 : BitVec 32 := 256#32
  let v3220 : BitVec 32 := Scalar.muli v3219 c256_i32_978
  v3220
def k0_off8 (i : grid0.Coords) (k0_t1 : Fin (k0_t1_loop i).trips) : Fin 2 → Nat :=
  let c0_981 : Index := 0#32
  let c2_i32_977 : BitVec 32 := 2#32
  let c0_i32_527 : BitVec 32 := 0#32
  let c1_i32_529 : BitVec 32 := 1#32
  let arg20 : BitVec 32 := Scf.iv c0_i32_527 c1_i32_529 k0_t1
  let v3219 : BitVec 32 := Scalar.muli c2_i32_977 arg20
  let c256_i32_978 : BitVec 32 := 256#32
  let v3220 : BitVec 32 := Scalar.muli v3219 c256_i32_978
  let v3221 : BitVec 32 := v3220
  let v3227 : Index := Scalar.indexCast v3221
  ![0, v3227.toNat]
def k0_off9 (i : grid0.Coords) (k0_t1 : Fin (k0_t1_loop i).trips) : Fin 2 → Nat :=
  let c80_985 : Index := 80#32
  let c2_i32_977 : BitVec 32 := 2#32
  let c0_i32_527 : BitVec 32 := 0#32
  let c1_i32_529 : BitVec 32 := 1#32
  let arg20 : BitVec 32 := Scf.iv c0_i32_527 c1_i32_529 k0_t1
  let v3219 : BitVec 32 := Scalar.muli c2_i32_977 arg20
  let c256_i32_978 : BitVec 32 := 256#32
  let v3220 : BitVec 32 := Scalar.muli v3219 c256_i32_978
  let v3221 : BitVec 32 := v3220
  let v3242 : Index := Scalar.indexCast v3221
  ![80, v3242.toNat]
def k0_off10 (i : grid0.Coords) (k0_t1 : Fin (k0_t1_loop i).trips) : Fin 2 → Nat :=
  let c160_989 : Index := 160#32
  let c2_i32_977 : BitVec 32 := 2#32
  let c0_i32_527 : BitVec 32 := 0#32
  let c1_i32_529 : BitVec 32 := 1#32
  let arg20 : BitVec 32 := Scf.iv c0_i32_527 c1_i32_529 k0_t1
  let v3219 : BitVec 32 := Scalar.muli c2_i32_977 arg20
  let c256_i32_978 : BitVec 32 := 256#32
  let v3220 : BitVec 32 := Scalar.muli v3219 c256_i32_978
  let v3221 : BitVec 32 := v3220
  let v3257 : Index := Scalar.indexCast v3221
  ![160, v3257.toNat]
def k0_off11 (i : grid0.Coords) (k0_t1 : Fin (k0_t1_loop i).trips) : Fin 2 → Nat :=
  let c240_993 : Index := 240#32
  let c2_i32_977 : BitVec 32 := 2#32
  let c0_i32_527 : BitVec 32 := 0#32
  let c1_i32_529 : BitVec 32 := 1#32
  let arg20 : BitVec 32 := Scf.iv c0_i32_527 c1_i32_529 k0_t1
  let v3219 : BitVec 32 := Scalar.muli c2_i32_977 arg20
  let c256_i32_978 : BitVec 32 := 256#32
  let v3220 : BitVec 32 := Scalar.muli v3219 c256_i32_978
  let v3221 : BitVec 32 := v3220
  let v3272 : Index := Scalar.indexCast v3221
  ![240, v3272.toNat]
def k0_mult5 (i : grid0.Coords) (k0_t1 : Fin (k0_t1_loop i).trips) : BitVec 32 :=
  let c2_i32_995 : BitVec 32 := 2#32
  let c0_i32_527 : BitVec 32 := 0#32
  let c1_i32_529 : BitVec 32 := 1#32
  let arg20 : BitVec 32 := Scf.iv c0_i32_527 c1_i32_529 k0_t1
  let v3282 : BitVec 32 := Scalar.muli c2_i32_995 arg20
  let c2_i32_996 : BitVec 32 := 2#32
  let v3283 : BitVec 32 := Scalar.addi v3282 c2_i32_996
  let c256_i32_1001 : BitVec 32 := 256#32
  let v3289 : BitVec 32 := Scalar.muli v3283 c256_i32_1001
  v3289
def k0_mult6 (i : grid0.Coords) (k0_t1 : Fin (k0_t1_loop i).trips) : BitVec 32 :=
  let c2_i32_1106 : BitVec 32 := 2#32
  let c0_i32_527 : BitVec 32 := 0#32
  let c1_i32_529 : BitVec 32 := 1#32
  let arg20 : BitVec 32 := Scf.iv c0_i32_527 c1_i32_529 k0_t1
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  v3517
def k0_off12 (i : grid0.Coords) (k0_t1 : Fin (k0_t1_loop i).trips) : Fin 2 → Nat :=
  let c0_1111 : Index := 0#32
  let c2_i32_1106 : BitVec 32 := 2#32
  let c0_i32_527 : BitVec 32 := 0#32
  let c1_i32_529 : BitVec 32 := 1#32
  let arg20 : BitVec 32 := Scf.iv c0_i32_527 c1_i32_529 k0_t1
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3524 : Index := Scalar.indexCast v3518
  ![0, v3524.toNat]
def k0_off13 (i : grid0.Coords) (k0_t1 : Fin (k0_t1_loop i).trips) : Fin 2 → Nat :=
  let c80_1115 : Index := 80#32
  let c2_i32_1106 : BitVec 32 := 2#32
  let c0_i32_527 : BitVec 32 := 0#32
  let c1_i32_529 : BitVec 32 := 1#32
  let arg20 : BitVec 32 := Scf.iv c0_i32_527 c1_i32_529 k0_t1
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3539 : Index := Scalar.indexCast v3518
  ![80, v3539.toNat]
def k0_off14 (i : grid0.Coords) (k0_t1 : Fin (k0_t1_loop i).trips) : Fin 2 → Nat :=
  let c160_1119 : Index := 160#32
  let c2_i32_1106 : BitVec 32 := 2#32
  let c0_i32_527 : BitVec 32 := 0#32
  let c1_i32_529 : BitVec 32 := 1#32
  let arg20 : BitVec 32 := Scf.iv c0_i32_527 c1_i32_529 k0_t1
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3554 : Index := Scalar.indexCast v3518
  ![160, v3554.toNat]
def k0_off15 (i : grid0.Coords) (k0_t1 : Fin (k0_t1_loop i).trips) : Fin 2 → Nat :=
  let c240_1123 : Index := 240#32
  let c2_i32_1106 : BitVec 32 := 2#32
  let c0_i32_527 : BitVec 32 := 0#32
  let c1_i32_529 : BitVec 32 := 1#32
  let arg20 : BitVec 32 := Scf.iv c0_i32_527 c1_i32_529 k0_t1
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3569 : Index := Scalar.indexCast v3518
  ![240, v3569.toNat]
@[reducible] def k0_t2_loop (i : grid0.Coords) : Scf.Loop 32 :=
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let v2109 : BitVec 32 := Scalar.addi c0_i32_527 v2108
  let c1_i32_530 : BitVec 32 := 1#32
  ⟨v2112, v2109, c1_i32_530⟩
def k0_off16 (i : grid0.Coords) (k0_t2 : Fin (k0_t2_loop i).trips) (c1_i32_869 : BitVec 32) : Fin 3 → Nat :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let v2987 : BitVec 32 := Scalar.addi v2986 c1_i32_869
  let v2988 : BitVec 1 := Scalar.cmpi .eq v2987 arg1
  let c2_i32_870 : BitVec 32 := 2#32
  let c4_i32_871 : BitVec 32 := 4#32
  let v2989 : BitVec 32 := Scalar.select v2988 c2_i32_870 c4_i32_871
  let v2990 : Index := Scalar.indexCast v2989
  let c0_872 : Index := 0#32
  let c0_873 : Index := 0#32
  ![v2990.toNat, 0, 0]
def k0_mult7 (i : grid0.Coords) (k0_t2 : Fin (k0_t2_loop i).trips) : BitVec 32 :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let c1_i32_869 : BitVec 32 := 1#32
  let v2987 : BitVec 32 := Scalar.addi v2986 c1_i32_869
  let c256_i32_874 : BitVec 32 := 256#32
  let v2993 : BitVec 32 := Scalar.muli v2987 c256_i32_874
  v2993
def k0_off17 (i : grid0.Coords) (k0_t2 : Fin (k0_t2_loop i).trips) (c1_i32_869 : BitVec 32) : Fin 2 → Nat :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v2995 : Index := Scalar.indexCast v2994
  let c0_875 : Index := 0#32
  ![v2995.toNat, 0]
def k0_off18 (i : grid0.Coords) (k0_t2 : Fin (k0_t2_loop i).trips) (c0_i32_880 : BitVec 32) (c1_i32_869 : BitVec 32) (c0_i32_881 : BitVec 32) : Fin 2 → Nat :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let v2987 : BitVec 32 := Scalar.addi v2986 c1_i32_869
  let c4_i32_879 : BitVec 32 := 4#32
  let v2999 : BitVec 32 := Scalar.muli v2987 c4_i32_879
  let v3000 : BitVec 32 := Scalar.addi c0_i32_880 v2999
  let v3001 : BitVec 32 := Scalar.addi v3000 c0_i32_881
  let v3002 : Index := Scalar.indexCast v3001
  let c0_882 : Index := 0#32
  ![v3002.toNat, 0]
def k0_off19 (i : grid0.Coords) (k0_t2 : Fin (k0_t2_loop i).trips) (c1_i32_869 : BitVec 32) : Fin 2 → Nat :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v3051 : Index := Scalar.indexCast v2994
  let c128_901 : Index := 128#32
  ![v3051.toNat, 128]
def k0_off20 (i : grid0.Coords) (k0_t2 : Fin (k0_t2_loop i).trips) (c1_i32_869 : BitVec 32) : Fin 2 → Nat :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v3107 : Index := Scalar.indexCast v2994
  let c256_926 : Index := 256#32
  ![v3107.toNat, 256]
def k0_off21 (i : grid0.Coords) (k0_t2 : Fin (k0_t2_loop i).trips) (c1_i32_869 : BitVec 32) : Fin 2 → Nat :=
  let c2_i32_868 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v2986 : BitVec 32 := Scalar.muli c2_i32_868 arg20
  let v2987 : BitVec 32 := Scalar.addi v2986 c1_i32_869
  let c256_i32_874 : BitVec 32 := 256#32
  let v2993 : BitVec 32 := Scalar.muli v2987 c256_i32_874
  let v2994 : BitVec 32 := v2993
  let v3163 : Index := Scalar.indexCast v2994
  let c384_952 : Index := 384#32
  ![v3163.toNat, 384]
def k0_mult8 (i : grid0.Coords) (k0_t2 : Fin (k0_t2_loop i).trips) : BitVec 32 :=
  let c2_i32_977 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3219 : BitVec 32 := Scalar.muli c2_i32_977 arg20
  let c256_i32_978 : BitVec 32 := 256#32
  let v3220 : BitVec 32 := Scalar.muli v3219 c256_i32_978
  v3220
def k0_off22 (i : grid0.Coords) (k0_t2 : Fin (k0_t2_loop i).trips) : Fin 2 → Nat :=
  let c0_981 : Index := 0#32
  let c2_i32_977 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3219 : BitVec 32 := Scalar.muli c2_i32_977 arg20
  let c256_i32_978 : BitVec 32 := 256#32
  let v3220 : BitVec 32 := Scalar.muli v3219 c256_i32_978
  let v3221 : BitVec 32 := v3220
  let v3227 : Index := Scalar.indexCast v3221
  ![0, v3227.toNat]
def k0_off23 (i : grid0.Coords) (k0_t2 : Fin (k0_t2_loop i).trips) : Fin 2 → Nat :=
  let c80_985 : Index := 80#32
  let c2_i32_977 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3219 : BitVec 32 := Scalar.muli c2_i32_977 arg20
  let c256_i32_978 : BitVec 32 := 256#32
  let v3220 : BitVec 32 := Scalar.muli v3219 c256_i32_978
  let v3221 : BitVec 32 := v3220
  let v3242 : Index := Scalar.indexCast v3221
  ![80, v3242.toNat]
def k0_off24 (i : grid0.Coords) (k0_t2 : Fin (k0_t2_loop i).trips) : Fin 2 → Nat :=
  let c160_989 : Index := 160#32
  let c2_i32_977 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3219 : BitVec 32 := Scalar.muli c2_i32_977 arg20
  let c256_i32_978 : BitVec 32 := 256#32
  let v3220 : BitVec 32 := Scalar.muli v3219 c256_i32_978
  let v3221 : BitVec 32 := v3220
  let v3257 : Index := Scalar.indexCast v3221
  ![160, v3257.toNat]
def k0_off25 (i : grid0.Coords) (k0_t2 : Fin (k0_t2_loop i).trips) : Fin 2 → Nat :=
  let c240_993 : Index := 240#32
  let c2_i32_977 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3219 : BitVec 32 := Scalar.muli c2_i32_977 arg20
  let c256_i32_978 : BitVec 32 := 256#32
  let v3220 : BitVec 32 := Scalar.muli v3219 c256_i32_978
  let v3221 : BitVec 32 := v3220
  let v3272 : Index := Scalar.indexCast v3221
  ![240, v3272.toNat]
def k0_mult9 (i : grid0.Coords) (k0_t2 : Fin (k0_t2_loop i).trips) : BitVec 32 :=
  let c2_i32_995 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3282 : BitVec 32 := Scalar.muli c2_i32_995 arg20
  let c2_i32_996 : BitVec 32 := 2#32
  let v3283 : BitVec 32 := Scalar.addi v3282 c2_i32_996
  let c256_i32_1001 : BitVec 32 := 256#32
  let v3289 : BitVec 32 := Scalar.muli v3283 c256_i32_1001
  v3289
def k0_mult10 (i : grid0.Coords) (k0_t2 : Fin (k0_t2_loop i).trips) : BitVec 32 :=
  let c2_i32_1106 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  v3517
def k0_off26 (i : grid0.Coords) (k0_t2 : Fin (k0_t2_loop i).trips) : Fin 2 → Nat :=
  let c0_1111 : Index := 0#32
  let c2_i32_1106 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3524 : Index := Scalar.indexCast v3518
  ![0, v3524.toNat]
def k0_off27 (i : grid0.Coords) (k0_t2 : Fin (k0_t2_loop i).trips) : Fin 2 → Nat :=
  let c80_1115 : Index := 80#32
  let c2_i32_1106 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3539 : Index := Scalar.indexCast v3518
  ![80, v3539.toNat]
def k0_off28 (i : grid0.Coords) (k0_t2 : Fin (k0_t2_loop i).trips) : Fin 2 → Nat :=
  let c160_1119 : Index := 160#32
  let c2_i32_1106 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3554 : Index := Scalar.indexCast v3518
  ![160, v3554.toNat]
def k0_off29 (i : grid0.Coords) (k0_t2 : Fin (k0_t2_loop i).trips) : Fin 2 → Nat :=
  let c240_1123 : Index := 240#32
  let c2_i32_1106 : BitVec 32 := 2#32
  let c0_i32_527 : BitVec 32 := 0#32
  let arg1 : BitVec 32 := BitVec.ofNat 32 (i 1).val
  let c0_i32_521 : BitVec 32 := 0#32
  let v2092 : BitVec 1 := Scalar.cmpi .sgt arg1 c0_i32_521
  let v2093 : BitVec 32 := Scalar.extui v2092
  let c0_i32_522 : BitVec 32 := 0#32
  let v2094 : BitVec 1 := Scalar.cmpi .slt arg1 c0_i32_522
  let v2095 : BitVec 32 := Scalar.extui v2094
  let v2096 : BitVec 32 := Scalar.subi v2093 v2095
  let c2_i32_520 : BitVec 32 := 2#32
  let c0_i32_523 : BitVec 32 := 0#32
  let v2097 : BitVec 1 := Scalar.cmpi .sgt c2_i32_520 c0_i32_523
  let v2098 : BitVec 32 := Scalar.extui v2097
  let c0_i32_524 : BitVec 32 := 0#32
  let v2099 : BitVec 1 := Scalar.cmpi .slt c2_i32_520 c0_i32_524
  let v2100 : BitVec 32 := Scalar.extui v2099
  let v2101 : BitVec 32 := Scalar.subi v2098 v2100
  let v2102 : BitVec 1 := Scalar.cmpi .ne v2096 v2101
  let v2103 : BitVec 32 := Scalar.remsi arg1 c2_i32_520
  let c0_i32_525 : BitVec 32 := 0#32
  let v2104 : BitVec 1 := Scalar.cmpi .ne v2103 c0_i32_525
  let v2105 : BitVec 1 := Scalar.andi v2102 v2104
  let v2091 : BitVec 32 := Scalar.divsi arg1 c2_i32_520
  let c1_i32_526 : BitVec 32 := 1#32
  let v2106 : BitVec 32 := Scalar.subi v2091 c1_i32_526
  let v2107 : BitVec 32 := Scalar.select v2105 v2106 v2091
  let v2108 : BitVec 32 := Scalar.subi v2107 c0_i32_527
  let c1_i32_528 : BitVec 32 := 1#32
  let v2110 : BitVec 32 := Scalar.divsi v2108 c1_i32_528
  let v2111 : BitVec 32 := Scalar.muli v2110 c1_i32_528
  let v2112 : BitVec 32 := Scalar.addi c0_i32_527 v2111
  let c1_i32_530 : BitVec 32 := 1#32
  let arg20 : BitVec 32 := Scf.iv v2112 c1_i32_530 k0_t2
  let v3515 : BitVec 32 := Scalar.muli c2_i32_1106 arg20
  let c1_i32_1107 : BitVec 32 := 1#32
  let v3516 : BitVec 32 := Scalar.addi v3515 c1_i32_1107
  let c256_i32_1108 : BitVec 32 := 256#32
  let v3517 : BitVec 32 := Scalar.muli v3516 c256_i32_1108
  let v3518 : BitVec 32 := v3517
  let v3569 : Index := Scalar.indexCast v3518
  ![240, v3569.toNat]
def k0_cond1 (i : grid0.Coords) : BitVec 1 :=
  let arg1 : BitVec 32 := BitVec.ofNat 32 (i 1).val
  let c2_i32_539 : BitVec 32 := 2#32
  let c0_i32_540 : BitVec 32 := 0#32
  let v2133 : BitVec 1 := Scalar.cmpi .eq c2_i32_539 c0_i32_540
  let c1_i32_541 : BitVec 32 := 1#32
  let v2134 : BitVec 32 := Scalar.select v2133 c1_i32_541 c2_i32_539
  let v2135 : BitVec 32 := Scalar.remsi arg1 v2134
  let c0_i32_543 : BitVec 32 := 0#32
  let v2137 : BitVec 1 := Scalar.cmpi .slt v2135 c0_i32_543
  let c0_i32_544 : BitVec 32 := 0#32
  let v2138 : BitVec 1 := Scalar.cmpi .slt v2134 c0_i32_544
  let v2139 : BitVec 1 := Scalar.xori v2137 v2138
  let c0_i32_542 : BitVec 32 := 0#32
  let v2136 : BitVec 1 := Scalar.cmpi .ne v2135 c0_i32_542
  let v2140 : BitVec 1 := Scalar.andi v2139 v2136
  let v2141 : BitVec 32 := Scalar.addi v2135 v2134
  let v2142 : BitVec 32 := Scalar.select v2140 v2141 v2135
  let c1_i32_545 : BitVec 32 := 1#32
  let v2143 : BitVec 1 := Scalar.cmpi .eq v2142 c1_i32_545
  let v2144 : BitVec 32 := Scalar.extui v2143
  let c0_i32_546 : BitVec 32 := 0#32
  let v2145 : BitVec 1 := Scalar.cmpi .ne v2144 c0_i32_546
  v2145

def k0_off30 (i : grid0.Coords) : Fin 3 → Nat :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let v2987 : BitVec 1 := Scalar.cmpi .eq v2986 arg1
  let c2_i32_869 : BitVec 32 := 2#32
  let c4_i32_870 : BitVec 32 := 4#32
  let v2988 : BitVec 32 := Scalar.select v2987 c2_i32_869 c4_i32_870
  let v2989 : Index := Scalar.indexCast v2988
  let c0_871 : Index := 0#32
  let c0_872 : Index := 0#32
  ![v2989.toNat, 0, 0]
def k0_mult11 (i : grid0.Coords) : BitVec 32 :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let c256_i32_873 : BitVec 32 := 256#32
  let v2992 : BitVec 32 := Scalar.muli v2986 c256_i32_873
  v2992
def k0_off31 (i : grid0.Coords) : Fin 2 → Nat :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let c256_i32_873 : BitVec 32 := 256#32
  let v2992 : BitVec 32 := Scalar.muli v2986 c256_i32_873
  let v2993 : BitVec 32 := v2992
  let v2994 : Index := Scalar.indexCast v2993
  let c0_874 : Index := 0#32
  ![v2994.toNat, 0]
def k0_off32 (i : grid0.Coords) (c0_i32_879 : BitVec 32) (c0_i32_880 : BitVec 32) : Fin 2 → Nat :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let c4_i32_878 : BitVec 32 := 4#32
  let v2998 : BitVec 32 := Scalar.muli v2986 c4_i32_878
  let v2999 : BitVec 32 := Scalar.addi c0_i32_879 v2998
  let v3000 : BitVec 32 := Scalar.addi v2999 c0_i32_880
  let v3001 : Index := Scalar.indexCast v3000
  let c0_881 : Index := 0#32
  ![v3001.toNat, 0]
def k0_off33 (i : grid0.Coords) : Fin 2 → Nat :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let c256_i32_873 : BitVec 32 := 256#32
  let v2992 : BitVec 32 := Scalar.muli v2986 c256_i32_873
  let v2993 : BitVec 32 := v2992
  let v3050 : Index := Scalar.indexCast v2993
  let c128_900 : Index := 128#32
  ![v3050.toNat, 128]
def k0_off34 (i : grid0.Coords) : Fin 2 → Nat :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let c256_i32_873 : BitVec 32 := 256#32
  let v2992 : BitVec 32 := Scalar.muli v2986 c256_i32_873
  let v2993 : BitVec 32 := v2992
  let v3106 : Index := Scalar.indexCast v2993
  let c256_925 : Index := 256#32
  ![v3106.toNat, 256]
def k0_off35 (i : grid0.Coords) : Fin 2 → Nat :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_868 : BitVec 32 := 1#32
  let v2986 : BitVec 32 := Scalar.addi v2132 c1_i32_868
  let c256_i32_873 : BitVec 32 := 256#32
  let v2992 : BitVec 32 := Scalar.muli v2986 c256_i32_873
  let v2993 : BitVec 32 := v2992
  let v3162 : Index := Scalar.indexCast v2993
  let c384_951 : Index := 384#32
  ![v3162.toNat, 384]
def k0_mult12 (i : grid0.Coords) : BitVec 32 :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_976 : BitVec 32 := 256#32
  let v3218 : BitVec 32 := Scalar.muli v2132 c256_i32_976
  v3218
def k0_off36 (i : grid0.Coords) : Fin 2 → Nat :=
  let c0_979 : Index := 0#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_976 : BitVec 32 := 256#32
  let v3218 : BitVec 32 := Scalar.muli v2132 c256_i32_976
  let v3219 : BitVec 32 := v3218
  let v3225 : Index := Scalar.indexCast v3219
  ![0, v3225.toNat]
def k0_off37 (i : grid0.Coords) : Fin 2 → Nat :=
  let c80_983 : Index := 80#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_976 : BitVec 32 := 256#32
  let v3218 : BitVec 32 := Scalar.muli v2132 c256_i32_976
  let v3219 : BitVec 32 := v3218
  let v3240 : Index := Scalar.indexCast v3219
  ![80, v3240.toNat]
def k0_off38 (i : grid0.Coords) : Fin 2 → Nat :=
  let c160_987 : Index := 160#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_976 : BitVec 32 := 256#32
  let v3218 : BitVec 32 := Scalar.muli v2132 c256_i32_976
  let v3219 : BitVec 32 := v3218
  let v3255 : Index := Scalar.indexCast v3219
  ![160, v3255.toNat]
def k0_off39 (i : grid0.Coords) : Fin 2 → Nat :=
  let c240_991 : Index := 240#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_976 : BitVec 32 := 256#32
  let v3218 : BitVec 32 := Scalar.muli v2132 c256_i32_976
  let v3219 : BitVec 32 := v3218
  let v3270 : Index := Scalar.indexCast v3219
  ![240, v3270.toNat]
def k0_mult13 (i : grid0.Coords) : BitVec 32 :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_993 : BitVec 32 := 1#32
  let v3280 : BitVec 32 := Scalar.addi v2132 c1_i32_993
  let c256_i32_994 : BitVec 32 := 256#32
  let v3281 : BitVec 32 := Scalar.muli v3280 c256_i32_994
  v3281
def k0_off40 (i : grid0.Coords) : Fin 2 → Nat :=
  let c0_997 : Index := 0#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_993 : BitVec 32 := 1#32
  let v3280 : BitVec 32 := Scalar.addi v2132 c1_i32_993
  let c256_i32_994 : BitVec 32 := 256#32
  let v3281 : BitVec 32 := Scalar.muli v3280 c256_i32_994
  let v3282 : BitVec 32 := v3281
  let v3288 : Index := Scalar.indexCast v3282
  ![0, v3288.toNat]
def k0_off41 (i : grid0.Coords) : Fin 2 → Nat :=
  let c80_1001 : Index := 80#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_993 : BitVec 32 := 1#32
  let v3280 : BitVec 32 := Scalar.addi v2132 c1_i32_993
  let c256_i32_994 : BitVec 32 := 256#32
  let v3281 : BitVec 32 := Scalar.muli v3280 c256_i32_994
  let v3282 : BitVec 32 := v3281
  let v3301 : Index := Scalar.indexCast v3282
  ![80, v3301.toNat]
def k0_off42 (i : grid0.Coords) : Fin 2 → Nat :=
  let c160_1005 : Index := 160#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_993 : BitVec 32 := 1#32
  let v3280 : BitVec 32 := Scalar.addi v2132 c1_i32_993
  let c256_i32_994 : BitVec 32 := 256#32
  let v3281 : BitVec 32 := Scalar.muli v3280 c256_i32_994
  let v3282 : BitVec 32 := v3281
  let v3314 : Index := Scalar.indexCast v3282
  ![160, v3314.toNat]
def k0_off43 (i : grid0.Coords) : Fin 2 → Nat :=
  let c240_1009 : Index := 240#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c1_i32_993 : BitVec 32 := 1#32
  let v3280 : BitVec 32 := Scalar.addi v2132 c1_i32_993
  let c256_i32_994 : BitVec 32 := 256#32
  let v3281 : BitVec 32 := Scalar.muli v3280 c256_i32_994
  let v3282 : BitVec 32 := v3281
  let v3327 : Index := Scalar.indexCast v3282
  ![240, v3327.toNat]
def k0_mult14 (i : grid0.Coords) : BitVec 32 :=
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_868 : BitVec 32 := 256#32
  let v2986 : BitVec 32 := Scalar.muli v2132 c256_i32_868
  v2986
def k0_off44 (i : grid0.Coords) : Fin 2 → Nat :=
  let c0_871 : Index := 0#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_868 : BitVec 32 := 256#32
  let v2986 : BitVec 32 := Scalar.muli v2132 c256_i32_868
  let v2987 : BitVec 32 := v2986
  let v2993 : Index := Scalar.indexCast v2987
  ![0, v2993.toNat]
def k0_off45 (i : grid0.Coords) : Fin 2 → Nat :=
  let c80_875 : Index := 80#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_868 : BitVec 32 := 256#32
  let v2986 : BitVec 32 := Scalar.muli v2132 c256_i32_868
  let v2987 : BitVec 32 := v2986
  let v3006 : Index := Scalar.indexCast v2987
  ![80, v3006.toNat]
def k0_off46 (i : grid0.Coords) : Fin 2 → Nat :=
  let c160_879 : Index := 160#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_868 : BitVec 32 := 256#32
  let v2986 : BitVec 32 := Scalar.muli v2132 c256_i32_868
  let v2987 : BitVec 32 := v2986
  let v3019 : Index := Scalar.indexCast v2987
  ![160, v3019.toNat]
def k0_off47 (i : grid0.Coords) : Fin 2 → Nat :=
  let c240_883 : Index := 240#32
  let c2_i32_538 : BitVec 32 := 2#32
  let arg1 : BitVec 32 := BitVec.ofNat 32 (i 1).val
  let c0_i32_532 : BitVec 32 := 0#32
  let v2116 : BitVec 1 := Scalar.cmpi .sgt arg1 c0_i32_532
  let v2117 : BitVec 32 := Scalar.extui v2116
  let c0_i32_533 : BitVec 32 := 0#32
  let v2118 : BitVec 1 := Scalar.cmpi .slt arg1 c0_i32_533
  let v2119 : BitVec 32 := Scalar.extui v2118
  let v2120 : BitVec 32 := Scalar.subi v2117 v2119
  let c2_i32_531 : BitVec 32 := 2#32
  let c0_i32_534 : BitVec 32 := 0#32
  let v2121 : BitVec 1 := Scalar.cmpi .sgt c2_i32_531 c0_i32_534
  let v2122 : BitVec 32 := Scalar.extui v2121
  let c0_i32_535 : BitVec 32 := 0#32
  let v2123 : BitVec 1 := Scalar.cmpi .slt c2_i32_531 c0_i32_535
  let v2124 : BitVec 32 := Scalar.extui v2123
  let v2125 : BitVec 32 := Scalar.subi v2122 v2124
  let v2126 : BitVec 1 := Scalar.cmpi .ne v2120 v2125
  let v2127 : BitVec 32 := Scalar.remsi arg1 c2_i32_531
  let c0_i32_536 : BitVec 32 := 0#32
  let v2128 : BitVec 1 := Scalar.cmpi .ne v2127 c0_i32_536
  let v2129 : BitVec 1 := Scalar.andi v2126 v2128
  let v2115 : BitVec 32 := Scalar.divsi arg1 c2_i32_531
  let c1_i32_537 : BitVec 32 := 1#32
  let v2130 : BitVec 32 := Scalar.subi v2115 c1_i32_537
  let v2131 : BitVec 32 := Scalar.select v2129 v2130 v2115
  let v2132 : BitVec 32 := Scalar.muli c2_i32_538 v2131
  let c256_i32_868 : BitVec 32 := 256#32
  let v2986 : BitVec 32 := Scalar.muli v2132 c256_i32_868
  let v2987 : BitVec 32 := v2986
  let v3032 : Index := Scalar.indexCast v2987
  ![240, v3032.toNat]
def k0_mult15 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let c0_i32_615 : BitVec 32 := 0#32
  let v2336 : BitVec 32 := Scalar.addi v2335 c0_i32_615
  let c0_i32_616 : BitVec 32 := 0#32
  let v2337 : BitVec 32 := Scalar.maxsi v2336 c0_i32_616
  v2337
def k0_off48 (i : grid0.Coords) (c0_i32_615 : BitVec 32) (c0_i32_618 : BitVec 32) : Fin 3 → Nat :=
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_617 : BitVec 32 := 0#32
  let v2339 : BitVec 1 := Scalar.cmpi .sge v2336 c0_i32_617
  let c3_i32_619 : BitVec 32 := 3#32
  let v2340 : BitVec 32 := Scalar.select v2339 c0_i32_618 c3_i32_619
  let v2341 : Index := Scalar.indexCast v2340
  let c0_620 : Index := 0#32
  let c0_621 : Index := 0#32
  ![v2341.toNat, 0, 0]
def k0_off48_at (r : Fin 3) : BitVec 32 × BitVec 32 :=
  if r.val < 1 then
    (0#32, 0#32)
  else
    if r.val < 2 then
      (256#32, 1#32)
    else
      (512#32, 2#32)
def k0_off49 (i : grid0.Coords) (c0_i32_615 : BitVec 32) : Fin 2 → Nat :=
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2344 : Index := Scalar.indexCast v2338
  let c0_622 : Index := 0#32
  ![v2344.toNat, 0]
def k0_off50 (i : grid0.Coords) (c0_i32_615 : BitVec 32) : Fin 2 → Nat :=
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2356 : Index := Scalar.indexCast v2338
  let c128_629 : Index := 128#32
  ![v2356.toNat, 128]
def k0_off51 (i : grid0.Coords) (c0_i32_615 : BitVec 32) : Fin 2 → Nat :=
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2368 : Index := Scalar.indexCast v2338
  let c256_636 : Index := 256#32
  ![v2368.toNat, 256]
def k0_off52 (i : grid0.Coords) (c0_i32_615 : BitVec 32) : Fin 2 → Nat :=
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2380 : Index := Scalar.indexCast v2338
  let c384_643 : Index := 384#32
  ![v2380.toNat, 384]
def k0_mult16 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c512_i32_650 : BitVec 32 := 512#32
  let v2392 : BitVec 32 := Scalar.subi v1 c512_i32_650
  let c256_i32_651 : BitVec 32 := 256#32
  let v2393 : BitVec 32 := Scalar.addi v2392 c256_i32_651
  let c0_i32_652 : BitVec 32 := 0#32
  let v2394 : BitVec 32 := Scalar.maxsi v2393 c0_i32_652
  v2394
def k0_off53 (i : grid0.Coords) (c0_i32_615 : BitVec 32) : Fin 2 → Nat :=
  let c0_700 : Index := 0#32
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2510 : Index := Scalar.indexCast v2338
  ![0, v2510.toNat]
def k0_off54 (i : grid0.Coords) (c0_i32_615 : BitVec 32) : Fin 2 → Nat :=
  let c80 : Index := 80#32
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2525 : Index := Scalar.indexCast v2338
  ![80, v2525.toNat]
def k0_off55 (i : grid0.Coords) (c0_i32_615 : BitVec 32) : Fin 2 → Nat :=
  let c160 : Index := 160#32
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2540 : Index := Scalar.indexCast v2338
  ![160, v2540.toNat]
def k0_off56 (i : grid0.Coords) (c0_i32_615 : BitVec 32) : Fin 2 → Nat :=
  let c240 : Index := 240#32
  let arg1 : BitVec 32 := BitVec.ofNat 32 (i 1).val
  let c256_i32 : BitVec 32 := 256#32
  let v0 : BitVec 32 := Scalar.muli arg1 c256_i32
  let v1 : BitVec 32 := v0
  let c512_i32 : BitVec 32 := 512#32
  let v2335 : BitVec 32 := Scalar.subi v1 c512_i32
  let v2336 : BitVec 32 := Scalar.addi v2335 c0_i32_615
  let c0_i32_616 : BitVec 32 := 0#32
  let v2337 : BitVec 32 := Scalar.maxsi v2336 c0_i32_616
  let v2338 : BitVec 32 := v2337
  let v2555 : Index := Scalar.indexCast v2338
  ![240, v2555.toNat]
def k0_mult17 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c512_i32_711 : BitVec 32 := 512#32
  let v2565 : BitVec 32 := Scalar.subi v1 c512_i32_711
  let c512_i32_712 : BitVec 32 := 512#32
  let v2566 : BitVec 32 := Scalar.addi v2565 c512_i32_712
  let c0_i32_713 : BitVec 32 := 0#32
  let v2567 : BitVec 32 := Scalar.maxsi v2566 c0_i32_713
  v2567
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S320x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S320x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S5x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== Ffn.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== FfnFinal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFinalRefIdeal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== RglruIn.lean ====
abbrev S65536x1024 : Shape := ⟨2, ![65536, 1024]⟩
abbrev S1024 : Shape := ⟨1, ![1024]⟩
abbrev S1024x3072 : Shape := ⟨2, ![1024, 3072]⟩
abbrev S256x256 : Shape := ⟨2, ![256, 256]⟩
abbrev S1x1024 : Shape := ⟨2, ![1, 1024]⟩
abbrev S65536x1536 : Shape := ⟨2, ![65536, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S256x1024 : Shape := ⟨2, ![256, 1024]⟩
abbrev S1024x1536 : Shape := ⟨2, ![1024, 1536]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S256x256, .bf16⟩
  | .hbm, ⟨4, _⟩ => ⟨S1x1024, .f32⟩
  | .hbm, ⟨5, _⟩ => ⟨S1024x3072, .bf16⟩
  | .hbm, ⟨6, _⟩ => ⟨S65536x1536, .bf16⟩
  | .hbm, ⟨7, _⟩ => ⟨S65536x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S256x256, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RglruInRefIdeal.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x1536 : Shape := ⟨2, ![65536, 1536]⟩
abbrev S256x8x32x1536 : Shape := ⟨4, ![256, 8, 32, 1536]⟩
abbrev S256x32x8x1536 : Shape := ⟨4, ![256, 32, 8, 1536]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3072, .f32⟩
  | .hbm, ⟨20, _⟩ => ⟨S65536x1536, .f32⟩
  | .hbm, ⟨21, _⟩ => ⟨S65536x1536, .f32⟩
  | .hbm, ⟨22, _⟩ => ⟨S256x8x32x1536, .f32⟩
  | .hbm, ⟨23, _⟩ => ⟨S256x32x8x1536, .f32⟩
  | .hbm, ⟨24, _⟩ => ⟨S65536x1536, .f32⟩
  | .hbm, ⟨25, _⟩ => ⟨S65536x1536, .bf16⟩
  | .hbm, ⟨26, _⟩ => ⟨S65536x1536, .f32⟩
  | .hbm, ⟨27, _⟩ => ⟨S65536x1536, .f32⟩
  | .hbm, ⟨28, _⟩ => ⟨S_, .f32⟩
  | .hbm, ⟨29, _⟩ => ⟨S65536x1536, .f32⟩
  | .hbm, ⟨30, _⟩ => ⟨S65536x1536, .f32⟩
  | .hbm, ⟨31, _⟩ => ⟨S65536x1536, .f32⟩
  | .hbm, ⟨32, _⟩ => ⟨S_, .f32⟩
  | .hbm, ⟨33, _⟩ => ⟨S65536x1536, .f32⟩
  | .hbm, ⟨34, _⟩ => ⟨S65536x1536, .f32⟩
  | .hbm, ⟨35, _⟩ => ⟨S65536x1536, .f32⟩
  | .hbm, ⟨36, _⟩ => ⟨S_, .f32⟩
  | .hbm, ⟨37, _⟩ => ⟨S65536x1536, .f32⟩
  | .hbm, ⟨38, _⟩ => ⟨S65536x1536, .f32⟩
  | .hbm, ⟨39, _⟩ => ⟨S_, .f32⟩
  | .hbm, ⟨40, _⟩ => ⟨S65536x1536, .f32⟩
  | .hbm, ⟨41, _⟩ => ⟨S65536x1536, .f32⟩
  | .hbm, ⟨42, _⟩ => ⟨S65536x1536, .f32⟩
  | .hbm, ⟨43, _⟩ => ⟨S256x8x32x1536, .f32⟩
  | .hbm, ⟨44, _⟩ => ⟨S256x32x8x1536, .f32⟩
  | .hbm, ⟨45, _⟩ => ⟨S65536x1536, .f32⟩
  | .hbm, ⟨46, _⟩ => ⟨S65536x1536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== KvProj.lean ====
abbrev S65536x1024 : Shape := ⟨2, ![65536, 1024]⟩
abbrev S1024 : Shape := ⟨1, ![1024]⟩
abbrev S1024x1920 : Shape := ⟨2, ![1024, 1920]⟩
abbrev S12 : Shape := ⟨1, ![12]⟩
abbrev S_ : Shape := ⟨0, ![]⟩
abbrev S2048 : Shape := ⟨1, ![2048]⟩
abbrev S2048x1 : Shape := ⟨2, ![2048, 1]⟩
abbrev S1x12 : Shape := ⟨2, ![1, 12]⟩
abbrev S2048x12 : Shape := ⟨2, ![2048, 12]⟩
abbrev S2048x104 : Shape := ⟨2, ![2048, 104]⟩
abbrev S2048x128 : Shape := ⟨2, ![2048, 128]⟩
abbrev S2048x116 : Shape := ⟨2, ![2048, 116]⟩
abbrev S1024x384 : Shape := ⟨2, ![1024, 384]⟩
abbrev S1024x256 : Shape := ⟨2, ![1024, 256]⟩
abbrev S1024x4x96 : Shape := ⟨3, ![1024, 4, 96]⟩
abbrev S1024x4x128 : Shape := ⟨3, ![1024, 4, 128]⟩
abbrev S1024x512 : Shape := ⟨2, ![1024, 512]⟩
abbrev S1024x1664 : Shape := ⟨2, ![1024, 1664]⟩
abbrev S256x1024 : Shape := ⟨2, ![256, 1024]⟩
abbrev S512x1024 : Shape := ⟨2, ![512, 1024]⟩
abbrev S1x1024 : Shape := ⟨2, ![1, 1024]⟩
abbrev S65536x384 : Shape := ⟨2, ![65536, 384]⟩
abbrev S65536x256 : Shape := ⟨2, ![65536, 256]⟩
abbrev S65536x512 : Shape := ⟨2, ![65536, 512]⟩
abbrev S10240x2048 : Shape := ⟨2, ![10240, 2048]⟩
abbrev S512x128 : Shape := ⟨2, ![512, 128]⟩
abbrev S512x384 : Shape := ⟨2, ![512, 384]⟩
abbrev S512x256 : Shape := ⟨2, ![512, 256]⟩
abbrev S512x512 : Shape := ⟨2, ![512, 512]⟩
abbrev S320x512 : Shape := ⟨2, ![320, 512]⟩
abbrev S512 : Shape := ⟨1, ![512]⟩
abbrev S512x1 : Shape := ⟨2, ![512, 1]⟩
abbrev S16x512 : Shape := ⟨2, ![16, 512]⟩
abbrev S256x512 : Shape := ⟨2, ![256, 512]⟩
abbrev S64x512 : Shape := ⟨2, ![64, 512]⟩

abbrev nBuf : Space → Nat
  | .hbm => 63
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1920, .f32⟩
  | .hbm, ⟨3, _⟩ => ⟨S12, .f32⟩
  | .hbm, ⟨4, _⟩ => ⟨S12, .f32⟩
  | .hbm, ⟨5, _⟩ => ⟨S_, .f32⟩
  | .hbm, ⟨6, _⟩ => ⟨S12, .f32⟩
  | .hbm, ⟨7, _⟩ => ⟨S12, .f32⟩
  | .hbm, ⟨8, _⟩ => ⟨S_, .f32⟩
  | .hbm, ⟨9, _⟩ => ⟨S12, .f32⟩
  | .hbm, ⟨10, _⟩ => ⟨S12, .f32⟩
  | .hbm, ⟨11, _⟩ => ⟨S_, .f32⟩
  | .hbm, ⟨12, _⟩ => ⟨S12, .f32⟩
  | .hbm, ⟨13, _⟩ => ⟨S12, .f32⟩
  | .hbm, ⟨14, _⟩ => ⟨S2048, .f32⟩
  | .hbm, ⟨15, _⟩ => ⟨S2048x1, .f32⟩
  | .hbm, ⟨16, _⟩ => ⟨S1x12, .f32⟩
  | .hbm, ⟨17, _⟩ => ⟨S2048x12, .f32⟩
  | .hbm, ⟨18, _⟩ => ⟨S2048x12, .f32⟩
  | .hbm, ⟨19, _⟩ => ⟨S2048x12, .f32⟩
  | .hbm, ⟨20, _⟩ => ⟨S2048x12, .f32⟩
  | .hbm, ⟨21, _⟩ => ⟨S2048x12, .f32⟩
  | .hbm, ⟨22, _⟩ => ⟨S_, .f32⟩
  | .hbm, ⟨23, _⟩ => ⟨S2048x104, .f32⟩
  | .hbm, ⟨24, _⟩ => ⟨S2048x128, .f32⟩
  | .hbm, ⟨25, _⟩ => ⟨S2048x12, .f32⟩
  | .hbm, ⟨26, _⟩ => ⟨S_, .f32⟩
  | .hbm, ⟨27, _⟩ => ⟨S2048x116, .f32⟩
  | .hbm, ⟨28, _⟩ => ⟨S2048x128, .f32⟩
  | .hbm, ⟨29, _⟩ => ⟨S_, .f32⟩
  | .hbm, ⟨30, _⟩ => ⟨S2048x12, .f32⟩
  | .hbm, ⟨31, _⟩ => ⟨S_, .f32⟩
  | .hbm, ⟨32, _⟩ => ⟨S2048x104, .f32⟩
  | .hbm, ⟨33, _⟩ => ⟨S2048x128, .f32⟩
  | .hbm, ⟨34, _⟩ => ⟨S1024x384, .f32⟩
  | .hbm, ⟨35, _⟩ => ⟨S1024x256, .f32⟩
  | .hbm, ⟨36, _⟩ => ⟨S1024x384, .f32⟩
  | .hbm, ⟨37, _⟩ => ⟨S1024x256, .f32⟩
  | .hbm, ⟨38, _⟩ => ⟨S1024x384, .f32⟩
  | .hbm, ⟨39, _⟩ => ⟨S1024x256, .f32⟩
  | .hbm, ⟨40, _⟩ => ⟨S1024x4x96, .f32⟩
  | .hbm, ⟨41, _⟩ => ⟨S_, .i32⟩
  | .hbm, ⟨42, _⟩ => ⟨S_, .f32⟩
  | .hbm, ⟨43, _⟩ => ⟨S1024x4x128, .f32⟩
  | .hbm, ⟨44, _⟩ => ⟨S1024x512, .f32⟩
  | .hbm, ⟨45, _⟩ => ⟨S1024x4x96, .f32⟩
  | .hbm, ⟨46, _⟩ => ⟨S_, .i32⟩
  | .hbm, ⟨47, _⟩ => ⟨S_, .f32⟩
  | .hbm, ⟨48, _⟩ => ⟨S1024x4x128, .f32⟩
  | .hbm, ⟨49, _⟩ => ⟨S1024x512, .f32⟩
  | .hbm, ⟨50, _⟩ => ⟨S1024x1664, .f32⟩
  | .hbm, ⟨51, _⟩ => ⟨S1024x1664, .bf16⟩
  | .hbm, ⟨52, _⟩ => ⟨S256x1024, .f32⟩
  | .hbm, ⟨53, _⟩ => ⟨S256x1024, .f32⟩
  | .hbm, ⟨54, _⟩ => ⟨S512x1024, .f32⟩
  | .hbm, ⟨55, _⟩ => ⟨S512x1024, .bf16⟩
  | .hbm, ⟨56, _⟩ => ⟨S1x1024, .f32⟩
  | .hbm, ⟨57, _⟩ => ⟨S65536x384, .bf16⟩
  | .hbm, ⟨58, _⟩ => ⟨S65536x256, .bf16⟩
  | .hbm, ⟨59, _⟩ => ⟨S65536x512, .bf16⟩
  | .hbm, ⟨60, _⟩ => ⟨S10240x2048, .bf16⟩
  | .hbm, ⟨61, _⟩ => ⟨S65536x512, .bf16⟩
  | .hbm, ⟨62, _⟩ => ⟨S10240x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S512x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x384, .bf16⟩
  | .local _ .vmem, ⟨12, _⟩ => ⟨S512x384, .bf16⟩
  | .local _ .vmem, ⟨13, _⟩ => ⟨S512x256, .bf16⟩
  | .local _ .vmem, ⟨14, _⟩ => ⟨S512x256, .bf16⟩
  | .local _ .vmem, ⟨15, _⟩ => ⟨S512x512, .bf16⟩
  | .local _ .vmem, ⟨16, _⟩ => ⟨S512x512, .bf16⟩
  | .local _ .vmem, ⟨17, _⟩ => ⟨S320x512, .bf16⟩
  | .local _ .vmem, ⟨18, _⟩ => ⟨S320x512, .bf16⟩
  | .local _ .vmem, ⟨19, _⟩ => ⟨S512x512, .bf16⟩
  | .local _ .vmem, ⟨20, _⟩ => ⟨S512x512, .bf16⟩
  | .local _ .vmem, ⟨21, _⟩ => ⟨S320x512, .bf16⟩
  | .local _ .vmem, ⟨22, _⟩ => ⟨S320x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev main_v43_5 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KvProjRefIdeal.lean ====
abbrev S65536x1024 : Shape := ⟨2, ![65536, 1024]⟩
abbrev S1024 : Shape := ⟨1, ![1024]⟩
abbrev S1024x1920 : Shape := ⟨2, ![1024, 1920]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1920 : Shape := ⟨2, ![65536, 1920]⟩
abbrev S65536x384 : Shape := ⟨2, ![65536, 384]⟩
abbrev S32x2048x4x96 : Shape := ⟨4, ![32, 2048, 4, 96]⟩
abbrev S65536x256 : Shape := ⟨2, ![65536, 256]⟩
abbrev S32x2048x4x64 : Shape := ⟨4, ![32, 2048, 4, 64]⟩
abbrev S12 : Shape := ⟨1, ![12]⟩
abbrev S2048 : Shape := ⟨1, ![2048]⟩
abbrev S2048x1 : Shape := ⟨2, ![2048, 1]⟩
abbrev S1x12 : Shape := ⟨2, ![1, 12]⟩
abbrev S2048x12 : Shape := ⟨2, ![2048, 12]⟩
abbrev S1x2048x1x12 : Shape := ⟨4, ![1, 2048, 1, 12]⟩
abbrev S32x2048x4x24 : Shape := ⟨4, ![32, 2048, 4, 24]⟩
abbrev S32x2048x4x12 : Shape := ⟨4, ![32, 2048, 4, 12]⟩
abbrev S32x2048x4x72 : Shape := ⟨4, ![32, 2048, 4, 72]⟩
abbrev S32x2048x4x128 : Shape := ⟨4, ![32, 2048, 4, 128]⟩
abbrev S65536x512 : Shape := ⟨2, ![65536, 512]⟩
abbrev S32x4x64x2048 : Shape := ⟨4, ![32, 4, 64, 2048]⟩
abbrev S32x4x1x2048 : Shape := ⟨4, ![32, 4, 1, 2048]⟩
abbrev S32x4x15x2048 : Shape := ⟨4, ![32, 4, 15, 2048]⟩
abbrev S32x4x80x2048 : Shape := ⟨4, ![32, 4, 80, 2048]⟩
abbrev S10240x2048 : Shape := ⟨2, ![10240, 2048]⟩

abbrev nBuf : Space → Nat
  | .hbm => 136
  | .vmem => 0
  | .smem => 0
  | _ => 0

abbrev hbmTy0_0 (i : Nat) : BufTy := match i % 128 with
  | 0 => ⟨S65536x1024, .f32⟩
  | 1 => ⟨S1024, .f32⟩
  | 2 => ⟨S1024x1920, .f32⟩
  | 3 => ⟨S65536x1024, .f32⟩
  | 4 => ⟨S_, .f32⟩
  | 5 => ⟨S65536, .f32⟩
  | 6 => ⟨S65536x1, .f32⟩
  | 7 => ⟨S_, .f32⟩
  | 8 => ⟨S65536x1, .f32⟩
  | 9 => ⟨S65536x1, .f32⟩
  | 10 => ⟨S_, .f32⟩
  | 11 => ⟨S65536x1, .f32⟩
  | 12 => ⟨S65536x1, .f32⟩
  | 13 => ⟨S65536x1, .f32⟩
  | 14 => ⟨S65536x1024, .f32⟩
  | 15 => ⟨S65536x1024, .f32⟩
  | 16 => ⟨S1x1024, .f32⟩
  | 17 => ⟨S65536x1024, .f32⟩
  | 18 => ⟨S65536x1024, .f32⟩
  | 19 => ⟨S65536x1920, .f32⟩
  | 20 => ⟨S65536x384, .f32⟩
  | 21 => ⟨S32x2048x4x96, .f32⟩
  | 22 => ⟨S65536x256, .f32⟩
  | 23 => ⟨S32x2048x4x64, .f32⟩
  | 24 => ⟨S65536x384, .f32⟩
  | 25 => ⟨S32x2048x4x96, .f32⟩
  | 26 => ⟨S65536x256, .f32⟩
  | 27 => ⟨S32x2048x4x64, .f32⟩
  | 28 => ⟨S65536x384, .f32⟩
  | 29 => ⟨S32x2048x4x96, .f32⟩
  | 30 => ⟨S65536x256, .f32⟩
  | 31 => ⟨S32x2048x4x64, .f32⟩
  | 32 => ⟨S65536x384, .f32⟩
  | 33 => ⟨S65536x256, .f32⟩
  | 34 => ⟨S12, .f32⟩
  | 35 => ⟨S12, .f32⟩
  | 36 => ⟨S_, .f32⟩
  | 37 => ⟨S12, .f32⟩
  | 38 => ⟨S12, .f32⟩
  | 39 => ⟨S_, .f32⟩
  | 40 => ⟨S12, .f32⟩
  | 41 => ⟨S12, .f32⟩
  | 42 => ⟨S_, .f32⟩
  | 43 => ⟨S12, .f32⟩
  | 44 => ⟨S12, .f32⟩
  | 45 => ⟨S2048, .f32⟩
  | 46 => ⟨S2048x1, .f32⟩
  | 47 => ⟨S1x12, .f32⟩
  | 48 => ⟨S2048x12, .f32⟩
  | 49 => ⟨S2048x12, .f32⟩
  | 50 => ⟨S2048x12, .f32⟩
  | 51 => ⟨S2048x12, .f32⟩
  | 52 => ⟨S1x2048x1x12, .f32⟩
  | 53 => ⟨S2048x12, .f32⟩
  | 54 => ⟨S1x2048x1x12, .f32⟩
  | 55 => ⟨S32x2048x4x24, .f32⟩
  | 56 => ⟨S32x2048x4x12, .f32⟩
  | 57 => ⟨S32x2048x4x12, .f32⟩
  | 58 => ⟨S32x2048x4x12, .f32⟩
  | 59 => ⟨S32x2048x4x12, .f32⟩
  | 60 => ⟨S32x2048x4x12, .f32⟩
  | 61 => ⟨S32x2048x4x12, .f32⟩
  | 62 => ⟨S32x2048x4x12, .f32⟩
  | 63 => ⟨S32x2048x4x12, .f32⟩
  | 64 => ⟨S32x2048x4x12, .f32⟩
  | 65 => ⟨S32x2048x4x12, .f32⟩
  | 66 => ⟨S32x2048x4x12, .f32⟩
  | 67 => ⟨S32x2048x4x12, .f32⟩
  | 68 => ⟨S32x2048x4x24, .f32⟩
  | 69 => ⟨S32x2048x4x72, .f32⟩
  | 70 => ⟨S32x2048x4x96, .f32⟩
  | 71 => ⟨S_, .i32⟩
  | 72 => ⟨S_, .f32⟩
  | 73 => ⟨S32x2048x4x128, .f32⟩
  | 74 => ⟨S65536x512, .f32⟩
  | 75 => ⟨S32x4x64x2048, .f32⟩
  | 76 => ⟨S_, .f32⟩
  | 77 => ⟨S32x4x1x2048, .f32⟩
  | 78 => ⟨S_, .f32⟩
  | 79 => ⟨S32x4x15x2048, .f32⟩
  | 80 => ⟨S32x4x80x2048, .f32⟩
  | 81 => ⟨S10240x2048, .f32⟩
  | 82 => ⟨S12, .f32⟩
  | 83 => ⟨S12, .f32⟩
  | 84 => ⟨S_, .f32⟩
  | 85 => ⟨S12, .f32⟩
  | 86 => ⟨S12, .f32⟩
  | 87 => ⟨S_, .f32⟩
  | 88 => ⟨S12, .f32⟩
  | 89 => ⟨S12, .f32⟩
  | 90 => ⟨S_, .f32⟩
  | 91 => ⟨S12, .f32⟩
  | 92 => ⟨S12, .f32⟩
  | 93 => ⟨S2048, .f32⟩
  | 94 => ⟨S2048x1, .f32⟩
  | 95 => ⟨S1x12, .f32⟩
  | 96 => ⟨S2048x12, .f32⟩
  | 97 => ⟨S2048x12, .f32⟩
  | 98 => ⟨S2048x12, .f32⟩
  | 99 => ⟨S2048x12, .f32⟩
  | 100 => ⟨S1x2048x1x12, .f32⟩
  | 101 => ⟨S2048x12, .f32⟩
  | 102 => ⟨S1x2048x1x12, .f32⟩
  | 103 => ⟨S32x2048x4x24, .f32⟩
  | 104 => ⟨S32x2048x4x12, .f32⟩
  | 105 => ⟨S32x2048x4x12, .f32⟩
  | 106 => ⟨S32x2048x4x12, .f32⟩
  | 107 => ⟨S32x2048x4x12, .f32⟩
  | 108 => ⟨S32x2048x4x12, .f32⟩
  | 109 => ⟨S32x2048x4x12, .f32⟩
  | 110 => ⟨S32x2048x4x12, .f32⟩
  | 111 => ⟨S32x2048x4x12, .f32⟩
  | 112 => ⟨S32x2048x4x12, .f32⟩
  | 113 => ⟨S32x2048x4x12, .f32⟩
  | 114 => ⟨S32x2048x4x12, .f32⟩
  | 115 => ⟨S32x2048x4x12, .f32⟩
  | 116 => ⟨S32x2048x4x24, .f32⟩
  | 117 => ⟨S32x2048x4x72, .f32⟩
  | 118 => ⟨S32x2048x4x96, .f32⟩
  | 119 => ⟨S_, .i32⟩
  | 120 => ⟨S_, .f32⟩
  | 121 => ⟨S32x2048x4x128, .f32⟩
  | 122 => ⟨S65536x512, .f32⟩
  | 123 => ⟨S32x4x64x2048, .f32⟩
  | 124 => ⟨S_, .f32⟩
  | 125 => ⟨S32x4x1x2048, .f32⟩
  | 126 => ⟨S_, .f32⟩
  | 127 => ⟨S32x4x15x2048, .f32⟩
  | _ => ⟨S65536x1024, .f32⟩

abbrev hbmTy0_1 (i : Nat) : BufTy := match i % 128 with
  | 0 => ⟨S32x4x80x2048, .f32⟩
  | 1 => ⟨S10240x2048, .f32⟩
  | 2 => ⟨S65536x384, .bf16⟩
  | 3 => ⟨S65536x256, .bf16⟩
  | 4 => ⟨S65536x512, .bf16⟩
  | 5 => ⟨S10240x2048, .bf16⟩
  | 6 => ⟨S65536x512, .bf16⟩
  | 7 => ⟨S10240x2048, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_c : Ref sig .tc := ⟨.hbm, 71, rfl⟩
abbrev main_call0_v0 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_c_10 : Ref sig .tc := ⟨.hbm, 119, rfl⟩
abbrev main_call1_v0 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_11 : Ref sig .tc := ⟨.hbm, 124, rfl⟩
abbrev main_v106 : Ref sig .tc := ⟨.hbm, 125, rfl⟩
abbrev main_cst_12 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩

abbrev nD : Nat := 1
abbrev τ : Topo := Topo.v7x

variable {F : FTy → Type} [FloatOps F]
-- ==== QProj.lean ====
abbrev S65536x1024 : Shape := ⟨2, ![65536, 1024]⟩
abbrev S1024 : Shape := ⟨1, ![1024]⟩
abbrev S1024x1584 : Shape := ⟨2, ![1024, 1584]⟩
abbrev S48 : Shape := ⟨1, ![48]⟩
abbrev S12 : Shape := ⟨1, ![12]⟩
abbrev S_ : Shape := ⟨0, ![]⟩
abbrev S2048 : Shape := ⟨1, ![2048]⟩
abbrev S2048x1 : Shape := ⟨2, ![2048, 1]⟩
abbrev S1x12 : Shape := ⟨2, ![1, 12]⟩
abbrev S2048x12 : Shape := ⟨2, ![2048, 12]⟩
abbrev S2048x104 : Shape := ⟨2, ![2048, 104]⟩
abbrev S2048x128 : Shape := ⟨2, ![2048, 128]⟩
abbrev S2048x116 : Shape := ⟨2, ![2048, 116]⟩
abbrev S1024x1536 : Shape := ⟨2, ![1024, 1536]⟩
abbrev S1024x16x96 : Shape := ⟨3, ![1024, 16, 96]⟩
abbrev S1024x16x128 : Shape := ⟨3, ![1024, 16, 128]⟩
abbrev S1024x2048 : Shape := ⟨2, ![1024, 2048]⟩
abbrev S1024x48 : Shape := ⟨2, ![1024, 48]⟩
abbrev S1024x128 : Shape := ⟨2, ![1024, 128]⟩
abbrev S1024x2176 : Shape := ⟨2, ![1024, 2176]⟩
abbrev S128 : Shape := ⟨1, ![128]⟩
abbrev S1x128 : Shape := ⟨2, ![1, 128]⟩
abbrev S1x1024 : Shape := ⟨2, ![1, 1024]⟩
abbrev S1048576x128 : Shape := ⟨2, ![1048576, 128]⟩
abbrev S65536x128 : Shape := ⟨2, ![65536, 128]⟩
abbrev S512x1024 : Shape := ⟨2, ![512, 1024]⟩
abbrev S512x128 : Shape := ⟨2, ![512, 128]⟩
abbrev S8192x128 : Shape := ⟨2, ![8192, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S256x128 : Shape := ⟨2, ![256, 128]⟩

abbrev nBuf : Space → Nat
  | .hbm => 55
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1584, .f32⟩
  | .hbm, ⟨3, _⟩ => ⟨S48, .f32⟩
  | .hbm, ⟨4, _⟩ => ⟨S12, .f32⟩
  | .hbm, ⟨5, _⟩ => ⟨S12, .f32⟩
  | .hbm, ⟨6, _⟩ => ⟨S_, .f32⟩
  | .hbm, ⟨7, _⟩ => ⟨S12, .f32⟩
  | .hbm, ⟨8, _⟩ => ⟨S12, .f32⟩
  | .hbm, ⟨9, _⟩ => ⟨S_, .f32⟩
  | .hbm, ⟨10, _⟩ => ⟨S12, .f32⟩
  | .hbm, ⟨11, _⟩ => ⟨S12, .f32⟩
  | .hbm, ⟨12, _⟩ => ⟨S_, .f32⟩
  | .hbm, ⟨13, _⟩ => ⟨S12, .f32⟩
  | .hbm, ⟨14, _⟩ => ⟨S12, .f32⟩
  | .hbm, ⟨15, _⟩ => ⟨S2048, .f32⟩
  | .hbm, ⟨16, _⟩ => ⟨S2048x1, .f32⟩
  | .hbm, ⟨17, _⟩ => ⟨S1x12, .f32⟩
  | .hbm, ⟨18, _⟩ => ⟨S2048x12, .f32⟩
  | .hbm, ⟨19, _⟩ => ⟨S2048x12, .f32⟩
  | .hbm, ⟨20, _⟩ => ⟨S2048x12, .f32⟩
  | .hbm, ⟨21, _⟩ => ⟨S2048x12, .f32⟩
  | .hbm, ⟨22, _⟩ => ⟨S2048x12, .f32⟩
  | .hbm, ⟨23, _⟩ => ⟨S_, .f32⟩
  | .hbm, ⟨24, _⟩ => ⟨S2048x104, .f32⟩
  | .hbm, ⟨25, _⟩ => ⟨S2048x128, .f32⟩
  | .hbm, ⟨26, _⟩ => ⟨S2048x12, .f32⟩
  | .hbm, ⟨27, _⟩ => ⟨S_, .f32⟩
  | .hbm, ⟨28, _⟩ => ⟨S2048x116, .f32⟩
  | .hbm, ⟨29, _⟩ => ⟨S2048x128, .f32⟩
  | .hbm, ⟨30, _⟩ => ⟨S_, .f32⟩
  | .hbm, ⟨31, _⟩ => ⟨S2048x12, .f32⟩
  | .hbm, ⟨32, _⟩ => ⟨S_, .f32⟩
  | .hbm, ⟨33, _⟩ => ⟨S2048x104, .f32⟩
  | .hbm, ⟨34, _⟩ => ⟨S2048x128, .f32⟩
  | .hbm, ⟨35, _⟩ => ⟨S1024x1536, .f32⟩
  | .hbm, ⟨36, _⟩ => ⟨S1024x16x96, .f32⟩
  | .hbm, ⟨37, _⟩ => ⟨S_, .i32⟩
  | .hbm, ⟨38, _⟩ => ⟨S_, .f32⟩
  | .hbm, ⟨39, _⟩ => ⟨S1024x16x128, .f32⟩
  | .hbm, ⟨40, _⟩ => ⟨S1024x2048, .f32⟩
  | .hbm, ⟨41, _⟩ => ⟨S1024x48, .f32⟩
  | .hbm, ⟨42, _⟩ => ⟨S_, .i32⟩
  | .hbm, ⟨43, _⟩ => ⟨S_, .f32⟩
  | .hbm, ⟨44, _⟩ => ⟨S1024x128, .f32⟩
  | .hbm, ⟨45, _⟩ => ⟨S1024x2176, .f32⟩
  | .hbm, ⟨46, _⟩ => ⟨S1024x2176, .bf16⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S1x1024, .f32⟩
  | .hbm, ⟨52, _⟩ => ⟨S1048576x128, .bf16⟩
  | .hbm, ⟨53, _⟩ => ⟨S1048576x128, .bf16⟩
  | .hbm, ⟨54, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S512x128, .f32⟩
  | .local _ .vmem, ⟨16, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QProjRefIdeal.lean ====
abbrev S65536x1024 : Shape := ⟨2, ![65536, 1024]⟩
abbrev S1024 : Shape := ⟨1, ![1024]⟩
abbrev S1024x1584 : Shape := ⟨2, ![1024, 1584]⟩
abbrev S48 : Shape := ⟨1, ![48]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1584 : Shape := ⟨2, ![65536, 1584]⟩
abbrev S65536x1536 : Shape := ⟨2, ![65536, 1536]⟩
abbrev S32x2048x16x96 : Shape := ⟨4, ![32, 2048, 16, 96]⟩
abbrev S65536x48 : Shape := ⟨2, ![65536, 48]⟩
abbrev S1x48 : Shape := ⟨2, ![1, 48]⟩
abbrev S65536x80 : Shape := ⟨2, ![65536, 80]⟩
abbrev S65536x128 : Shape := ⟨2, ![65536, 128]⟩
abbrev S32x2048x16x128 : Shape := ⟨4, ![32, 2048, 16, 128]⟩
abbrev S256x256x16x128 : Shape := ⟨4, ![256, 256, 16, 128]⟩
abbrev S256x16x256x128 : Shape := ⟨4, ![256, 16, 256, 128]⟩
abbrev S1048576x128 : Shape := ⟨2, ![1048576, 128]⟩
abbrev S12 : Shape := ⟨1, ![12]⟩
abbrev S2048 : Shape := ⟨1, ![2048]⟩
abbrev S2048x1 : Shape := ⟨2, ![2048, 1]⟩
abbrev S1x12 : Shape := ⟨2, ![1, 12]⟩
abbrev S2048x12 : Shape := ⟨2, ![2048, 12]⟩
abbrev S1x2048x1x12 : Shape := ⟨4, ![1, 2048, 1, 12]⟩
abbrev S32x2048x16x24 : Shape := ⟨4, ![32, 2048, 16, 24]⟩
abbrev S32x2048x16x12 : Shape := ⟨4, ![32, 2048, 16, 12]⟩
abbrev S32x2048x16x72 : Shape := ⟨4, ![32, 2048, 16, 72]⟩

abbrev nBuf : Space → Nat
  | .hbm => 92
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1584, .f32⟩
  | .hbm, ⟨3, _⟩ => ⟨S48, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x1584, .f32⟩
  | .hbm, ⟨21, _⟩ => ⟨S65536x1536, .f32⟩
  | .hbm, ⟨22, _⟩ => ⟨S_, .f32⟩
  | .hbm, ⟨23, _⟩ => ⟨S65536x1536, .f32⟩
  | .hbm, ⟨24, _⟩ => ⟨S65536x1536, .f32⟩
  | .hbm, ⟨25, _⟩ => ⟨S32x2048x16x96, .f32⟩
  | .hbm, ⟨26, _⟩ => ⟨S65536x48, .f32⟩
  | .hbm, ⟨27, _⟩ => ⟨S1x48, .f32⟩
  | .hbm, ⟨28, _⟩ => ⟨S65536x48, .f32⟩
  | .hbm, ⟨29, _⟩ => ⟨S65536x48, .f32⟩
  | .hbm, ⟨30, _⟩ => ⟨S65536x48, .f32⟩
  | .hbm, ⟨31, _⟩ => ⟨S65536x48, .f32⟩
  | .hbm, ⟨32, _⟩ => ⟨S_, .f32⟩
  | .hbm, ⟨33, _⟩ => ⟨S65536x48, .f32⟩
  | .hbm, ⟨34, _⟩ => ⟨S65536x48, .f32⟩
  | .hbm, ⟨35, _⟩ => ⟨S_, .f32⟩
  | .hbm, ⟨36, _⟩ => ⟨S65536x48, .f32⟩
  | .hbm, ⟨37, _⟩ => ⟨S65536x48, .f32⟩
  | .hbm, ⟨38, _⟩ => ⟨S_, .f32⟩
  | .hbm, ⟨39, _⟩ => ⟨S65536x80, .f32⟩
  | .hbm, ⟨40, _⟩ => ⟨S65536x128, .f32⟩
  | .hbm, ⟨41, _⟩ => ⟨S_, .i32⟩
  | .hbm, ⟨42, _⟩ => ⟨S_, .f32⟩
  | .hbm, ⟨43, _⟩ => ⟨S32x2048x16x128, .f32⟩
  | .hbm, ⟨44, _⟩ => ⟨S256x256x16x128, .f32⟩
  | .hbm, ⟨45, _⟩ => ⟨S256x16x256x128, .f32⟩
  | .hbm, ⟨46, _⟩ => ⟨S1048576x128, .f32⟩
  | .hbm, ⟨47, _⟩ => ⟨S1048576x128, .bf16⟩
  | .hbm, ⟨48, _⟩ => ⟨S12, .f32⟩
  | .hbm, ⟨49, _⟩ => ⟨S12, .f32⟩
  | .hbm, ⟨50, _⟩ => ⟨S_, .f32⟩
  | .hbm, ⟨51, _⟩ => ⟨S12, .f32⟩
  | .hbm, ⟨52, _⟩ => ⟨S12, .f32⟩
  | .hbm, ⟨53, _⟩ => ⟨S_, .f32⟩
  | .hbm, ⟨54, _⟩ => ⟨S12, .f32⟩
  | .hbm, ⟨55, _⟩ => ⟨S12, .f32⟩
  | .hbm, ⟨56, _⟩ => ⟨S_, .f32⟩
  | .hbm, ⟨57, _⟩ => ⟨S12, .f32⟩
  | .hbm, ⟨58, _⟩ => ⟨S12, .f32⟩
  | .hbm, ⟨59, _⟩ => ⟨S2048, .f32⟩
  | .hbm, ⟨60, _⟩ => ⟨S2048x1, .f32⟩
  | .hbm, ⟨61, _⟩ => ⟨S1x12, .f32⟩
  | .hbm, ⟨62, _⟩ => ⟨S2048x12, .f32⟩
  | .hbm, ⟨63, _⟩ => ⟨S2048x12, .f32⟩
  | .hbm, ⟨64, _⟩ => ⟨S2048x12, .f32⟩
  | .hbm, ⟨65, _⟩ => ⟨S2048x12, .f32⟩
  | .hbm, ⟨66, _⟩ => ⟨S1x2048x1x12, .f32⟩
  | .hbm, ⟨67, _⟩ => ⟨S2048x12, .f32⟩
  | .hbm, ⟨68, _⟩ => ⟨S1x2048x1x12, .f32⟩
  | .hbm, ⟨69, _⟩ => ⟨S32x2048x16x24, .f32⟩
  | .hbm, ⟨70, _⟩ => ⟨S32x2048x16x12, .f32⟩
  | .hbm, ⟨71, _⟩ => ⟨S32x2048x16x12, .f32⟩
  | .hbm, ⟨72, _⟩ => ⟨S32x2048x16x12, .f32⟩
  | .hbm, ⟨73, _⟩ => ⟨S32x2048x16x12, .f32⟩
  | .hbm, ⟨74, _⟩ => ⟨S32x2048x16x12, .f32⟩
  | .hbm, ⟨75, _⟩ => ⟨S32x2048x16x12, .f32⟩
  | .hbm, ⟨76, _⟩ => ⟨S32x2048x16x12, .f32⟩
  | .hbm, ⟨77, _⟩ => ⟨S32x2048x16x12, .f32⟩
  | .hbm, ⟨78, _⟩ => ⟨S32x2048x16x12, .f32⟩
  | .hbm, ⟨79, _⟩ => ⟨S32x2048x16x12, .f32⟩
  | .hbm, ⟨80, _⟩ => ⟨S32x2048x16x12, .f32⟩
  | .hbm, ⟨81, _⟩ => ⟨S32x2048x16x12, .f32⟩
  | .hbm, ⟨82, _⟩ => ⟨S32x2048x16x24, .f32⟩
  | .hbm, ⟨83, _⟩ => ⟨S32x2048x16x72, .f32⟩
  | .hbm, ⟨84, _⟩ => ⟨S32x2048x16x96, .f32⟩
  | .hbm, ⟨85, _⟩ => ⟨S_, .i32⟩
  | .hbm, ⟨86, _⟩ => ⟨S_, .f32⟩
  | .hbm, ⟨87, _⟩ => ⟨S32x2048x16x128, .f32⟩
  | .hbm, ⟨88, _⟩ => ⟨S256x256x16x128, .f32⟩
  | .hbm, ⟨89, _⟩ => ⟨S256x16x256x128, .f32⟩
  | .hbm, ⟨90, _⟩ => ⟨S1048576x128, .f32⟩
  | .hbm, ⟨91, _⟩ => ⟨S1048576x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_9 : Ref sig .tc := ⟨.hbm, 85, rfl⟩
abbrev main_call1_v0 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== CmpKeys.lean ====
abbrev S65536x384 : Shape := ⟨2, ![65536, 384]⟩
abbrev S32x96 : Shape := ⟨2, ![32, 96]⟩
abbrev S3072x256 : Shape := ⟨2, ![3072, 256]⟩
abbrev S256x96 : Shape := ⟨2, ![256, 96]⟩
abbrev S32x2048x4x96 : Shape := ⟨4, ![32, 2048, 4, 96]⟩
abbrev S32x4x2048x96 : Shape := ⟨4, ![32, 4, 2048, 96]⟩
abbrev S16384x1536 : Shape := ⟨2, ![16384, 1536]⟩
abbrev S2x1536 : Shape := ⟨2, ![2, 1536]⟩
abbrev S2x1536x256 : Shape := ⟨3, ![2, 1536, 256]⟩
abbrev S_ : Shape := ⟨0, ![]⟩
abbrev S256x128 : Shape := ⟨2, ![256, 128]⟩
abbrev S16384x128 : Shape := ⟨2, ![16384, 128]⟩
abbrev S1024x1536 : Shape := ⟨2, ![1024, 1536]⟩
abbrev S1024x128 : Shape := ⟨2, ![1024, 128]⟩
abbrev S1x1536 : Shape := ⟨2, ![1, 1536]⟩
abbrev S1x1536x256 : Shape := ⟨3, ![1, 1536, 256]⟩
abbrev S1536x256 : Shape := ⟨2, ![1536, 256]⟩
abbrev S1024x256 : Shape := ⟨2, ![1024, 256]⟩

abbrev nBuf : Space → Nat
  | .hbm => 15
  | .vmem => 7
  | .smem => 0
  | _ => 0

abbrev bufTy : (tb : Table) → Fin (tcTables nBuf tb) → BufTy
  | .hbm, ⟨0, _⟩ => ⟨S65536x384, .bf16⟩
  | .hbm, ⟨1, _⟩ => ⟨S32x96, .f32⟩
  | .hbm, ⟨2, _⟩ => ⟨S3072x256, .f32⟩
  | .hbm, ⟨3, _⟩ => ⟨S256x96, .f32⟩
  | .hbm, ⟨4, _⟩ => ⟨S32x2048x4x96, .bf16⟩
  | .hbm, ⟨5, _⟩ => ⟨S32x4x2048x96, .bf16⟩
  | .hbm, ⟨6, _⟩ => ⟨S16384x1536, .bf16⟩
  | .hbm, ⟨7, _⟩ => ⟨S2x1536, .f32⟩
  | .hbm, ⟨8, _⟩ => ⟨S2x1536x256, .f32⟩
  | .hbm, ⟨9, _⟩ => ⟨S2x1536x256, .bf16⟩
  | .hbm, ⟨10, _⟩ => ⟨S_, .i32⟩
  | .hbm, ⟨11, _⟩ => ⟨S_, .f32⟩
  | .hbm, ⟨12, _⟩ => ⟨S256x128, .f32⟩
  | .hbm, ⟨13, _⟩ => ⟨S256x128, .bf16⟩
  | .hbm, ⟨14, _⟩ => ⟨S16384x128, .bf16⟩
  | .local _ .vmem, ⟨0, _⟩ => ⟨S1024x1536, .bf16⟩
  | .local _ .vmem, ⟨1, _⟩ => ⟨S1024x1536, .bf16⟩
  | .local _ .vmem, ⟨2, _⟩ => ⟨S2x1536, .f32⟩
  | .local _ .vmem, ⟨3, _⟩ => ⟨S2x1536x256, .bf16⟩
  | .local _ .vmem, ⟨4, _⟩ => ⟨S256x128, .bf16⟩
  | .local _ .vmem, ⟨5, _⟩ => ⟨S1024x128, .bf16⟩
  | .local _ .vmem, ⟨6, _⟩ => ⟨S1024x128, .bf16⟩
  | _, _ => ⟨S65536x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1536x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CmpKeysRefIdeal.lean ====
abbrev S65536x384 : Shape := ⟨2, ![65536, 384]⟩
abbrev S32x96 : Shape := ⟨2, ![32, 96]⟩
abbrev S3072x256 : Shape := ⟨2, ![3072, 256]⟩
abbrev S256x96 : Shape := ⟨2, ![256, 96]⟩
abbrev S32x128x16x384 : Shape := ⟨4, ![32, 128, 16, 384]⟩
abbrev S32x127x16x384 : Shape := ⟨4, ![32, 127, 16, 384]⟩
abbrev S32x127x32x384 : Shape := ⟨4, ![32, 127, 32, 384]⟩
abbrev S4064x32x4x96 : Shape := ⟨4, ![4064, 32, 4, 96]⟩
abbrev S1x32x1x96 : Shape := ⟨4, ![1, 32, 1, 96]⟩
abbrev S4064x4x32x96 : Shape := ⟨4, ![4064, 4, 32, 96]⟩
abbrev S4064x4x3072 : Shape := ⟨3, ![4064, 4, 3072]⟩
abbrev S4064x4x256 : Shape := ⟨3, ![4064, 4, 256]⟩
abbrev S_ : Shape := ⟨0, ![]⟩
abbrev S4064x4x96 : Shape := ⟨3, ![4064, 4, 96]⟩
abbrev S32x127x4x96 : Shape := ⟨4, ![32, 127, 4, 96]⟩
abbrev S32x4x127x96 : Shape := ⟨4, ![32, 4, 127, 96]⟩
abbrev S32x4x128x128 : Shape := ⟨4, ![32, 4, 128, 128]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S65536x384, .bf16⟩
  | .hbm, ⟨1, _⟩ => ⟨S32x96, .f32⟩
  | .hbm, ⟨2, _⟩ => ⟨S3072x256, .f32⟩
  | .hbm, ⟨3, _⟩ => ⟨S256x96, .f32⟩
  | .hbm, ⟨4, _⟩ => ⟨S32x128x16x384, .bf16⟩
  | .hbm, ⟨5, _⟩ => ⟨S32x127x16x384, .bf16⟩
  | .hbm, ⟨6, _⟩ => ⟨S32x127x16x384, .bf16⟩
  | .hbm, ⟨7, _⟩ => ⟨S32x127x32x384, .bf16⟩
  | .hbm, ⟨8, _⟩ => ⟨S4064x32x4x96, .bf16⟩
  | .hbm, ⟨9, _⟩ => ⟨S1x32x1x96, .f32⟩
  | .hbm, ⟨10, _⟩ => ⟨S4064x32x4x96, .f32⟩
  | .hbm, ⟨11, _⟩ => ⟨S4064x32x4x96, .f32⟩
  | .hbm, ⟨12, _⟩ => ⟨S4064x32x4x96, .f32⟩
  | .hbm, ⟨13, _⟩ => ⟨S4064x4x32x96, .f32⟩
  | .hbm, ⟨14, _⟩ => ⟨S4064x4x3072, .f32⟩
  | .hbm, ⟨15, _⟩ => ⟨S4064x4x256, .f32⟩
  | .hbm, ⟨16, _⟩ => ⟨S4064x4x256, .f32⟩
  | .hbm, ⟨17, _⟩ => ⟨S4064x4x256, .f32⟩
  | .hbm, ⟨18, _⟩ => ⟨S_, .f32⟩
  | .hbm, ⟨19, _⟩ => ⟨S4064x4x256, .f32⟩
  | .hbm, ⟨20, _⟩ => ⟨S4064x4x256, .f32⟩
  | .hbm, ⟨21, _⟩ => ⟨S4064x4x256, .f32⟩
  | .hbm, ⟨22, _⟩ => ⟨S_, .f32⟩
  | .hbm, ⟨23, _⟩ => ⟨S4064x4x256, .f32⟩
  | .hbm, ⟨24, _⟩ => ⟨S4064x4x256, .f32⟩
  | .hbm, ⟨25, _⟩ => ⟨S4064x4x256, .f32⟩
  | .hbm, ⟨26, _⟩ => ⟨S_, .f32⟩
  | .hbm, ⟨27, _⟩ => ⟨S4064x4x256, .f32⟩
  | .hbm, ⟨28, _⟩ => ⟨S4064x4x256, .f32⟩
  | .hbm, ⟨29, _⟩ => ⟨S_, .f32⟩
  | .hbm, ⟨30, _⟩ => ⟨S4064x4x256, .f32⟩
  | .hbm, ⟨31, _⟩ => ⟨S4064x4x256, .f32⟩
  | .hbm, ⟨32, _⟩ => ⟨S4064x4x256, .f32⟩
  | .hbm, ⟨33, _⟩ => ⟨S4064x4x96, .f32⟩
  | .hbm, ⟨34, _⟩ => ⟨S32x127x4x96, .f32⟩
  | .hbm, ⟨35, _⟩ => ⟨S32x4x127x96, .f32⟩
  | .hbm, ⟨36, _⟩ => ⟨S_, .i32⟩
  | .hbm, ⟨37, _⟩ => ⟨S_, .f32⟩
  | .hbm, ⟨38, _⟩ => ⟨S32x4x128x128, .f32⟩
  | .hbm, ⟨39, _⟩ => ⟨S16384x128, .f32⟩
  | .hbm, ⟨40, _⟩ => ⟨S16384x128, .bf16⟩
  | _, _ => ⟨S65536x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== CmpValues.lean ====
abbrev S65536x256 : Shape := ⟨2, ![65536, 256]⟩
abbrev S32x64 : Shape := ⟨2, ![32, 64]⟩
abbrev S2048x256 : Shape := ⟨2, ![2048, 256]⟩
abbrev S256x64 : Shape := ⟨2, ![256, 64]⟩
abbrev S32x2048x4x64 : Shape := ⟨4, ![32, 2048, 4, 64]⟩
abbrev S32x4x2048x64 : Shape := ⟨4, ![32, 4, 2048, 64]⟩
abbrev S16384x1024 : Shape := ⟨2, ![16384, 1024]⟩
abbrev S2x1024 : Shape := ⟨2, ![2, 1024]⟩
abbrev S2x1024x256 : Shape := ⟨3, ![2, 1024, 256]⟩
abbrev S16384x64 : Shape := ⟨2, ![16384, 64]⟩
abbrev S1024x1024 : Shape := ⟨2, ![1024, 1024]⟩
abbrev S1024x64 : Shape := ⟨2, ![1024, 64]⟩
abbrev S1x1024 : Shape := ⟨2, ![1, 1024]⟩
abbrev S1x1024x256 : Shape := ⟨3, ![1, 1024, 256]⟩
abbrev S1024x256 : Shape := ⟨2, ![1024, 256]⟩

abbrev nBuf : Space → Nat
  | .hbm => 12
  | .vmem => 7
  | .smem => 0
  | _ => 0

abbrev bufTy : (tb : Table) → Fin (tcTables nBuf tb) → BufTy
  | .hbm, ⟨0, _⟩ => ⟨S65536x256, .bf16⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x2048x4x64, .bf16⟩
  | .hbm, ⟨5, _⟩ => ⟨S32x4x2048x64, .bf16⟩
  | .hbm, ⟨6, _⟩ => ⟨S16384x1024, .bf16⟩
  | .hbm, ⟨7, _⟩ => ⟨S2x1024, .f32⟩
  | .hbm, ⟨8, _⟩ => ⟨S2x1024x256, .f32⟩
  | .hbm, ⟨9, _⟩ => ⟨S2x1024x256, .bf16⟩
  | .hbm, ⟨10, _⟩ => ⟨S256x64, .bf16⟩
  | .hbm, ⟨11, _⟩ => ⟨S16384x64, .bf16⟩
  | .local _ .vmem, ⟨0, _⟩ => ⟨S1024x1024, .bf16⟩
  | .local _ .vmem, ⟨1, _⟩ => ⟨S1024x1024, .bf16⟩
  | .local _ .vmem, ⟨2, _⟩ => ⟨S2x1024, .f32⟩
  | .local _ .vmem, ⟨3, _⟩ => ⟨S2x1024x256, .bf16⟩
  | .local _ .vmem, ⟨4, _⟩ => ⟨S256x64, .bf16⟩
  | .local _ .vmem, ⟨5, _⟩ => ⟨S1024x64, .bf16⟩
  | .local _ .vmem, ⟨6, _⟩ => ⟨S1024x64, .bf16⟩
  | _, _ => ⟨S65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CmpValuesRefIdeal.lean ====
abbrev S65536x256 : Shape := ⟨2, ![65536, 256]⟩
abbrev S32x64 : Shape := ⟨2, ![32, 64]⟩
abbrev S2048x256 : Shape := ⟨2, ![2048, 256]⟩
abbrev S256x64 : Shape := ⟨2, ![256, 64]⟩
abbrev S32x128x16x256 : Shape := ⟨4, ![32, 128, 16, 256]⟩
abbrev S32x127x16x256 : Shape := ⟨4, ![32, 127, 16, 256]⟩
abbrev S32x127x32x256 : Shape := ⟨4, ![32, 127, 32, 256]⟩
abbrev S4064x32x4x64 : Shape := ⟨4, ![4064, 32, 4, 64]⟩
abbrev S1x32x1x64 : Shape := ⟨4, ![1, 32, 1, 64]⟩
abbrev S4064x4x32x64 : Shape := ⟨4, ![4064, 4, 32, 64]⟩
abbrev S4064x4x2048 : Shape := ⟨3, ![4064, 4, 2048]⟩
abbrev S4064x4x256 : Shape := ⟨3, ![4064, 4, 256]⟩
abbrev S_ : Shape := ⟨0, ![]⟩
abbrev S4064x4x64 : Shape := ⟨3, ![4064, 4, 64]⟩
abbrev S32x127x4x64 : Shape := ⟨4, ![32, 127, 4, 64]⟩
abbrev S32x4x127x64 : Shape := ⟨4, ![32, 4, 127, 64]⟩
abbrev S32x4x128x64 : Shape := ⟨4, ![32, 4, 128, 64]⟩
abbrev S16384x64 : Shape := ⟨2, ![16384, 64]⟩

abbrev nBuf : Space → Nat
  | .hbm => 41
  | .vmem => 0
  | .smem => 0
  | _ => 0

abbrev bufTy : (tb : Table) → Fin (tcTables nBuf tb) → BufTy
  | .hbm, ⟨0, _⟩ => ⟨S65536x256, .bf16⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x128x16x256, .bf16⟩
  | .hbm, ⟨5, _⟩ => ⟨S32x127x16x256, .bf16⟩
  | .hbm, ⟨6, _⟩ => ⟨S32x127x16x256, .bf16⟩
  | .hbm, ⟨7, _⟩ => ⟨S32x127x32x256, .bf16⟩
  | .hbm, ⟨8, _⟩ => ⟨S4064x32x4x64, .bf16⟩
  | .hbm, ⟨9, _⟩ => ⟨S1x32x1x64, .f32⟩
  | .hbm, ⟨10, _⟩ => ⟨S4064x32x4x64, .f32⟩
  | .hbm, ⟨11, _⟩ => ⟨S4064x32x4x64, .f32⟩
  | .hbm, ⟨12, _⟩ => ⟨S4064x32x4x64, .f32⟩
  | .hbm, ⟨13, _⟩ => ⟨S4064x4x32x64, .f32⟩
  | .hbm, ⟨14, _⟩ => ⟨S4064x4x2048, .f32⟩
  | .hbm, ⟨15, _⟩ => ⟨S4064x4x256, .f32⟩
  | .hbm, ⟨16, _⟩ => ⟨S4064x4x256, .f32⟩
  | .hbm, ⟨17, _⟩ => ⟨S4064x4x256, .f32⟩
  | .hbm, ⟨18, _⟩ => ⟨S_, .f32⟩
  | .hbm, ⟨19, _⟩ => ⟨S4064x4x256, .f32⟩
  | .hbm, ⟨20, _⟩ => ⟨S4064x4x256, .f32⟩
  | .hbm, ⟨21, _⟩ => ⟨S4064x4x256, .f32⟩
  | .hbm, ⟨22, _⟩ => ⟨S_, .f32⟩
  | .hbm, ⟨23, _⟩ => ⟨S4064x4x256, .f32⟩
  | .hbm, ⟨24, _⟩ => ⟨S4064x4x256, .f32⟩
  | .hbm, ⟨25, _⟩ => ⟨S4064x4x256, .f32⟩
  | .hbm, ⟨26, _⟩ => ⟨S_, .f32⟩
  | .hbm, ⟨27, _⟩ => ⟨S4064x4x256, .f32⟩
  | .hbm, ⟨28, _⟩ => ⟨S4064x4x256, .f32⟩
  | .hbm, ⟨29, _⟩ => ⟨S_, .f32⟩
  | .hbm, ⟨30, _⟩ => ⟨S4064x4x256, .f32⟩
  | .hbm, ⟨31, _⟩ => ⟨S4064x4x256, .f32⟩
  | .hbm, ⟨32, _⟩ => ⟨S4064x4x256, .f32⟩
  | .hbm, ⟨33, _⟩ => ⟨S4064x4x64, .f32⟩
  | .hbm, ⟨34, _⟩ => ⟨S32x127x4x64, .f32⟩
  | .hbm, ⟨35, _⟩ => ⟨S32x4x127x64, .f32⟩
  | .hbm, ⟨36, _⟩ => ⟨S_, .i32⟩
  | .hbm, ⟨37, _⟩ => ⟨S_, .f32⟩
  | .hbm, ⟨38, _⟩ => ⟨S32x4x128x64, .f32⟩
  | .hbm, ⟨39, _⟩ => ⟨S16384x64, .f32⟩
  | .hbm, ⟨40, _⟩ => ⟨S16384x64, .bf16⟩
  | _, _ => ⟨S65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.NsaKernelIdealLoops.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The invariant of counted loop 1, at fixed values of the operands that its region does not read. -/
@[sl_loop, instance_reducible] def loop1 (𝒱 : Variants) (c : Dev nD) (bd : Option 𝒱.V) (E : Set ℕ) (i : grid0.Coords) (arg2 : Memref sig .tc .vmem S4096x128 .bf16) (harg2 : arg2.IsWhole) (arg3 : Memref sig .tc .vmem S4096x128 .bf16) (harg3 : arg3.IsWhole) (arg4 : Memref sig .tc .vmem S256x128 .f32) (harg4 : arg4.IsWhole) (arg5 : Memref sig .tc .vmem S512x128 .bf16) (harg5 : arg5.IsWhole) (arg6 : Memref sig .tc .vmem S256x128 .bf16) (harg6 : arg6.IsWhole) (arg7 : Memref sig .tc .vmem S2048x512 .bf16) (harg7 : arg7.IsWhole) (arg8 : Memref sig .tc .vmem S320x2048 .bf16) (harg8 : arg8.IsWhole) (arg9 : Memref sig .tc .vmem S2048x512 .bf16) (harg9 : arg9.IsWhole) (arg10 : Memref sig .tc .vmem S320x2048 .bf16) (harg10 : arg10.IsWhole) (arg11 : Memref sig .tc .vmem S256x1024 .f32) (harg11 : arg11.IsWhole) (arg12 : Memref sig .tc .vmem S1024x1024 .bf16) (harg12 : arg12.IsWhole) (arg13 : Memref sig .tc .vmem S32x128 .f32) (harg13 : arg13.IsWhole) (arg14 : Memref sig .tc .vmem S5x256x256 .f32) (harg14 : arg14.IsWhole) (arg15 : Memref sig .tc .vmem S256x1024 .f32) (harg15 : arg15.IsWhole) (arg16 : Memref sig .tc .vmem S128x256 .f32) (harg16 : arg16.IsWhole) (arg17 : Memref sig .tc .vmem S1024x256 .f32) (harg17 : arg17.IsWhole) (arg18 : Memref sig .tc .vmem S1024x1024 .f32) (harg18 : arg18.IsWhole) (arg19 : Memref sig .tc .vmem S1024x1024 .f32) (harg19 : arg19.IsWhole) (arg1 : BitVec 32) (X_arg3 : BufTy.Contents (Elt F) arg3.view.ty) (X_arg7 : BufTy.Contents (Elt F) arg7.view.ty) (X_arg8 : BufTy.Contents (Elt F) arg8.view.ty) (X_arg14 : BufTy.Contents (Elt F) arg14.view.ty) (X_arg16 : BufTy.Contents (Elt F) arg16.view.ty) (G_arg18 : BufTy.Contents (Elt F) arg18.view.ty) (G_arg19 : BufTy.Contents (Elt F) arg19.view.ty) (init : FVec F S1x1024 .f32 × FVec F S1x1024 .f32 × FVec F S1x1024 .f32 × FVec F S1x1024 .f32 × FVec F S1x1024 .f32 × FVec F S1x1024 .f32 × FVec F S1x1024 .f32 × FVec F S1x1024 .f32 × FVec F S80x1024 .f32 × FVec F S80x1024 .f32 × FVec F S80x1024 .f32 × FVec F S80x1024 .f32) :=
  loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (constant S1x1024 .f32 0#32) (constant S1x1024 .f32 0#32) (constant S1x1024 .f32 0#32) (constant S1x1024 .f32 0#32) (constant S80x1024 .f32 0#32) (constant S80x1024 .f32 0#32) (constant S80x1024 .f32 0#32) (constant S80x1024 .f32 0#32) (constant S1x1024 .f32 0#32) (constant S1x1024 .f32 0#32) (constant S1x1024 .f32 0#32) (constant S256x1024 .f32 0#32) (constant S256x1024 .f32 0#32) X_arg3 X_arg7 X_arg8 X_arg14 X_arg16 G_arg18 G_arg19 init

/-- The invariant of counted loop 2, at fixed values of the operands that its region does not read. -/
@[sl_loop, instance_reducible] def loop2 (𝒱 : Variants) (c : Dev nD) (bd : Option 𝒱.V) (E : Set ℕ) (i : grid0.Coords) (arg2 : Memref sig .tc .vmem S4096x128 .bf16) (harg2 : arg2.IsWhole) (arg3 : Memref sig .tc .vmem S4096x128 .bf16) (harg3 : arg3.IsWhole) (arg4 : Memref sig .tc .vmem S256x128 .f32) (harg4 : arg4.IsWhole) (arg5 : Memref sig .tc .vmem S512x128 .bf16) (harg5 : arg5.IsWhole) (arg6 : Memref sig .tc .vmem S256x128 .bf16) (harg6 : arg6.IsWhole) (arg7 : Memref sig .tc .vmem S2048x512 .bf16) (harg7 : arg7.IsWhole) (arg8 : Memref sig .tc .vmem S320x2048 .bf16) (harg8 : arg8.IsWhole) (arg9 : Memref sig .tc .vmem S2048x512 .bf16) (harg9 : arg9.IsWhole) (arg10 : Memref sig .tc .vmem S320x2048 .bf16) (harg10 : arg10.IsWhole) (arg11 : Memref sig .tc .vmem S256x1024 .f32) (harg11 : arg11.IsWhole) (arg12 : Memref sig .tc .vmem S1024x1024 .bf16) (harg12 : arg12.IsWhole) (arg13 : Memref sig .tc .vmem S32x128 .f32) (harg13 : arg13.IsWhole) (arg14 : Memref sig .tc .vmem S5x256x256 .f32) (harg14 : arg14.IsWhole) (arg15 : Memref sig .tc .vmem S256x1024 .f32) (harg15 : arg15.IsWhole) (arg16 : Memref sig .tc .vmem S128x256 .f32) (harg16 : arg16.IsWhole) (arg17 : Memref sig .tc .vmem S1024x256 .f32) (harg17 : arg17.IsWhole) (arg18 : Memref sig .tc .vmem S1024x1024 .f32) (harg18 : arg18.IsWhole) (arg19 : Memref sig .tc .vmem S1024x1024 .f32) (harg19 : arg19.IsWhole) (arg1 : BitVec 32) (v2112 : BitVec 32) (X_arg3 : BufTy.Contents (Elt F) arg3.view.ty) (X_arg7 : BufTy.Contents (Elt F) arg7.view.ty) (X_arg8 : BufTy.Contents (Elt F) arg8.view.ty) (X_arg14 : BufTy.Contents (Elt F) arg14.view.ty) (X_arg16 : BufTy.Contents (Elt F) arg16.view.ty) (G_arg18 : BufTy.Contents (Elt F) arg18.view.ty) (G_arg19 : BufTy.Contents (Elt F) arg19.view.ty) (init : FVec F S1x1024 .f32 × FVec F S1x1024 .f32 × FVec F S1x1024 .f32 × FVec F S1x1024 .f32 × FVec F S1x1024 .f32 × FVec F S1x1024 .f32 × FVec F S1x1024 .f32 × FVec F S1x1024 .f32 × FVec F S80x1024 .f32 × FVec F S80x1024 .f32 × FVec F S80x1024 .f32 × FVec F S80x1024 .f32) :=
  loopInv_k0_t2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (constant S1x1024 .f32 0#32) (constant S1x1024 .f32 0#32) (constant S1x1024 .f32 0#32) (constant S1x1024 .f32 0#32) (constant S80x1024 .f32 0#32) (constant S80x1024 .f32 0#32) (constant S80x1024 .f32 0#32) (constant S80x1024 .f32 0#32) (constant S1x1024 .f32 0#32) (constant S1x1024 .f32 0#32) (constant S1x1024 .f32 0#32) (constant S256x1024 .f32 0#32) (constant S256x1024 .f32 0#32) v2112 X_arg3 X_arg7 X_arg8 X_arg14 X_arg16 G_arg18 G_arg19 init

/-- The row of the selection table that the odd tail reads, in closed form. -/
theorem off32_closed : ∀ (n : Fin 8) (i : grid0.Coords), (i 1).val = n.val → ∀ (r₁ r₂ : Fin 4), k0_off32 i (BitVec.ofNat 32 (32 * r₁.val)) (BitVec.ofNat 32 r₂.val) = ![8 * (n.val / 2) + 4 + 32 * r₁.val + r₂.val, 0] := by
  intro n i h r₁ r₂
  unfold k0_off32
  rw [h]
  clear h
  revert n r₁ r₂
  decide +kernel

instance closed32_00 (i : grid0.Coords) : ClosedOff (k0_off32 i 0#32 0#32) := ⟨![8 * ((i 1).val / 2) + 4, 0], by simpa [Nat.add_assoc] using off32_closed (i 1) i rfl 0 0⟩
instance closed32_01 (i : grid0.Coords) : ClosedOff (k0_off32 i 0#32 1#32) := ⟨![8 * ((i 1).val / 2) + 5, 0], by simpa [Nat.add_assoc] using off32_closed (i 1) i rfl 0 1⟩
instance closed32_02 (i : grid0.Coords) : ClosedOff (k0_off32 i 0#32 2#32) := ⟨![8 * ((i 1).val / 2) + 6, 0], by simpa [Nat.add_assoc] using off32_closed (i 1) i rfl 0 2⟩
instance closed32_03 (i : grid0.Coords) : ClosedOff (k0_off32 i 0#32 3#32) := ⟨![8 * ((i 1).val / 2) + 7, 0], by simpa [Nat.add_assoc] using off32_closed (i 1) i rfl 0 3⟩
instance closed32_10 (i : grid0.Coords) : ClosedOff (k0_off32 i 32#32 0#32) := ⟨![8 * ((i 1).val / 2) + 36, 0], by simpa [Nat.add_assoc] using off32_closed (i 1) i rfl 1 0⟩
instance closed32_11 (i : grid0.Coords) : ClosedOff (k0_off32 i 32#32 1#32) := ⟨![8 * ((i 1).val / 2) + 37, 0], by simpa [Nat.add_assoc] using off32_closed (i 1) i rfl 1 1⟩
instance closed32_12 (i : grid0.Coords) : ClosedOff (k0_off32 i 32#32 2#32) := ⟨![8 * ((i 1).val / 2) + 38, 0], by simpa [Nat.add_assoc] using off32_closed (i 1) i rfl 1 2⟩
instance closed32_13 (i : grid0.Coords) : ClosedOff (k0_off32 i 32#32 3#32) := ⟨![8 * ((i 1).val / 2) + 39, 0], by simpa [Nat.add_assoc] using off32_closed (i 1) i rfl 1 3⟩
instance closed32_20 (i : grid0.Coords) : ClosedOff (k0_off32 i 64#32 0#32) := ⟨![8 * ((i 1).val / 2) + 68, 0], by simpa [Nat.add_assoc] using off32_closed (i 1) i rfl 2 0⟩
instance closed32_21 (i : grid0.Coords) : ClosedOff (k0_off32 i 64#32 1#32) := ⟨![8 * ((i 1).val / 2) + 69, 0], by simpa [Nat.add_assoc] using off32_closed (i 1) i rfl 2 1⟩
instance closed32_22 (i : grid0.Coords) : ClosedOff (k0_off32 i 64#32 2#32) := ⟨![8 * ((i 1).val / 2) + 70, 0], by simpa [Nat.add_assoc] using off32_closed (i 1) i rfl 2 2⟩
instance closed32_23 (i : grid0.Coords) : ClosedOff (k0_off32 i 64#32 3#32) := ⟨![8 * ((i 1).val / 2) + 71, 0], by simpa [Nat.add_assoc] using off32_closed (i 1) i rfl 2 3⟩
instance closed32_30 (i : grid0.Coords) : ClosedOff (k0_off32 i 96#32 0#32) := ⟨![8 * ((i 1).val / 2) + 100, 0], by simpa [Nat.add_assoc] using off32_closed (i 1) i rfl 3 0⟩
instance closed32_31 (i : grid0.Coords) : ClosedOff (k0_off32 i 96#32 1#32) := ⟨![8 * ((i 1).val / 2) + 101, 0], by simpa [Nat.add_assoc] using off32_closed (i 1) i rfl 3 1⟩
instance closed32_32 (i : grid0.Coords) : ClosedOff (k0_off32 i 96#32 2#32) := ⟨![8 * ((i 1).val / 2) + 102, 0], by simpa [Nat.add_assoc] using off32_closed (i 1) i rfl 3 2⟩
instance closed32_33 (i : grid0.Coords) : ClosedOff (k0_off32 i 96#32 3#32) := ⟨![8 * ((i 1).val / 2) + 103, 0], by simpa [Nat.add_assoc] using off32_closed (i 1) i rfl 3 3⟩

end Cert.KernelIdeal.Hand

end
-- ==== Proof.NsaKernelIdealRunOdd.lean ====
module

public import proofs.«01_k».proof.Proof.Gen.KernelIdeal.Frame
public import proofs.«01_k».proof.Proof.Gen.KernelIdeal.Skeleton
public import proofs.«01_k».proof.Proof.NsaKernelIdealLoops
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- At a grid point whose tile number is odd, from the thirteen input blocks, the result block and the four scratch blocks at
    anything, the body runs to its end: it hands the inputs back as they were and the result block and the scratch blocks at something. -/
theorem runOdd (c : Dev nD) (i : grid0.Coords) (hc : k0_cond1 i = 1#1) (arg2 : Memref sig .tc .vmem S4096x128 .bf16) (harg2 : arg2.IsWhole) (arg3 : Memref sig .tc .vmem S4096x128 .bf16) (harg3 : arg3.IsWhole) (arg4 : Memref sig .tc .vmem S256x128 .f32) (harg4 : arg4.IsWhole) (arg5 : Memref sig .tc .vmem S512x128 .bf16) (harg5 : arg5.IsWhole) (arg6 : Memref sig .tc .vmem S256x128 .bf16) (harg6 : arg6.IsWhole) (arg7 : Memref sig .tc .vmem S2048x512 .bf16) (harg7 : arg7.IsWhole) (arg8 : Memref sig .tc .vmem S320x2048 .bf16) (harg8 : arg8.IsWhole) (arg9 : Memref sig .tc .vmem S2048x512 .bf16) (harg9 : arg9.IsWhole) (arg10 : Memref sig .tc .vmem S320x2048 .bf16) (harg10 : arg10.IsWhole) (arg11 : Memref sig .tc .vmem S256x1024 .f32) (harg11 : arg11.IsWhole) (arg12 : Memref sig .tc .vmem S1024x1024 .bf16) (harg12 : arg12.IsWhole) (arg13 : Memref sig .tc .vmem S32x128 .f32) (harg13 : arg13.IsWhole) (arg14 : Memref sig .tc .vmem S5x256x256 .f32) (harg14 : arg14.IsWhole) (arg15 : Memref sig .tc .vmem S256x1024 .f32) (harg15 : arg15.IsWhole) (arg16 : Memref sig .tc .vmem S128x256 .f32) (harg16 : arg16.IsWhole) (arg17 : Memref sig .tc .vmem S1024x256 .f32) (harg17 : arg17.IsWhole) (arg18 : Memref sig .tc .vmem S1024x1024 .f32) (harg18 : arg18.IsWhole) (arg19 : Memref sig .tc .vmem S1024x1024 .f32) (harg19 : arg19.IsWhole)
    (x0 : Vec F S4096x128 .bf16) (x1 : Vec F S4096x128 .bf16) (x2 : Vec F S256x128 .f32) (x3 : Vec F S512x128 .bf16) (x4 : Vec F S256x128 .bf16) (x5 : Vec F S2048x512 .bf16) (x6 : Vec F S320x2048 .bf16) (x7 : Vec F S2048x512 .bf16) (x8 : Vec F S320x2048 .bf16) (x9 : Vec F S256x1024 .f32) (x10 : Vec F S1024x1024 .bf16) (x11 : Vec F S32x128 .f32) (x12 : Vec F S5x256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) E (cc0_nsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_nsa_eq_skeleton]; unfold cc0_nsa_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl

end Cert.KernelIdeal.Hand

end
-- ==== Proof.NsaKernelIdealRunEven.lean ====
module

public import proofs.«01_k».proof.Proof.Gen.KernelIdeal.Frame
public import proofs.«01_k».proof.Proof.Gen.KernelIdeal.Skeleton
public import proofs.«01_k».proof.Proof.NsaKernelIdealLoops
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- At a grid point whose tile number is even, from the thirteen input blocks, the result block and the four scratch blocks at
    anything, the body runs to its end: it hands the inputs back as they were and the result block and the scratch blocks at something. -/
theorem runEven (c : Dev nD) (i : grid0.Coords) (hc : ¬ k0_cond1 i = 1#1) (arg2 : Memref sig .tc .vmem S4096x128 .bf16) (harg2 : arg2.IsWhole) (arg3 : Memref sig .tc .vmem S4096x128 .bf16) (harg3 : arg3.IsWhole) (arg4 : Memref sig .tc .vmem S256x128 .f32) (harg4 : arg4.IsWhole) (arg5 : Memref sig .tc .vmem S512x128 .bf16) (harg5 : arg5.IsWhole) (arg6 : Memref sig .tc .vmem S256x128 .bf16) (harg6 : arg6.IsWhole) (arg7 : Memref sig .tc .vmem S2048x512 .bf16) (harg7 : arg7.IsWhole) (arg8 : Memref sig .tc .vmem S320x2048 .bf16) (harg8 : arg8.IsWhole) (arg9 : Memref sig .tc .vmem S2048x512 .bf16) (harg9 : arg9.IsWhole) (arg10 : Memref sig .tc .vmem S320x2048 .bf16) (harg10 : arg10.IsWhole) (arg11 : Memref sig .tc .vmem S256x1024 .f32) (harg11 : arg11.IsWhole) (arg12 : Memref sig .tc .vmem S1024x1024 .bf16) (harg12 : arg12.IsWhole) (arg13 : Memref sig .tc .vmem S32x128 .f32) (harg13 : arg13.IsWhole) (arg14 : Memref sig .tc .vmem S5x256x256 .f32) (harg14 : arg14.IsWhole) (arg15 : Memref sig .tc .vmem S256x1024 .f32) (harg15 : arg15.IsWhole) (arg16 : Memref sig .tc .vmem S128x256 .f32) (harg16 : arg16.IsWhole) (arg17 : Memref sig .tc .vmem S1024x256 .f32) (harg17 : arg17.IsWhole) (arg18 : Memref sig .tc .vmem S1024x1024 .f32) (harg18 : arg18.IsWhole) (arg19 : Memref sig .tc .vmem S1024x1024 .f32) (harg19 : arg19.IsWhole)
    (x0 : Vec F S4096x128 .bf16) (x1 : Vec F S4096x128 .bf16) (x2 : Vec F S256x128 .f32) (x3 : Vec F S512x128 .bf16) (x4 : Vec F S256x128 .bf16) (x5 : Vec F S2048x512 .bf16) (x6 : Vec F S320x2048 .bf16) (x7 : Vec F S2048x512 .bf16) (x8 : Vec F S320x2048 .bf16) (x9 : Vec F S256x1024 .f32) (x10 : Vec F S1024x1024 .bf16) (x11 : Vec F S32x128 .f32) (x12 : Vec F S5x256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) E (cc0_nsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_nsa_eq_skeleton]; unfold cc0_nsa_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl

end Cert.KernelIdeal.Hand

end
-- ==== Proof.NsaKernelIdealFrame.lean ====
module

public import proofs.«01_k».proof.Proof.Gen.KernelIdeal.Frame
public import proofs.«01_k».proof.Proof.Gen.KernelIdeal.Skeleton
public import proofs.«01_k».proof.Proof.NsaKernelIdealRunOdd
public import proofs.«01_k».proof.Proof.NsaKernelIdealRunEven
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result's window is the one whose contents the frame does not name. -/
abbrev unnamed0 : Fin cfg0.W → Bool := fun w => w.val == 13

/-- The launch's proof data on a core: the arrays as the region finds them, each input block as it was after the body, the
    result block unnamed, the scratch blocks and the generator's register at anything, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves input block 0 as it was. -/
theorem after0_0 (c : Dev nD) (t : Fin cfg0.N) : (dats m 0 c).after 0 t = iblk m c 0 t := by dsimp only [dats]
/-- The body finds input block 0 in its staging buffer. -/
theorem before0_0 (c : Dev nD) (t : Fin cfg0.N) (d) : (dats m 0 c).before 0 t d = iblk m c 0 t :=
  before0_0_of m (dats m 0 c) (A_eq m c 0) (after0_0 m c) t d
/-- The body leaves input block 1 as it was. -/
theorem after0_1 (c : Dev nD) (t : Fin cfg0.N) : (dats m 0 c).after 1 t = iblk m c 1 t := by dsimp only [dats]
/-- The body finds input block 1 in its staging buffer. -/
theorem before0_1 (c : Dev nD) (t : Fin cfg0.N) (d) : (dats m 0 c).before 1 t d = iblk m c 1 t :=
  before0_1_of m (dats m 0 c) (A_eq m c 1) (after0_1 m c) t d
/-- The body leaves input block 2 as it was. -/
theorem after0_2 (c : Dev nD) (t : Fin cfg0.N) : (dats m 0 c).after 2 t = iblk m c 2 t := by dsimp only [dats]
/-- The body finds input block 2 in its staging buffer. -/
theorem before0_2 (c : Dev nD) (t : Fin cfg0.N) (d) : (dats m 0 c).before 2 t d = iblk m c 2 t :=
  before0_2_of m (dats m 0 c) (A_eq m c 2) (after0_2 m c) t d
/-- The body leaves input block 3 as it was. -/
theorem after0_3 (c : Dev nD) (t : Fin cfg0.N) : (dats m 0 c).after 3 t = iblk m c 3 t := by dsimp only [dats]
/-- The body finds input block 3 in its staging buffer. -/
theorem before0_3 (c : Dev nD) (t : Fin cfg0.N) (d) : (dats m 0 c).before 3 t d = iblk m c 3 t :=
  before0_3_of m (dats m 0 c) (A_eq m c 3) (after0_3 m c) t d
/-- The body leaves input block 4 as it was. -/
theorem after0_4 (c : Dev nD) (t : Fin cfg0.N) : (dats m 0 c).after 4 t = iblk m c 4 t := by dsimp only [dats]
/-- The body finds input block 4 in its staging buffer. -/
theorem before0_4 (c : Dev nD) (t : Fin cfg0.N) (d) : (dats m 0 c).before 4 t d = iblk m c 4 t :=
  before0_4_of m (dats m 0 c) (A_eq m c 4) (after0_4 m c) t d
/-- The body leaves input block 5 as it was. -/
theorem after0_5 (c : Dev nD) (t : Fin cfg0.N) : (dats m 0 c).after 5 t = iblk m c 5 t := by dsimp only [dats]
/-- The body finds input block 5 in its staging buffer. -/
theorem before0_5 (c : Dev nD) (t : Fin cfg0.N) (d) : (dats m 0 c).before 5 t d = iblk m c 5 t :=
  before0_5_of m (dats m 0 c) (A_eq m c 5) (after0_5 m c) t d
/-- The body leaves input block 6 as it was. -/
theorem after0_6 (c : Dev nD) (t : Fin cfg0.N) : (dats m 0 c).after 6 t = iblk m c 6 t := by dsimp only [dats]
/-- The body finds input block 6 in its staging buffer. -/
theorem before0_6 (c : Dev nD) (t : Fin cfg0.N) (d) : (dats m 0 c).before 6 t d = iblk m c 6 t :=
  before0_6_of m (dats m 0 c) (A_eq m c 6) (after0_6 m c) t d
/-- The body leaves input block 7 as it was. -/
theorem after0_7 (c : Dev nD) (t : Fin cfg0.N) : (dats m 0 c).after 7 t = iblk m c 7 t := by dsimp only [dats]
/-- The body finds input block 7 in its staging buffer. -/
theorem before0_7 (c : Dev nD) (t : Fin cfg0.N) (d) : (dats m 0 c).before 7 t d = iblk m c 7 t :=
  before0_7_of m (dats m 0 c) (A_eq m c 7) (after0_7 m c) t d
/-- The body leaves input block 8 as it was. -/
theorem after0_8 (c : Dev nD) (t : Fin cfg0.N) : (dats m 0 c).after 8 t = iblk m c 8 t := by dsimp only [dats]
/-- The body finds input block 8 in its staging buffer. -/
theorem before0_8 (c : Dev nD) (t : Fin cfg0.N) (d) : (dats m 0 c).before 8 t d = iblk m c 8 t :=
  before0_8_of m (dats m 0 c) (A_eq m c 8) (after0_8 m c) t d
/-- The body leaves input block 9 as it was. -/
theorem after0_9 (c : Dev nD) (t : Fin cfg0.N) : (dats m 0 c).after 9 t = iblk m c 9 t := by dsimp only [dats]
/-- The body finds input block 9 in its staging buffer. -/
theorem before0_9 (c : Dev nD) (t : Fin cfg0.N) (d) : (dats m 0 c).before 9 t d = iblk m c 9 t :=
  before0_9_of m (dats m 0 c) (A_eq m c 9) (after0_9 m c) t d
/-- The body leaves input block 10 as it was. -/
theorem after0_10 (c : Dev nD) (t : Fin cfg0.N) : (dats m 0 c).after 10 t = iblk m c 10 t := by dsimp only [dats]
/-- The body finds input block 10 in its staging buffer. -/
theorem before0_10 (c : Dev nD) (t : Fin cfg0.N) (d) : (dats m 0 c).before 10 t d = iblk m c 10 t :=
  before0_10_of m (dats m 0 c) (A_eq m c 10) (after0_10 m c) t d
/-- The body leaves input block 11 as it was. -/
theorem after0_11 (c : Dev nD) (t : Fin cfg0.N) : (dats m 0 c).after 11 t = iblk m c 11 t := by dsimp only [dats]
/-- The body finds input block 11 in its staging buffer. -/
theorem before0_11 (c : Dev nD) (t : Fin cfg0.N) (d) : (dats m 0 c).before 11 t d = iblk m c 11 t :=
  before0_11_of m (dats m 0 c) (A_eq m c 11) (after0_11 m c) t d
/-- The body leaves input block 12 as it was. -/
theorem after0_12 (c : Dev nD) (t : Fin cfg0.N) : (dats m 0 c).after 12 t = iblk m c 12 t := by dsimp only [dats]
/-- The body finds input block 12 in its staging buffer. -/
theorem before0_12 (c : Dev nD) (t : Fin cfg0.N) (d) : (dats m 0 c).before 12 t d = iblk m c 12 t :=
  before0_12_of m (dats m 0 c) (A_eq m c 12) (after0_12 m c) t d

/-- The invariant between grid points: the four scratch blocks at anything and the generator's register at anything. -/
theorem between_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA
  rw [scopedRest0_eq]
  simp only [owns_whole]
  try rfl

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare d))

/-- What the body returns at a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ d, owns (c : Thread nD τ) (st0_13 t) fullShare d))

/-- The body at any grid point, by the tile number's parity. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq,
    after0_0, after0_1, after0_2, after0_3, after0_4, after0_5, after0_6, after0_7, after0_8, after0_9, after0_10, after0_11, after0_12]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases hc : k0_cond1 (grid0.coords t) = 1#1
  case pos =>
    iapply (runOdd c (grid0.coords t) hc _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    iintro ⟨H0, H1, H2, H3, H4, H5, H6, H7, H8, H9, H10, H11, H12, H13, S0, S1, S2, S3⟩
    isplitl [S0 S1 S2 S3 Hg]
    · isplitr [Hg]; swap; · iexact Hg
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  case neg =>
    iapply (runEven c (grid0.coords t) hc _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    iintro ⟨H0, H1, H2, H3, H4, H5, H6, H7, H8, H9, H10, H11, H12, H13, S0, S1, S2, S3⟩
    isplitl [S0 S1 S2 S3 Hg]
    · isplitr [Hg]; swap; · iexact Hg
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at a grid point is the body there. -/
theorem defs₀_row (t : Fin cfg0.N) :
    defs₀ (F := F) .tc cfg0.body (cfg0.bodyArgs t (cfg0.slots t)) = bodyAt0 t := by
  unfold defs₀; rw [Defs.onTc_tc]

/-- The body obligation of the launch, the result's contents unnamed. -/
theorem body_obligation (c : Dev nD) :
    BodyObligation (dats (F := F) m 0 c) (defs₀ (F := F)) Variants.none () Set.univ unnamed0 := fun t => by
  rw [bigSep_W0, bigSep_W0, defs₀_row]
  exact triple_restated (sound_body m c t) rfl .rfl fun _ => .rfl

set_option backward.isDefEq.respectTransparency.types false in
/-- The launch: every execution of the call ends, with every input array as the region found it and every semaphore counter at zero. -/
theorem run_quiescent : θ_run defs (onTc (τ := τ) (main (F := F))) (s₀ m ρ)
    (fun r => Pipeline.RDat.FramePost (cfgs 0) (fun c => (dats m 0 c).toRForget unnamed0) (V m) r ∧ r.2.sem = fun _ => 0) :=
  Pipeline.θ_run_frame_forget (Q' := _) cfgs (dats m) (0 : Fin 1) launch0 defs₀ Variants.none unnamed0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution of the call ends with its eleven argument arrays unchanged and every semaphore counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  (θ_run defs _ _).mono (fun _ h => ⟨fun c => ⟨(h.1.arr_in c 0 rfl).trans ((A_eq m c 0).trans (V_main_arg0 m c)), (h.1.arr_in c 1 rfl).trans ((A_eq m c 1).trans (V_main_arg1 m c)), (h.1.arr_in c 2 rfl).trans ((A_eq m c 2).trans (V_main_arg2 m c)), (h.1.arr_in c 3 rfl).trans ((A_eq m c 3).trans (V_main_arg3 m c)), (h.1.arr_in c 4 rfl).trans ((A_eq m c 4).trans (V_main_arg4 m c)), (h.1.arr_in c 5 rfl).trans ((A_eq m c 5).trans (V_main_arg5 m c)), (h.1.arr_in c 6 rfl).trans ((A_eq m c 6).trans (V_main_arg6 m c)), (h.1.arr_in c 7 rfl).trans ((A_eq m c 7).trans (V_main_arg7 m c)), (h.1.arr_in c 8 rfl).trans ((A_eq m c 8).trans (V_main_arg8 m c)), (h.1.arr_in c 9 rfl).trans ((A_eq m c 9).trans (V_main_arg9 m c)), (h.1.arr_in c 10 rfl).trans ((A_eq m c 10).trans (V_main_arg10 m c))⟩, h.2⟩) (run_quiescent m ρ)

end Cert.KernelIdeal.Hand

end
-- ==== Proof.FfnMath.lean ====
/- The mathematics of the feed-forward call, one token at a time, over the extended reals: the normalised row, the value
   of one hidden unit, the row of the result; and the sum over the 2816 hidden units cut into the eleven chunks of 256 in
   which the kernel takes it. -/
module

public import Idealize.ShloMosaic.Lib.Pointwise
public import Idealize.ShloMosaic.Lib.Pipeline.ValueKit

@[expose] public section

noncomputable section

namespace Cert.FfnMath

open Idealize.ShloMosaic

/-- The row `x` divided by its root mean square (with the small constant under the root) and scaled by `g`. -/
def rowNorm (x g : Fin 1024 → EReal) (k : Fin 1024) : EReal :=
  x k * Ideal.rsqrt (Ideal.div (∑ q, x q * x q) (Ideal.ofBits FTy.f32 1149239296#32) + Ideal.ofBits FTy.f32 897988541#32) * g k

/-- The gate of hidden unit `i` on the row `x`: column `i` of the first half of the weights. -/
def gate (x : Fin 1024 → EReal) (W : Fin 1024 → Fin 5632 → EReal) (i : Fin 2816) : EReal :=
  ∑ q, x q * W q ⟨i.val, by omega⟩

/-- The value of hidden unit `i` on the row `x`: column `i` of the second half of the weights. -/
def lane (x : Fin 1024 → EReal) (W : Fin 1024 → Fin 5632 → EReal) (i : Fin 2816) : EReal :=
  ∑ q, x q * W q ⟨2816 + i.val, by omega⟩

/-- Hidden unit `i` on the row `x`: the gate times its logistic, times the value. -/
def hiddenUnit (x : Fin 1024 → EReal) (W : Fin 1024 → Fin 5632 → EReal) (i : Fin 2816) : EReal :=
  gate x W i * Ideal.logistic (gate x W i) * lane x W i

/-- The row of the result: the row `x` plus the down projection of the hidden units of the normalised row. -/
def ffnRow (x g : Fin 1024 → EReal) (W : Fin 1024 → Fin 5632 → EReal) (D : Fin 2816 → Fin 1024 → EReal) (j : Fin 1024) : EReal :=
  x j + ∑ i, hiddenUnit (rowNorm x g) W i * D i j

/-- The row of the call that also normalises its result: `ffnRow`, normalised with the scale `f`. -/
def ffnFinalRow (x g : Fin 1024 → EReal) (W : Fin 1024 → Fin 5632 → EReal) (D : Fin 2816 → Fin 1024 → EReal)
    (f : Fin 1024 → EReal) (j : Fin 1024) : EReal :=
  rowNorm (ffnRow x g W D) f j

/-- A sum over 2816 terms is the sum of its eleven chunks of 256 terms. -/
theorem sum_chunks (f : Fin 2816 → EReal) :
    ∑ i, f i = (∑ x : Fin 256, f ⟨x.val, by omega⟩) + ∑ x : Fin 256, f ⟨256 + x.val, by omega⟩
      + ∑ x : Fin 256, f ⟨512 + x.val, by omega⟩ + ∑ x : Fin 256, f ⟨768 + x.val, by omega⟩
      + ∑ x : Fin 256, f ⟨1024 + x.val, by omega⟩ + ∑ x : Fin 256, f ⟨1280 + x.val, by omega⟩
      + ∑ x : Fin 256, f ⟨1536 + x.val, by omega⟩ + ∑ x : Fin 256, f ⟨1792 + x.val, by omega⟩
      + ∑ x : Fin 256, f ⟨2048 + x.val, by omega⟩ + ∑ x : Fin 256, f ⟨2304 + x.val, by omega⟩
      + ∑ x : Fin 256, f ⟨2560 + x.val, by omega⟩ := by
  have h : ∀ g : ℕ → EReal, ∑ i : Fin 2816, g i.val = (∑ x : Fin 256, g x.val) + ∑ x : Fin 256, g (256 + x.val)
      + ∑ x : Fin 256, g (512 + x.val) + ∑ x : Fin 256, g (768 + x.val)
      + ∑ x : Fin 256, g (1024 + x.val) + ∑ x : Fin 256, g (1280 + x.val)
      + ∑ x : Fin 256, g (1536 + x.val) + ∑ x : Fin 256, g (1792 + x.val)
      + ∑ x : Fin 256, g (2048 + x.val) + ∑ x : Fin 256, g (2304 + x.val)
      + ∑ x : Fin 256, g (2560 + x.val) := by
    intro g
    rw [Fin.sum_univ_eq_sum_range g 2816, show (2816 : ℕ) = 11 * 256 from rfl, ← Finset.sum_range_range_mul_add 11 256 g]
    have hg : ∀ o : ℕ, ∑ x : Fin 256, g (o + x.val) = ∑ x ∈ Finset.range 256, g (o + x) :=
      fun o => Fin.sum_univ_eq_sum_range (fun x => g (o + x)) 256
    have h0 : ∑ x : Fin 256, g x.val = ∑ x ∈ Finset.range 256, g (0 + x) := by
      simpa only [Nat.zero_add] using hg 0
    simp only [hg, h0]
    generalize hG : (fun o => ∑ x ∈ Finset.range 256, g (o + x)) = G
    have hs : ∀ o, ∑ x ∈ Finset.range 256, g (o + x) = G o := fun o => by rw [← hG]
    simp only [hs]
    simp only [Finset.sum_range_succ, Finset.sum_range_zero, zero_add, Nat.zero_mul, Nat.reduceMul]
  have h' := h fun n => if hn : n < 2816 then f ⟨n, hn⟩ else 0
  simp only [Fin.is_lt, dif_pos, Fin.eta] at h'
  rw [h']
  have hd : ∀ (o : ℕ) (ho : o + 256 ≤ 2816) (x : Fin 256), o + x.val < 2816 := fun o ho x => by omega
  have hx : ∀ x : Fin 256, x.val < 2816 := fun x => by omega
  simp only [hx, hd 256 (by norm_num), hd 512 (by norm_num), hd 768 (by norm_num), hd 1024 (by norm_num), hd 1280 (by norm_num),
    hd 1536 (by norm_num), hd 1792 (by norm_num), hd 2048 (by norm_num), hd 2304 (by norm_num), hd 2560 (by norm_num), dif_pos]

end Cert.FfnMath

end
-- ==== Proof.FfnValue.lean ====
/- The value of the feed-forward call without the last normalisation: what a grid point leaves in its block, the whole
   array after the run, and the run with the result named row by row. -/
module

public import proofs.«01_k».proof.Proof.Gen.FfnIdeal.Value
public import proofs.«01_k».proof.Proof.FfnMath

@[expose] public section

set_option maxRecDepth 16384

noncomputable section

namespace Cert.FfnIdeal.Hand

open Cert.FfnIdeal Cert.FfnIdeal.Gen Idealize.ShloMosaic Idealize.SL.Sem Cert.FfnMath

/-- The float values read as extended reals. -/
local notation "𝔼" => Idealize.ShloMosaic.Ideal

/-- The normalised block of a grid point, row by row. -/
theorem normed_apply (x0 : Vec 𝔼 S512x1024 .f32) (x1 : Vec 𝔼 S1x1024 .f32) (r : Fin 512) (k : Fin 1024) :
    k0_pay2 (View.ld x0 r0_0) (View.ld x1 r0_1) (ix2 r k)
      = rowNorm (fun q => x0 (ix2 r q)) (fun q => x1 (ix2 0 q)) k := by
  unfold k0_pay2 rowNorm
  pointwise

/-- What a grid point leaves in its block, row by row. -/
theorem out_apply (x0 : Vec 𝔼 S512x1024 .f32) (x1 : Vec 𝔼 S1x1024 .f32) (x2 : Vec 𝔼 S1024x5632 .bf16)
    (x3 : Vec 𝔼 S2816x1024 .bf16) (x4 : Vec 𝔼 S1x1024 .f32) (r : Fin 512) (c : Fin 1024) :
    out0_5 x0 x1 x2 x3 x4 (ix2 r c)
      = ffnRow (fun q => x0 (ix2 r q)) (fun q => x1 (ix2 0 q)) (fun q k => x2 (ix2 q k)) (fun k q => x3 (ix2 k q)) c := by
  have hn := normed_apply x0 x1 r
  unfold_out out0_5
  rw [View.canon_unit_zero (h := by ext a; fin_cases a <;> rfl)]
  unfold k0_pay6 k0_pay3 k0_pay4 k0_pay5
  unfold ffnRow
  generalize rowNorm (fun q => x0 (ix2 r q)) (fun q => x1 (ix2 0 q)) = y at hn ⊢
  generalize k0_pay2 (View.ld x0 r0_0) (View.ld x1 r0_1) = xn at hn ⊢
  rw [sum_chunks]
  pointwise [k0_pay1, k0_pay7, k0_pay8, k0_pay9, k0_pay10, k0_pay11, k0_pay12, hiddenUnit, gate, lane]
  simp only [hn, add_assoc, Nat.reduceAdd, ← Nat.add_assoc]

variable (m : (ℓ : Loc nD τ sig) → Buf (Elt 𝔼) ℓ) (ρ : Dev nD → PrngReg)

/-- The result array: every row by `ffnRow` of the argument arrays. -/
def result (c : Dev nD) : S65536x1024.Idx → EReal := fun j =>
  ffnRow (fun q => m ((c.tc : Thread nD τ).loc main_arg0) (ix2 (j 0) q)) (fun q => m ((c.tc : Thread nD τ).loc main_arg1) (ix1 q))
    (fun q k => m ((c.tc : Thread nD τ).loc main_arg2) (ix2 q k)) (fun k q => m ((c.tc : Thread nD τ).loc main_arg3) (ix2 k q)) (j 1)

/-- The block index of every window at every grid point: the tokens and the result move with the point, the scale and
    the weights stay. -/
theorem idx : ∀ t : Fin cfg0.N, win0_0.index t = ![t.val, 0] ∧ win0_1.index t = ![0, 0] ∧ win0_2.index t = ![0, 0]
    ∧ win0_3.index t = ![0, 0] ∧ win0_5.index t = ![t.val, 0] :=
  (by decide +kernel : ∀ t : Fin grid0.N, _)

/-- Row `r` of a grid point's block of tokens is row `512 t + r` of the argument. -/
theorem blk_tokens (c : Dev nD) (t : Fin cfg0.N) (r : Fin 512) (q : Fin 1024) :
    iblk m c 0 t (ix2 r q)
      = m ((c.tc : Thread nD τ).loc main_arg0) (ix2 (((cfg0.win 5).blk t).view.emb (ix2 r q) 0) q) := by
  blk_point [iblk, V, idx t]

/-- The scale's block is the whole scale. -/
theorem blk_scale (c : Dev nD) (t : Fin cfg0.N) (q : Fin 1024) :
    iblk m c 1 t (ix2 0 q) = m ((c.tc : Thread nD τ).loc main_arg1) (ix1 q) := by
  blk_point [iblk, V, idx t]

/-- The up projection's block is the whole weight array. -/
theorem blk_up (c : Dev nD) (t : Fin cfg0.N) (q : Fin 1024) (k : Fin 5632) :
    iblk m c 2 t (ix2 q k) = m ((c.tc : Thread nD τ).loc main_arg2) (ix2 q k) := by
  blk_point [iblk, V, idx t]

/-- The down projection's block is the whole weight array. -/
theorem blk_down (c : Dev nD) (t : Fin cfg0.N) (k : Fin 2816) (q : Fin 1024) :
    iblk m c 3 t (ix2 k q) = m ((c.tc : Thread nD τ).loc main_arg3) (ix2 k q) := by
  blk_point [iblk, V, idx t]

/-- The output array after the run is `result`. -/
theorem final (c : Dev nD) : (dats m 0 c).arrAt 5 cfg0.N = result m c := by
  refine (dats m 0 c).arrAt_eq_of_covers 5 _ (by decide +kernel) fun t hf y => ?_
  blk_simp
  rw [after0_5]
  idx_vars y
  rw [out_apply]
  rw [show (fun q => iblk m c 0 t (ix2 y0 q)) = _ from funext fun q => blk_tokens m c t y0 q,
    show (fun q => iblk m c 1 t (ix2 0 q)) = _ from funext fun q => blk_scale m c t q,
    show (fun q k => iblk m c 2 t (ix2 q k)) = _ from funext fun q => funext fun k => blk_up m c t q k,
    show (fun k q => iblk m c 3 t (ix2 k q)) = _ from funext fun k => funext fun q => blk_down m c t k q]
  unfold result
  congr 1
  apply Fin.ext; blk_simp [idx t]

/-- The run: the result array is `result`, the arguments are as launched. -/
theorem run : θ_run defs (onTc (τ := τ) (main (F := 𝔼))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.FfnIdeal.Hand

end
-- ==== Proof.FfnRefValue.lean ====
/- The value of the reference of the feed-forward call: its operations composed, row by row. -/
module

public import proofs.«01_k».proof.Proof.Gen.FfnRefIdeal.Run
public import proofs.«01_k».proof.Proof.FfnMath

@[expose] public section

set_option maxRecDepth 16384

noncomputable section

namespace Cert.FfnRefIdeal.Hand

open Cert.FfnRefIdeal Cert.FfnRefIdeal.Gen Idealize.ShloMosaic Idealize.SL.Sem Cert.FfnMath

/-- The float values read as extended reals. -/
local notation "𝔼" => Idealize.ShloMosaic.Ideal

variable (m : (ℓ : Loc nD τ sig) → Buf (Elt 𝔼) ℓ) (ρ : Dev nD → PrngReg)

/-- The result array: every row by `ffnRow` of the argument arrays. -/
def result (c : Dev nD) : S65536x1024.Idx → EReal := fun j =>
  ffnRow (fun q => m ((c.tc : Thread nD τ).loc main_arg0) (ix2 (j 0) q)) (fun q => m ((c.tc : Thread nD τ).loc main_arg1) (ix1 q))
    (fun q k => m ((c.tc : Thread nD τ).loc main_arg2) (ix2 q k)) (fun k q => m ((c.tc : Thread nD τ).loc main_arg3) (ix2 k q)) (j 1)

/-- The run: the result array is `result`, the arguments are as launched. -/
theorem run : θ_run defs (onTc (τ := τ) (main (F := 𝔼))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run m ρ)
  funext j
  idx_vars j
  unfold result
  pointwise [ffnRow, rowNorm, hiddenUnit, gate, lane, Ideal.logistic]

end Cert.FfnRefIdeal.Hand

end
-- ==== Proof.FfnFinalValue.lean ====
/- The value of the feed-forward call with the last normalisation: what a grid point leaves in its block, the whole
   array after the run, and the run with the result named row by row. -/
module

public import proofs.«01_k».proof.Proof.Gen.FfnFinalIdeal.Value
public import proofs.«01_k».proof.Proof.FfnMath

@[expose] public section

set_option maxRecDepth 16384

noncomputable section

namespace Cert.FfnFinalIdeal.Hand

open Cert.FfnFinalIdeal Cert.FfnFinalIdeal.Gen Idealize.ShloMosaic Idealize.SL.Sem Cert.FfnMath

/-- The float values read as extended reals. -/
local notation "𝔼" => Idealize.ShloMosaic.Ideal

/-- The normalised block of a grid point, row by row. -/
theorem normed_apply (x0 : Vec 𝔼 S512x1024 .f32) (x1 : Vec 𝔼 S1x1024 .f32) (r : Fin 512) (k : Fin 1024) :
    k0_pay1 (View.ld x0 r0_0) (View.ld x1 r0_1) (ix2 r k)
      = rowNorm (fun q => x0 (ix2 r q)) (fun q => x1 (ix2 0 q)) k := by
  unfold k0_pay1 rowNorm
  pointwise

/-- What a grid point leaves in its block, row by row. -/
theorem out_apply (x0 : Vec 𝔼 S512x1024 .f32) (x1 : Vec 𝔼 S1x1024 .f32) (x2 : Vec 𝔼 S1024x5632 .bf16)
    (x3 : Vec 𝔼 S2816x1024 .bf16) (x4 : Vec 𝔼 S1x1024 .f32) (r : Fin 512) (c : Fin 1024) :
    out0_5 x0 x1 x2 x3 x4 (ix2 r c)
      = ffnFinalRow (fun q => x0 (ix2 r q)) (fun q => x1 (ix2 0 q)) (fun q k => x2 (ix2 q k)) (fun k q => x3 (ix2 k q)) (fun q => x4 (ix2 0 q)) c := by
  have hn := normed_apply x0 x1 r
  unfold_out out0_5
  rw [View.canon_unit_zero (h := by ext a; fin_cases a <;> rfl)]
  unfold k0_pay5 k0_pay2 k0_pay3 k0_pay4
  have e : ∀ y : Fin 1024 → EReal, rowNorm (fun q => x0 (ix2 r q) + ∑ i, hiddenUnit y (fun q k => x2 (ix2 q k)) i * x3 (ix2 i q))
      (fun q => x4 (ix2 0 q)) c
      = (x0 (ix2 r c) + ∑ i, hiddenUnit y (fun q k => x2 (ix2 q k)) i * x3 (ix2 i c))
        * Ideal.rsqrt (Ideal.div (∑ q, (x0 (ix2 r q) + ∑ i, hiddenUnit y (fun q k => x2 (ix2 q k)) i * x3 (ix2 i q))
            * (x0 (ix2 r q) + ∑ i, hiddenUnit y (fun q k => x2 (ix2 q k)) i * x3 (ix2 i q)))
          (Ideal.ofBits FTy.f32 1149239296#32) + Ideal.ofBits FTy.f32 897988541#32) * x4 (ix2 0 c) := fun y => rfl
  unfold ffnFinalRow ffnRow
  rw [e]
  clear e
  generalize rowNorm (fun q => x0 (ix2 r q)) (fun q => x1 (ix2 0 q)) = y at hn ⊢
  generalize k0_pay1 (View.ld x0 r0_0) (View.ld x1 r0_1) = xn at hn ⊢
  simp only [sum_chunks]
  pointwise [k0_pay6, k0_pay7, k0_pay8, k0_pay9, k0_pay10, k0_pay11, k0_pay12, hiddenUnit, gate, lane]
  simp only [hn, add_assoc, Nat.reduceAdd, ← Nat.add_assoc]

variable (m : (ℓ : Loc nD τ sig) → Buf (Elt 𝔼) ℓ) (ρ : Dev nD → PrngReg)

/-- The result array: every row by `ffnFinalRow` of the argument arrays. -/
def result (c : Dev nD) : S65536x1024.Idx → EReal := fun j =>
  ffnFinalRow (fun q => m ((c.tc : Thread nD τ).loc main_arg0) (ix2 (j 0) q)) (fun q => m ((c.tc : Thread nD τ).loc main_arg1) (ix1 q))
    (fun q k => m ((c.tc : Thread nD τ).loc main_arg2) (ix2 q k)) (fun k q => m ((c.tc : Thread nD τ).loc main_arg3) (ix2 k q)) (fun q => m ((c.tc : Thread nD τ).loc main_arg4) (ix1 q)) (j 1)

/-- The block index of every window at every grid point: the tokens and the result move with the point, the scale and
    the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- Row `r` of a grid point's block of tokens is row `512 t + r` of the argument. -/
theorem blk_tokens (c : Dev nD) (t : Fin cfg0.N) (r : Fin 512) (q : Fin 1024) :
    iblk m c 0 t (ix2 r q)
      = m ((c.tc : Thread nD τ).loc main_arg0) (ix2 (((cfg0.win 5).blk t).view.emb (ix2 r q) 0) q) := by
  blk_point [iblk, V, idx t]

/-- The scale's block is the whole scale. -/
theorem blk_scale (c : Dev nD) (t : Fin cfg0.N) (q : Fin 1024) :
    iblk m c 1 t (ix2 0 q) = m ((c.tc : Thread nD τ).loc main_arg1) (ix1 q) := by
  blk_point [iblk, V, idx t]

/-- The up projection's block is the whole weight array. -/
theorem blk_up (c : Dev nD) (t : Fin cfg0.N) (q : Fin 1024) (k : Fin 5632) :
    iblk m c 2 t (ix2 q k) = m ((c.tc : Thread nD τ).loc main_arg2) (ix2 q k) := by
  blk_point [iblk, V, idx t]

/-- The down projection's block is the whole weight array. -/
theorem blk_down (c : Dev nD) (t : Fin cfg0.N) (k : Fin 2816) (q : Fin 1024) :
    iblk m c 3 t (ix2 k q) = m ((c.tc : Thread nD τ).loc main_arg3) (ix2 k q) := by
  blk_point [iblk, V, idx t]

/-- The last scale's block is the whole scale. -/
theorem blk_last (c : Dev nD) (t : Fin cfg0.N) (q : Fin 1024) :
    iblk m c 4 t (ix2 0 q) = m ((c.tc : Thread nD τ).loc main_arg4) (ix1 q) := by
  blk_point [iblk, V, idx t]

/-- The output array after the run is `result`. -/
theorem final (c : Dev nD) : (dats m 0 c).arrAt 5 cfg0.N = result m c := by
  refine (dats m 0 c).arrAt_eq_of_covers 5 _ (by decide +kernel) fun t hf y => ?_
  blk_simp
  rw [after0_5]
  idx_vars y
  rw [out_apply]
  rw [show (fun q => iblk m c 0 t (ix2 y0 q)) = _ from funext fun q => blk_tokens m c t y0 q,
    show (fun q => iblk m c 1 t (ix2 0 q)) = _ from funext fun q => blk_scale m c t q,
    show (fun q k => iblk m c 2 t (ix2 q k)) = _ from funext fun q => funext fun k => blk_up m c t q k,
    show (fun k q => iblk m c 3 t (ix2 k q)) = _ from funext fun k => funext fun q => blk_down m c t k q,
    show (fun q => iblk m c 4 t (ix2 0 q)) = _ from funext fun q => blk_last m c t q]
  unfold result
  congr 1
  apply Fin.ext; blk_simp [idx t]

/-- The run: the result array is `result`, the arguments are as launched. -/
theorem run : θ_run defs (onTc (τ := τ) (main (F := 𝔼))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.FfnFinalIdeal.Hand

end
-- ==== Proof.FfnFinalRefValue.lean ====
/- The value of the reference of the feed-forward call with the last normalisation: its operations composed, row by row. -/
module

public import proofs.«01_k».proof.Proof.Gen.FfnFinalRefIdeal.Run
public import proofs.«01_k».proof.Proof.FfnMath

@[expose] public section

set_option maxRecDepth 16384

noncomputable section

namespace Cert.FfnFinalRefIdeal.Hand

open Cert.FfnFinalRefIdeal Cert.FfnFinalRefIdeal.Gen Idealize.ShloMosaic Idealize.SL.Sem Cert.FfnMath

/-- The float values read as extended reals. -/
local notation "𝔼" => Idealize.ShloMosaic.Ideal

/-- The reference's normalisation of an array `Y` with the scale `g`, row by row. -/
theorem normed_apply (Y : FVec 𝔼 S65536x1024 .f32) (g : FVec 𝔼 S1024 .f32) (a : Fin 65536) (b : Fin 1024) :
    mulf (mulf Y (broadcastInDim S65536x1024 ![0, 1] bcast_S65536x1_S65536x1024_0_1 (Host.rsqrt (addf (Host.divf
      (broadcastInDim S65536x1 ![0] bcast_S65536_S65536x1_0 (Host.reduceAdd (mulf Y Y) (constant S_ .f32 0x00000000#32)
        reducesTo_S65536x1024_S65536_d1 h_S_)) (broadcastInDim S65536x1 ![] bcast_S_S65536x1 (constant S_ .f32 0x44800000#32)))
      (broadcastInDim S65536x1 ![] bcast_S_S65536x1 (constant S_ .f32 0x358637BD#32))))))
      (broadcastInDim S65536x1024 ![0, 1] bcast_S1x1024_S65536x1024_0_1 (broadcastInDim S1x1024 ![1] bcast_S1024_S1x1024_1 g)) (ix2 a b)
      = rowNorm (fun q => Y (ix2 a q)) (fun q => g (ix1 q)) b := by
  pointwise [rowNorm]

variable (m : (ℓ : Loc nD τ sig) → Buf (Elt 𝔼) ℓ) (ρ : Dev nD → PrngReg)

/-- The result array: every row by `ffnFinalRow` of the argument arrays. -/
def result (c : Dev nD) : S65536x1024.Idx → EReal := fun j =>
  ffnFinalRow (fun q => m ((c.tc : Thread nD τ).loc main_arg0) (ix2 (j 0) q)) (fun q => m ((c.tc : Thread nD τ).loc main_arg1) (ix1 q))
    (fun q k => m ((c.tc : Thread nD τ).loc main_arg2) (ix2 q k)) (fun k q => m ((c.tc : Thread nD τ).loc main_arg3) (ix2 k q)) (fun q => m ((c.tc : Thread nD τ).loc main_arg4) (ix1 q)) (j 1)

/-- The reference's result array is `result`. -/
theorem res_eq (c : Dev nD) : Value.res_main_v32 m c = result m c := by
  funext j
  idx_vars j
  unfold result
  unfold Value.res_main_v32
  refine (normed_apply _ _ _ _).trans ?_
  unfold ffnFinalRow
  refine congrArg (fun z => rowNorm z _ j1) (funext fun q => ?_)
  pointwise [ffnRow, rowNorm, hiddenUnit, gate, lane, Ideal.logistic]

/-- The run: the result array is `result`, the arguments are as launched. -/
theorem run : θ_run defs (onTc (τ := τ) (main (F := 𝔼))) ⟨m, fun _ => 0, ρ⟩ fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run m ρ)
  exact res_eq m c

end Cert.FfnFinalRefIdeal.Hand

end
-- ==== Proof.RglruInMath.lean ====
/- The mathematics of the recurrent block's input call, one token at a time, over the extended reals: a projection of the
   normalised row, the gate's activation, and the order in which the call lays out the tokens of a tile. -/
module

public import proofs.«01_k».proof.Proof.FfnMath

@[expose] public section

noncomputable section

namespace Cert.RglruInMath

open Idealize.ShloMosaic Cert.FfnMath

/-- The token that row `r` of the result holds: in every tile of 256 tokens, the eight stretches of 32 tokens lie side by
    side, one step of each after the other. -/
def source (r : Fin 65536) : Fin 65536 := ⟨r.val / 256 * 256 + r.val % 8 * 32 + r.val / 8 % 32, by omega⟩

/-- The same inside one tile of 256 tokens. -/
def inTile (r : Fin 256) : Fin 256 := ⟨32 * (r.val % 8) + r.val / 8, by omega⟩

/-- Column `j` of the projection of the normalised row. -/
def proj (x g : Fin 1024 → EReal) (W : Fin 1024 → Fin 3072 → EReal) (j : Fin 3072) : EReal :=
  ∑ q, rowNorm x g q * W q j

/-- The activation of the gate: the Gaussian error linear unit by its hyperbolic tangent. -/
def gelu (v : EReal) : EReal :=
  v * (Ideal.ofBits FTy.f32 0x3F000000#32 * (1 + Ideal.tanh (Ideal.ofBits FTy.f32 0x3F4C422A#32
    * (v + Ideal.ofBits FTy.f32 0x3D372713#32 * (v * v * v)))))

/-- A sum of which one term alone is not zero. -/
theorem sum_pick {n : ℕ} (a : Fin n) (f : Fin n → EReal) : (∑ x, if x = a then f x else 0) = f a := by
  rw [Finset.sum_ite_eq' Finset.univ a f, if_pos (Finset.mem_univ a)]

end Cert.RglruInMath

end
-- ==== Proof.RglruInWords.lean ====
/- The words of the table that the recurrent block's input call multiplies its tokens by, checked entry by entry. -/
module

public import proofs.«01_k».proof.RglruInIdeal

@[expose] public section

set_option maxRecDepth 16384

noncomputable section

namespace Cert.RglruInIdeal.Hand

open Cert.RglruInIdeal Idealize.ShloMosaic

/-- The words of row `a`: one at the token that the row takes, zero elsewhere. -/
def RowWords (a : ℕ) : Prop :=
  ∀ b : Fin 256, lit0t (256 * a + b.val) = if b.val = 32 * (a % 8) + a / 8 then 0x3F80#16 else 0#16

instance (a : ℕ) : Decidable (RowWords a) :=
  inferInstanceAs (Decidable (∀ b : Fin 256, _))

/-- The first sixteen rows. -/
theorem words_0 : ∀ a : Fin 16, RowWords (16 * 0 + a.val) := by decide +kernel
/-- The second sixteen rows. -/
theorem words_1 : ∀ a : Fin 16, RowWords (16 * 1 + a.val) := by decide +kernel
/-- The third sixteen rows. -/
theorem words_2 : ∀ a : Fin 16, RowWords (16 * 2 + a.val) := by decide +kernel
/-- The fourth sixteen rows. -/
theorem words_3 : ∀ a : Fin 16, RowWords (16 * 3 + a.val) := by decide +kernel
/-- The fifth sixteen rows. -/
theorem words_4 : ∀ a : Fin 16, RowWords (16 * 4 + a.val) := by decide +kernel
/-- The sixth sixteen rows. -/
theorem words_5 : ∀ a : Fin 16, RowWords (16 * 5 + a.val) := by decide +kernel
/-- The seventh sixteen rows. -/
theorem words_6 : ∀ a : Fin 16, RowWords (16 * 6 + a.val) := by decide +kernel
/-- The eighth sixteen rows. -/
theorem words_7 : ∀ a : Fin 16, RowWords (16 * 7 + a.val) := by decide +kernel
/-- The ninth sixteen rows. -/
theorem words_8 : ∀ a : Fin 16, RowWords (16 * 8 + a.val) := by decide +kernel
/-- The tenth sixteen rows. -/
theorem words_9 : ∀ a : Fin 16, RowWords (16 * 9 + a.val) := by decide +kernel
/-- The eleventh sixteen rows. -/
theorem words_10 : ∀ a : Fin 16, RowWords (16 * 10 + a.val) := by decide +kernel
/-- The twelfth sixteen rows. -/
theorem words_11 : ∀ a : Fin 16, RowWords (16 * 11 + a.val) := by decide +kernel
/-- The thirteenth sixteen rows. -/
theorem words_12 : ∀ a : Fin 16, RowWords (16 * 12 + a.val) := by decide +kernel
/-- The fourteenth sixteen rows. -/
theorem words_13 : ∀ a : Fin 16, RowWords (16 * 13 + a.val) := by decide +kernel
/-- The fifteenth sixteen rows. -/
theorem words_14 : ∀ a : Fin 16, RowWords (16 * 14 + a.val) := by decide +kernel
/-- The last sixteen rows. -/
theorem words_15 : ∀ a : Fin 16, RowWords (16 * 15 + a.val) := by decide +kernel

/-- What holds of sixteen rows sixteen times holds of every row. -/
theorem of_sixteens (P : ℕ → Prop) (h : ∀ d : Fin 16, ∀ a : Fin 16, P (16 * d.val + a.val)) (a : Fin 256) : P a.val := by
  have := h ⟨a.val / 16, by omega⟩ ⟨a.val % 16, by omega⟩
  rwa [show 16 * (a.val / 16) + a.val % 16 = a.val by omega] at this

/-- The words of every row. -/
theorem words (a : Fin 256) : RowWords a.val := by
  refine of_sixteens RowWords (fun d => ?_) a
  fin_cases d
  · exact words_0
  · exact words_1
  · exact words_2
  · exact words_3
  · exact words_4
  · exact words_5
  · exact words_6
  · exact words_7
  · exact words_8
  · exact words_9
  · exact words_10
  · exact words_11
  · exact words_12
  · exact words_13
  · exact words_14
  · exact words_15

end Cert.RglruInIdeal.Hand

end
-- ==== Proof.RglruInTable.lean ====
/- The table that the recurrent block's input call multiplies its tokens by: a one in each row, at the token that the row
   takes, and zeros elsewhere. -/
module

public import proofs.«01_k».proof.Proof.RglruInWords
public import proofs.«01_k».proof.Proof.RglruInMath

@[expose] public section

set_option maxRecDepth 16384

noncomputable section

namespace Cert.RglruInIdeal.Hand

open Cert.RglruInIdeal Idealize.ShloMosaic Cert.RglruInMath

/-- The table as extended reals. -/
theorem table_apply (a b : Fin 256) :
    (FloatOps.ofBits (F := Ideal) .bf16 (lit0 (S256x256.rowMajor (ix2 a b))) : EReal) = if b = inTile a then 1 else 0 := by
  have h : lit0 (S256x256.rowMajor (ix2 a b)) = lit0t (256 * a.val + b.val) := by
    show lit0t (S256x256.rowMajor (ix2 a b)).val = _
    congr 1
    rw [Shape.rowMajor_val_two]
    simp [ix2, Nat.mul_comm]
  rw [h, words a b]
  have hi : b = inTile a ↔ b.val = 32 * (a.val % 8) + a.val / 8 := by
    rw [Fin.ext_iff]; rfl
  by_cases hb : b.val = 32 * (a.val % 8) + a.val / 8
  · rw [if_pos hb, if_pos (hi.mpr hb)]
    exact Ideal.ofBits_one_bf16
  · rw [if_neg hb, if_neg (fun h => hb (hi.mp h))]
    exact Ideal.ofBits_zero_bf16

end Cert.RglruInIdeal.Hand

end
-- ==== Proof.RglruInValue.lean ====
/- The value of the recurrent block's input call: what a grid point leaves in its two blocks, the two arrays after the run,
   and the run with the results named row by row. -/
module

public import proofs.«01_k».proof.Proof.Gen.RglruInIdeal.Value
public import proofs.«01_k».proof.Proof.RglruInMath
public import proofs.«01_k».proof.Proof.RglruInTable

@[expose] public section

set_option maxRecDepth 16384

noncomputable section

namespace Cert.RglruInIdeal.Hand

open Cert.RglruInIdeal Cert.RglruInIdeal.Gen Idealize.ShloMosaic Idealize.SL.Sem Cert.FfnMath Cert.RglruInMath

/-- The float values read as extended reals. -/
local notation "𝔼" => Idealize.ShloMosaic.Ideal

/-- The row of a grid point's block of tokens that row `r` of its result holds. -/
def inBlock (r : Fin 512) : Fin 512 := ⟨256 * (r.val / 256) + 32 * (r.val % 8) + r.val % 256 / 8, by omega⟩

/-- The normalised block of a grid point with its rows in the table's order. -/
theorem normed_apply (x0 : Vec 𝔼 S512x1024 .f32) (x1 : Vec 𝔼 S1x1024 .f32) (x3 : Vec 𝔼 S256x256 .bf16)
    (h3 : ∀ a b : Fin 256, x3 (ix2 a b) = if b = inTile a then (1 : EReal) else 0) (r : Fin 512) (k : Fin 1024) :
    k0_pay2 (View.ld x0 r0_0) (View.ld x1 r0_1) (View.ld x3 r0_2) (View.ld x3 r0_2) (ix2 r k)
      = rowNorm (fun q => x0 (ix2 (inBlock r) q)) (fun q => x1 (ix2 0 q)) k := by
  unfold k0_pay2 rowNorm
  pointwise
  simp only [h3, ite_mul, zero_mul, one_mul, zero_add]
  split <;> rename_i h
  · have e : (⟨(inTile ⟨r.val, h⟩).val, by omega⟩ : Fin 512) = inBlock r := by
      apply Fin.ext; simp only [inTile, inBlock]; omega
    exact (sum_pick (inTile ⟨r.val, h⟩) fun z => rowNorm (fun q => x0 (ix2 ⟨z.val, by omega⟩ q)) (fun q => x1 (ix2 0 q)) k).trans
      (congrArg (fun z : Fin 512 => rowNorm (fun q => x0 (ix2 z q)) (fun q => x1 (ix2 0 q)) k) e)
  · have e : (⟨256 + (inTile ⟨r.val - 256, by omega⟩).val, by omega⟩ : Fin 512) = inBlock r := by
      apply Fin.ext; simp only [inTile, inBlock]; omega
    exact (sum_pick (inTile ⟨r.val - 256, by omega⟩) fun z => rowNorm (fun q => x0 (ix2 ⟨256 + z.val, by omega⟩ q)) (fun q => x1 (ix2 0 q)) k).trans
      (congrArg (fun z : Fin 512 => rowNorm (fun q => x0 (ix2 z q)) (fun q => x1 (ix2 0 q)) k) e)

/-- What a grid point leaves in its block of the recurrence's branch. -/
theorem out_branch (x0 : Vec 𝔼 S512x1024 .f32) (x1 : Vec 𝔼 S1x1024 .f32) (x2 : Vec 𝔼 S1024x3072 .bf16) (x3 : Vec 𝔼 S256x256 .bf16)
    (h3 : ∀ a b : Fin 256, x3 (ix2 a b) = if b = inTile a then (1 : EReal) else 0) (r : Fin 512) (j : Fin 1536) :
    out0_4 x0 x1 x2 x3 (ix2 r j)
      = proj (fun q => x0 (ix2 (inBlock r) q)) (fun q => x1 (ix2 0 q)) (fun q k => x2 (ix2 q k)) ⟨j.val, by omega⟩ := by
  have hn := normed_apply x0 x1 x3 h3 r
  unfold out0_4
  rw [View.canon_unit_zero (h := by ext a; fin_cases a <;> rfl)]
  unfold k0_pay3 proj
  generalize k0_pay2 (View.ld x0 r0_0) (View.ld x1 r0_1) (View.ld x3 r0_2) (View.ld x3 r0_2) = xn at hn ⊢
  pointwise
  simp only [hn]

/-- What a grid point leaves in its block of the gate's branch. -/
theorem out_gate (x0 : Vec 𝔼 S512x1024 .f32) (x1 : Vec 𝔼 S1x1024 .f32) (x2 : Vec 𝔼 S1024x3072 .bf16) (x3 : Vec 𝔼 S256x256 .bf16)
    (h3 : ∀ a b : Fin 256, x3 (ix2 a b) = if b = inTile a then (1 : EReal) else 0) (r : Fin 512) (j : Fin 1536) :
    out0_5 x0 x1 x2 x3 (ix2 r j)
      = gelu (proj (fun q => x0 (ix2 (inBlock r) q)) (fun q => x1 (ix2 0 q)) (fun q k => x2 (ix2 q k)) ⟨1536 + j.val, by omega⟩) := by
  have hn := normed_apply x0 x1 x3 h3 r
  unfold out0_5
  rw [View.canon_unit_zero (h := by ext a; fin_cases a <;> rfl)]
  unfold k0_pay5 k0_pay4 k0_pay1 k0_pay6 proj gelu
  generalize k0_pay2 (View.ld x0 r0_0) (View.ld x1 r0_1) (View.ld x3 r0_2) (View.ld x3 r0_2) = xn at hn ⊢
  pointwise
  simp only [hn]

variable (m : (ℓ : Loc nD τ sig) → Buf (Elt 𝔼) ℓ) (ρ : Dev nD → PrngReg)

/-- The array of the recurrence's branch: every row by `proj` of the token it holds. -/
def branch (c : Dev nD) : S65536x1536.Idx → EReal := fun j =>
  proj (fun q => m ((c.tc : Thread nD τ).loc main_arg0) (ix2 (source (j 0)) q)) (fun q => m ((c.tc : Thread nD τ).loc main_arg1) (ix1 q))
    (fun q k => m ((c.tc : Thread nD τ).loc main_arg2) (ix2 q k)) ⟨(j 1).val, by have := (j 1).isLt; simp at this; omega⟩

/-- The array of the gate's branch: every row by `gelu` of `proj` of the token it holds. -/
def gated (c : Dev nD) : S65536x1536.Idx → EReal := fun j =>
  gelu (proj (fun q => m ((c.tc : Thread nD τ).loc main_arg0) (ix2 (source (j 0)) q)) (fun q => m ((c.tc : Thread nD τ).loc main_arg1) (ix1 q))
    (fun q k => m ((c.tc : Thread nD τ).loc main_arg2) (ix2 q k)) ⟨1536 + (j 1).val, by have := (j 1).isLt; simp at this; omega⟩)

/-- The block index of every window at every grid point: the tokens and the results move with the point, the scale, the
    weights and the table stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The token that row `r` of a grid point's result holds. -/
theorem blk_tokens (c : Dev nD) (t : Fin cfg0.N) (r : Fin 512) (q : Fin 1024) :
    iblk m c 0 t (ix2 (inBlock r) q)
      = m ((c.tc : Thread nD τ).loc main_arg0) (ix2 (source (((cfg0.win 4).blk t).view.emb (ix2 r (0 : Fin 1536)) 0)) q) := by
  blk_point [iblk, V, idx t, inBlock, source]

/-- The scale's block is the whole scale. -/
theorem blk_scale (c : Dev nD) (t : Fin cfg0.N) (q : Fin 1024) :
    iblk m c 1 t (ix2 0 q) = m ((c.tc : Thread nD τ).loc main_arg1) (ix1 q) := by
  blk_point [iblk, V, idx t]

/-- The weights' block is the whole weight array. -/
theorem blk_weights (c : Dev nD) (t : Fin cfg0.N) (q : Fin 1024) (k : Fin 3072) :
    iblk m c 2 t (ix2 q k) = m ((c.tc : Thread nD τ).loc main_arg2) (ix2 q k) := by
  blk_point [iblk, V, idx t]

/-- The table's block is the whole table. -/
theorem blk_table (c : Dev nD) (t : Fin cfg0.N) (a b : Fin 256) :
    iblk m c 3 t (ix2 a b) = if b = inTile a then (1 : EReal) else 0 := by
  rw [← table_apply a b]
  blk_point [iblk, V, idx t]

/-- The array of the recurrence's branch after the run. -/
theorem final_branch (c : Dev nD) : (dats m 0 c).arrAt 4 cfg0.N = branch m c := by
  refine (dats m 0 c).arrAt_eq_of_covers 4 _ (by decide +kernel) fun t hf y => ?_
  blk_simp
  rw [after0_4]
  idx_vars y
  rw [out_branch _ _ _ _ (blk_table m c t)]
  rw [show (fun q => iblk m c 0 t (ix2 (inBlock y0) q)) = _ from funext fun q => blk_tokens m c t y0 q,
    show (fun q => iblk m c 1 t (ix2 0 q)) = _ from funext fun q => blk_scale m c t q,
    show (fun q k => iblk m c 2 t (ix2 q k)) = _ from funext fun q => funext fun k => blk_weights m c t q k]
  unfold branch
  congr 1
  apply Fin.ext; blk_simp [idx t]

/-- The array of the gate's branch after the run. -/
theorem final_gated (c : Dev nD) : (dats m 0 c).arrAt 5 cfg0.N = gated m c := by
  refine (dats m 0 c).arrAt_eq_of_covers 5 _ (by decide +kernel) fun t hf y => ?_
  blk_simp
  rw [after0_5]
  idx_vars y
  rw [out_gate _ _ _ _ (blk_table m c t)]
  rw [show (fun q => iblk m c 0 t (ix2 (inBlock y0) q)) = _ from funext fun q => blk_tokens m c t y0 q,
    show (fun q => iblk m c 1 t (ix2 0 q)) = _ from funext fun q => blk_scale m c t q,
    show (fun q k => iblk m c 2 t (ix2 q k)) = _ from funext fun q => funext fun k => blk_weights m c t q k]
  unfold gated
  congr 2
  apply Fin.ext; blk_simp [idx t]

/-- The run: the two result arrays are `branch` and `gated`, the arguments are as launched. -/
theorem run : θ_run defs (onTc (τ := τ) (main (F := 𝔼))) ⟨m, fun _ => 0, ρ⟩ fun r => ∀ c : Dev nD,
      r.2.mem ((c.tc : Thread nD τ).loc main_v2_0) = branch m c
      ∧ r.2.mem ((c.tc : Thread nD τ).loc main_v2_1) = gated m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_branch m c), (h c).2.1.trans (final_gated m c), (h c).2.2⟩)
    (Value.run_blocks m ρ)

end Cert.RglruInIdeal.Hand

end
-- ==== Proof.RglruInRefValue.lean ====
/- The value of the reference of the recurrent block's input call: its operations composed, row by row. -/
module

public import proofs.«01_k».proof.Proof.Gen.RglruInRefIdeal.Run
public import proofs.«01_k».proof.Proof.RglruInMath

@[expose] public section

set_option maxRecDepth 16384

noncomputable section

namespace Cert.RglruInRefIdeal.Hand

open Cert.RglruInRefIdeal Cert.RglruInRefIdeal.Gen Idealize.ShloMosaic Idealize.SL.Sem Cert.FfnMath Cert.RglruInMath

/-- The float values read as extended reals. -/
local notation "𝔼" => Idealize.ShloMosaic.Ideal

variable (m : (ℓ : Loc nD τ sig) → Buf (Elt 𝔼) ℓ) (ρ : Dev nD → PrngReg)

/-- The array of the recurrence's branch: every row by `proj` of the token it holds. -/
def branch (c : Dev nD) : S65536x1536.Idx → EReal := fun j =>
  proj (fun q => m ((c.tc : Thread nD τ).loc main_arg0) (ix2 (source (j 0)) q)) (fun q => m ((c.tc : Thread nD τ).loc main_arg1) (ix1 q))
    (fun q k => m ((c.tc : Thread nD τ).loc main_arg2) (ix2 q k)) ⟨(j 1).val, by have := (j 1).isLt; simp at this; omega⟩

/-- The array of the gate's branch: every row by `gelu` of `proj` of the token it holds. -/
def gated (c : Dev nD) : S65536x1536.Idx → EReal := fun j =>
  gelu (proj (fun q => m ((c.tc : Thread nD τ).loc main_arg0) (ix2 (source (j 0)) q)) (fun q => m ((c.tc : Thread nD τ).loc main_arg1) (ix1 q))
    (fun q k => m ((c.tc : Thread nD τ).loc main_arg2) (ix2 q k)) ⟨1536 + (j 1).val, by have := (j 1).isLt; simp at this; omega⟩)

/-- The run: the two result arrays are `branch` and `gated`, the arguments are as launched. -/
theorem run : θ_run defs (onTc (τ := τ) (main (F := 𝔼))) ⟨m, fun _ => 0, ρ⟩ fun r => ∀ c : Dev nD,
      r.2.mem ((c.tc : Thread nD τ).loc main_v19) = branch m c
      ∧ r.2.mem ((c.tc : Thread nD τ).loc main_v36) = gated m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run m ρ)
  · funext j
    idx_vars j
    unfold branch
    pointwise [proj, rowNorm, source]
  · funext j
    idx_vars j
    unfold gated Value.res_main_v36
    pointwise [proj, rowNorm, gelu, source]

end Cert.RglruInRefIdeal.Hand

end
-- ==== Proof.ProjMath.lean ====
/- The mathematics of the two projection calls of the attention block, one token at a time, over the extended reals: a
   column of a projection of the normalised row, and a head turned by its position. -/
module

public import proofs.«01_k».proof.Proof.FfnMath

@[expose] public section

noncomputable section

namespace Cert.ProjMath

open Idealize.ShloMosaic Cert.FfnMath

/-- One column `w` of a projection of the normalised row. -/
def column (x g w : Fin 1024 → EReal) : EReal := ∑ q, rowNorm x g q * w q

/-- A head of 128 lanes turned by its position, by the call's three tables: the cosines, and the sines that lane `j` takes
    with the lane 12 further on and with the lane 12 before. -/
def turned (k cos sinA sinB : Fin 128 → EReal) (j : Fin 128) : EReal :=
  k j * cos j + k ⟨(j.val + 12) % 128, by omega⟩ * sinA j + k ⟨(j.val + 116) % 128, by omega⟩ * sinB j

/-- A column of zeros leaves nothing. -/
theorem column_zero (x g : Fin 1024 → EReal) : column x g (fun _ => 0) = 0 := by
  unfold column
  exact Finset.sum_eq_zero fun q _ => mul_zero _

/-- The angle by which pair `i` of a head's lanes is turned at position `p`. -/
def angle (p i : ℕ) : EReal :=
  (FloatOps.sitofp (F := Ideal) .f32 (BitVec.ofNat 32 p) : EReal)
    * Ideal.pow (Ideal.ofBits .f32 1223959552#32)
        (Ideal.div (-(FloatOps.sitofp (F := Ideal) .f32 (BitVec.ofNat 32 i) : EReal) * Ideal.ofBits .f32 1073741824#32)
          (Ideal.ofBits .f32 1103101952#32))

/-- A head of 96 lanes padded to 128 and turned by its position `p`: the first 24 lanes are twelve pairs, lane `l` with lane
    `12 + l`, each turned by its angle; the next 72 lanes are kept; the last 32 are zero. -/
def roped (k : Fin 96 → EReal) (p : ℕ) (l : Fin 128) : EReal :=
  if h : l.val < 96 then
    if h₁ : l.val < 24 then
      if h₂ : l.val < 12 then
        k ⟨l.val, h⟩ * Ideal.cos (angle p l.val) - k ⟨12 + l.val, by omega⟩ * Ideal.sin (angle p l.val)
      else k ⟨l.val, h⟩ * Ideal.cos (angle p (l.val - 12)) + k ⟨l.val - 12, by omega⟩ * Ideal.sin (angle p (l.val - 12))
    else k ⟨l.val, h⟩
  else 0

/-- With the call's tables at one position, and zeros in the last 32 lanes, the call's turning of 128 lanes is `roped`. -/
theorem turned_roped (k : Fin 96 → EReal) (k' cos sinA sinB : Fin 128 → EReal) (p : ℕ)
    (hk : ∀ l, k' l = if h : l.val < 96 then k ⟨l.val, h⟩ else 0)
    (hc : ∀ l, cos l = if l.val < 12 then Ideal.cos (angle p l.val) else if l.val - 12 < 12 then Ideal.cos (angle p (l.val - 12)) else 1)
    (hA : ∀ l, sinA l = if l.val < 12 then -Ideal.sin (angle p l.val) else 0)
    (hB : ∀ l, sinB l = if l.val < 12 then 0 else if l.val - 12 < 12 then Ideal.sin (angle p (l.val - 12)) else 0)
    (l : Fin 128) : turned k' cos sinA sinB l = roped k p l := by
  unfold turned roped
  rw [hk l, hc l, hA l, hB l]
  by_cases h : l.val < 96
  · rw [dif_pos h, dif_pos h]
    by_cases h₁ : l.val < 24
    · rw [dif_pos h₁]
      by_cases h₂ : l.val < 12
      · rw [dif_pos h₂, if_pos h₂, if_pos h₂, if_pos h₂, mul_zero, add_zero, mul_neg, ← sub_eq_add_neg, hk, dif_pos (by dsimp only; omega)]
        congr 3
        apply Fin.ext
        dsimp only
        omega
      · rw [dif_neg h₂, if_neg h₂, if_neg h₂, if_neg h₂, if_pos (by omega), if_pos (by omega), mul_zero, add_zero, hk,
          dif_pos (by dsimp only; omega)]
        congr 3
        apply Fin.ext
        dsimp only
        omega
    · rw [dif_neg h₁, if_neg (by omega), if_neg (by omega), if_neg (by omega), if_neg (by omega), if_neg (by omega), mul_zero, mul_zero,
        mul_one, add_zero, add_zero]
  · rw [dif_neg h, dif_neg h, if_neg (by omega), if_neg (by omega), if_neg (by omega), if_neg (by omega), if_neg (by omega), mul_zero,
      mul_zero, zero_mul, add_zero, add_zero]

/-- The integer zero as an extended real. -/
theorem sitofp_zero : (FloatOps.sitofp (F := Ideal) .f32 0#32 : EReal) = 0 := by
  simp [FloatOps.sitofp]

/-- Two entries of one row agree if their columns have the same number. -/
theorem at_lane {n0 n1 : ℕ} (f : (⟨2, ![n0, n1]⟩ : Shape).Idx → EReal) (a : Fin n0) {b b' : Fin n1} (h : b.val = b'.val) :
    f (ix2 a b) = f (ix2 a b') := by rw [Fin.ext h]

/-- A value that a store writes at an entry of its piece, against a function of the whole block's entries. -/
theorem at_piece {d0 d1 n0 n1 o0 o1 : ℕ} (G : Fin d0 → Fin d1 → EReal)
    (inb : ∀ a, (![o0, o1] : Fin 2 → ℕ) a + (![n0, n1] : Fin 2 → ℕ) a ≤ (⟨2, ![d0, d1]⟩ : Shape).size a) (a : Fin n0) (b : Fin n1) (v : EReal)
    (h0 : o0 + n0 ≤ d0) (h1 : o1 + n1 ≤ d1) (h : v = G ⟨o0 + a.val, by omega⟩ ⟨o1 + b.val, by omega⟩) :
    v = G ((Rect.unit (s := ⟨2, ![d0, d1]⟩) ![o0, o1] ![n0, n1] inb).emb (ix2 a b) 0)
      ((Rect.unit (s := ⟨2, ![d0, d1]⟩) ![o0, o1] ![n0, n1] inb).emb (ix2 a b) 1) := by
  rw [h]
  refine congrArg₂ G (Fin.ext ?_) (Fin.ext ?_)
  · show o0 + a.val = o0 + 1 * a.val
    omega
  · show o1 + b.val = o1 + 1 * b.val
    omega

end Cert.ProjMath

end
-- ==== Proof.KvProjMath.lean ====
/- The mathematics of the call that projects the tokens to keys and values: its six results entry by entry, from the tokens,
   the scale of the normalisation and the weights. -/
module

public import proofs.«01_k».proof.Proof.ProjMath

@[expose] public section

noncomputable section

namespace Cert.KvProjMath

open Idealize.ShloMosaic Cert.FfnMath Cert.ProjMath

variable (H : (⟨2, ![65536, 1024]⟩ : Shape).Idx → EReal) (G : (⟨1, ![1024]⟩ : Shape).Idx → EReal)
  (W : (⟨2, ![1024, 1920]⟩ : Shape).Idx → EReal)

/-- Column `o` of the projection of token `t`. -/
def entry (t : Fin 65536) (o : Fin 1920) : EReal :=
  column (fun q => H (ix2 t q)) (fun q => G (ix1 q)) (fun q => W (ix2 q o))

/-- The keys of a token, four heads of 96 columns from `o` on, each turned by the token's position in its sequence and padded to
    128 lanes. -/
def keys (o : ℕ) (ho : o + 384 ≤ 1920) (t : Fin 65536) (j : Fin 512) : EReal :=
  roped (fun l => entry H G W t ⟨o + (j.val / 128 * 96 + l.val), by omega⟩) (t.val % 2048) ⟨j.val % 128, by omega⟩

/-- The values of a sequence, transposed: four heads of 80 rows per sequence, of which 64 are columns from `o` on, one is of
    ones and fifteen are of zeros. -/
def values (o : ℕ) (ho : o + 256 ≤ 1920) (r : Fin 10240) (s : Fin 2048) : EReal :=
  if h : r.val % 80 < 64 then
    entry H G W ⟨r.val / 320 * 2048 + s.val, by omega⟩ ⟨o + (r.val / 80 % 4 * 64 + r.val % 80), by omega⟩
  else if r.val % 80 = 64 then 1 else 0

end Cert.KvProjMath

end
-- ==== Proof.KvProjValue.lean ====
/- The value of the call that projects keys and values: what a grid point leaves in its six blocks, the six arrays after the
   run, and the run with the results named entry by entry. -/
module

public import proofs.«01_k».proof.Proof.Gen.KvProjIdeal.Value
public import proofs.«01_k».proof.Proof.ProjMath
public import Idealize.ShloMosaic.Lib.WholeRead

@[expose] public section

set_option maxRecDepth 16384

noncomputable section

namespace Cert.KvProjIdeal.Hand

open Cert.KvProjIdeal Cert.KvProjIdeal.Gen Idealize.ShloMosaic Idealize.ShloMosaic.TcCoe Idealize.SL.Sem Cert.FfnMath Cert.ProjMath

/-- The float values read as extended reals. -/
local notation "𝔼" => Idealize.ShloMosaic.Ideal

/-- A load of a block held whole is the load of its contents. -/
theorem load {s : Shape} {e : EltTy} {a : Memref sig .tc .vmem s e} (h : a.IsWhole) (x : s.Idx → Elt 𝔼 e) (r : Rect s) :
    View.readAt (Elt 𝔼) a.view r.toLoadRect (h.unread x) = View.ld x r := funext fun y => h.readAt_unread x _ y

/-- The normalised block. -/
theorem normed_apply (x0 : Vec 𝔼 S512x1024 .f32) (x1 : Vec 𝔼 S1x1024 .f32) (r : Fin 512) (k : Fin 1024) :
    k0_pay5 (View.ld x0 (Rect.unit ![0, 0] ![512, 1024] inb_S512x1024_S512x1024_0_0))
        (View.ld x1 (Rect.unit ![0, 0] ![1, 1024] inb_S1x1024_S1x1024_0_0)) (ix2 r k)
      = rowNorm (fun q => x0 (ix2 r q)) (fun q => x1 (ix2 0 q)) k := by
  unfold k0_pay5 rowNorm
  pointwise

/-- The sixteen rows below a head's values. -/
theorem pad_row (a : Fin 16) :
    Scalar.select (IntOp.cmpi .eq (BitVec.ofNat 32 a.val) 0#32) (1 : EReal) 0 = if a.val = 0 then 1 else 0 := by
  fin_cases a <;> rfl

/-- Lane `l` of a head of keys in a grid point's block: head `h` of those whose columns begin at `o`. -/
def blockKeys (o : ℕ) (ho : o + 512 ≤ 1664) (x0 : Vec 𝔼 S512x1024 .f32) (x1 : Vec 𝔼 S1x1024 .f32) (x2 : Vec 𝔼 S1024x1664 .bf16)
    (x4 x5 x6 : Vec 𝔼 S512x128 .f32) (r : Fin 512) (j : Fin 512) : EReal :=
  turned (fun l => column (fun q => x0 (ix2 r q)) (fun q => x1 (ix2 0 q)) (fun q => x2 (ix2 q ⟨o + (j.val / 128 * 128 + l.val), by omega⟩)))
    (fun l => x4 (ix2 r l)) (fun l => x5 (ix2 r l)) (fun l => x6 (ix2 r l)) ⟨j.val % 128, by omega⟩

/-- Row `r` of the values in a grid point's block, transposed: of the 80 rows of a head the first 64 are its values, from the
    weights' rows that begin at `o`, then one row of ones and fifteen of zeros. -/
def blockValues (o : ℕ) (ho : o + 256 ≤ 512) (x0 : Vec 𝔼 S512x1024 .f32) (x1 : Vec 𝔼 S1x1024 .f32) (x3 : Vec 𝔼 S512x1024 .bf16)
    (r : Fin 320) (j : Fin 512) : EReal :=
  if h : r.val % 80 < 64 then
    column (fun q => x0 (ix2 j q)) (fun q => x1 (ix2 0 q)) (fun q => x3 (ix2 ⟨o + (r.val / 80 * 64 + r.val % 80), by omega⟩ q))
  else if r.val % 80 = 64 then 1 else 0

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1664 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x384 .bf16) (harg8 : arg8.IsWhole) (arg9 : Memref sig .tc .vmem S512x256 .bf16) (harg9 : arg9.IsWhole) (arg10 : Memref sig .tc .vmem S512x512 .bf16) (harg10 : arg10.IsWhole) (arg11 : Memref sig .tc .vmem S320x512 .bf16) (harg11 : arg11.IsWhole) (arg12 : Memref sig .tc .vmem S512x512 .bf16) (harg12 : arg12.IsWhole) (arg13 : Memref sig .tc .vmem S320x512 .bf16) (harg13 : arg13.IsWhole)
  (x0 : Vec 𝔼 S512x1024 .f32) (x1 : Vec 𝔼 S1x1024 .f32) (x2 : Vec 𝔼 S1024x1664 .bf16) (x3 : Vec 𝔼 S512x1024 .bf16) (x4 : Vec 𝔼 S512x128 .f32) (x5 : Vec 𝔼 S512x128 .f32) (x6 : Vec 𝔼 S512x128 .f32)

/-- The block of the keys to compress. -/
theorem out_kcmp (r : Fin 512) (j : Fin 384) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j)
      = column (fun q => x0 (ix2 r q)) (fun q => x1 (ix2 0 q)) (fun q => x2 (ix2 q ⟨j.val, by omega⟩)) := by
  have hn := normed_apply x0 x1 r
  unfold out0_A_7
  rw [View.read_writes_junk_eq_canon]
  unfold kernelRun0_A
  dsimp only
  rw [View.canon_unit_zero (h := by ext a; fin_cases a <;> rfl)]
  simp only [load]
  unfold k0_pay6 column
  generalize k0_pay5 (F := 𝔼) _ _ = xn at hn ⊢
  pointwise
  simp only [hn]

/-- The block of the values to compress. -/
theorem out_vcmp (r : Fin 512) (j : Fin 256) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j)
      = column (fun q => x0 (ix2 r q)) (fun q => x1 (ix2 0 q)) (fun q => x2 (ix2 q ⟨384 + j.val, by omega⟩)) := by
  have hn := normed_apply x0 x1 r
  unfold out0_A_8
  rw [View.read_writes_junk_eq_canon]
  unfold kernelRun0_A
  dsimp only
  rw [View.canon_unit_zero (h := by ext a; fin_cases a <;> rfl)]
  simp only [load]
  unfold k0_pay7 column
  generalize k0_pay5 (F := 𝔼) _ _ = xn at hn ⊢
  pointwise
  simp only [hn]

/-- The block of the selected keys. -/
theorem out_ks (r : Fin 512) (j : Fin 512) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j)
      = blockKeys 640 (by omega) x0 x1 x2 x4 x5 x6 r j := by
  have hn := normed_apply x0 x1
  unfold out0_A_9
  rw [View.read_writes_junk_eq_canon]
  refine View.canon_apply_of_pieces (fun y : S512x512.Idx => blockKeys 640 (by omega) x0 x1 x2 x4 x5 x6 (y 0) (y 1)) _ ?_ (ix2 r j)
    (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j))
  unfold kernelRun0_A
  dsimp only
  unfold kernelRun0_A.sl.r_8 kernelRun0_A.sl.r_7 kernelRun0_A.sl.r_6 kernelRun0_A.sl.r_5 kernelRun0_A.sl.r_4 kernelRun0_A.sl.r
  simp only [load, List.forall_mem_cons]
  refine ⟨?_, ?_, ?_, ?_, fun p hp => absurd hp List.not_mem_nil⟩
  all_goals
    intro x
    idx_vars x
    refine at_piece (blockKeys 640 (by omega) _ _ _ _ _ _) _ _ _ _ (by omega) (by omega) ?_
    generalize k0_pay5 (F := 𝔼) _ _ = xn at hn ⊢
    pointwise [k0_pay20, k0_pay21, k0_pay22, k0_pay23, k0_pay24, k0_pay25, k0_pay26, k0_pay27, blockKeys, turned, column]
    simp only [hn]
    refine congrArg₂ (· + ·) (congrArg₂ (· + ·) (congrArg₂ (· * ·) (Finset.sum_congr rfl fun q _ => ?_) ?_)
      (congrArg₂ (· * ·) (Finset.sum_congr rfl fun q _ => ?_) ?_)) (congrArg₂ (· * ·) (Finset.sum_congr rfl fun q _ => ?_) ?_)
    all_goals
      first
        | refine congrArg (_ * ·) (at_lane x2 q ?_)
        | refine at_lane _ x0 ?_
      dsimp only
      omega

/-- The block of the selected values. -/
theorem out_vs (r : Fin 320) (j : Fin 512) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j)
      = blockValues 0 (by omega) x0 x1 x3 r j := by
  have hn := normed_apply x0 x1
  unfold out0_A_10
  rw [View.read_writes_junk_eq_canon]
  refine View.canon_apply_of_pieces (fun y : S320x512.Idx => blockValues 0 (by omega) x0 x1 x3 (y 0) (y 1)) _ ?_ (ix2 r j)
    (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j))
  unfold kernelRun0_A
  dsimp only
  unfold kernelRun0_A.sl.r_1 kernelRun0_A.sl.r
  simp only [load, List.forall_mem_cons]
  refine ⟨?_, ?_, ?_, ?_, ?_, ?_, ?_, ?_, fun p hp => absurd hp List.not_mem_nil⟩
  all_goals
    intro x
    idx_vars x
    refine at_piece (blockValues 0 (by omega) _ _ _) _ _ _ _ (by omega) (by omega) ?_
  case refine_2 | refine_4 | refine_6 | refine_8 =>
    generalize k0_pay5 (F := 𝔼) _ _ = xn at hn ⊢
    pointwise [k0_pay8, k0_pay9, k0_pay10, k0_pay11, k0_pay12, k0_pay13, k0_pay14, blockValues, column]
    simp only [hn]
    rw [dif_pos (by omega)]
    refine Finset.sum_congr rfl fun q _ => ?_
    rw [mul_comm]
    congr! 4
    omega
  all_goals
    pointwise [k0_pay8, k0_pay9, k0_pay10, k0_pay11, k0_pay12, k0_pay13, k0_pay14, blockValues]
    rw [dif_neg (by omega), pad_row]
    exact if_congr (by omega) rfl rfl

/-- The block of the keys of the window. -/
theorem out_kw (r : Fin 512) (j : Fin 512) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j)
      = blockKeys 1152 (by omega) x0 x1 x2 x4 x5 x6 r j := by
  have hn := normed_apply x0 x1
  unfold out0_A_11
  rw [View.read_writes_junk_eq_canon]
  refine View.canon_apply_of_pieces (fun y : S512x512.Idx => blockKeys 1152 (by omega) x0 x1 x2 x4 x5 x6 (y 0) (y 1)) _ ?_ (ix2 r j)
    (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j))
  unfold kernelRun0_A
  dsimp only
  unfold kernelRun0_A.sl.r_11 kernelRun0_A.sl.r_10 kernelRun0_A.sl.r_9 kernelRun0_A.sl.r_6 kernelRun0_A.sl.r_5 kernelRun0_A.sl.r_4 kernelRun0_A.sl.r
  simp only [load, List.forall_mem_cons]
  refine ⟨?_, ?_, ?_, ?_, fun p hp => absurd hp List.not_mem_nil⟩
  all_goals
    intro x
    idx_vars x
    refine at_piece (blockKeys 1152 (by omega) _ _ _ _ _ _) _ _ _ _ (by omega) (by omega) ?_
    generalize k0_pay5 (F := 𝔼) _ _ = xn at hn ⊢
    pointwise [k0_pay1, k0_pay2, k0_pay3, k0_pay4, k0_pay20, k0_pay21, k0_pay22, k0_pay28, k0_pay29, k0_pay30, k0_pay31, blockKeys, turned, column]
    simp only [hn]
    refine congrArg₂ (· + ·) (congrArg₂ (· + ·) (congrArg₂ (· * ·) (Finset.sum_congr rfl fun q _ => ?_) ?_)
      (congrArg₂ (· * ·) (Finset.sum_congr rfl fun q _ => ?_) ?_)) (congrArg₂ (· * ·) (Finset.sum_congr rfl fun q _ => ?_) ?_)
    all_goals
      first
        | refine congrArg (_ * ·) (at_lane x2 q ?_)
        | refine at_lane _ x0 ?_
      dsimp only
      omega

/-- The block of the values of the window. -/
theorem out_vw (r : Fin 320) (j : Fin 512) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j)
      = blockValues 256 (by omega) x0 x1 x3 r j := by
  have hn := normed_apply x0 x1
  unfold out0_A_12
  rw [View.read_writes_junk_eq_canon]
  refine View.canon_apply_of_pieces (fun y : S320x512.Idx => blockValues 256 (by omega) x0 x1 x3 (y 0) (y 1)) _ ?_ (ix2 r j)
    (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r j))
  unfold kernelRun0_A
  dsimp only
  unfold kernelRun0_A.sl.r_3 kernelRun0_A.sl.r_2 kernelRun0_A.sl.r
  simp only [load, List.forall_mem_cons]
  refine ⟨?_, ?_, ?_, ?_, ?_, ?_, ?_, ?_, fun p hp => absurd hp List.not_mem_nil⟩
  all_goals
    intro x
    idx_vars x
    refine at_piece (blockValues 256 (by omega) _ _ _) _ _ _ _ (by omega) (by omega) ?_
  case refine_2 | refine_4 | refine_6 | refine_8 =>
    generalize k0_pay5 (F := 𝔼) _ _ = xn at hn ⊢
    pointwise [k0_pay8, k0_pay15, k0_pay16, k0_pay17, k0_pay18, k0_pay19, blockValues, column]
    simp only [hn]
    rw [dif_pos (by omega)]
    refine Finset.sum_congr rfl fun q _ => ?_
    rw [mul_comm]
    congr! 4
    omega
  all_goals
    pointwise [k0_pay8, k0_pay15, k0_pay16, k0_pay17, k0_pay18, k0_pay19, blockValues]
    rw [dif_neg (by omega), pad_row]
    exact if_congr (by omega) rfl rfl

end Cert.KvProjIdeal.Hand

end
-- ==== Proof.KvProjTables.lean ====
/- What the arrays that the call's program prepares for the key and value projection hold: the three tables by which heads are
   turned, and the weights with each head of keys padded to 128 columns and with those of the values transposed. -/
module

public import proofs.«01_k».proof.Proof.Gen.KvProjIdeal.Value
public import proofs.«01_k».proof.Proof.ProjMath

@[expose] public section

set_option maxRecDepth 16384

noncomputable section

namespace Cert.KvProjIdeal.Hand

open Cert.KvProjIdeal Cert.KvProjIdeal.Gen Idealize.ShloMosaic Idealize.ShloMosaic.TcCoe Idealize.SL.Sem Cert.FfnMath Cert.ProjMath

/-- The float values read as extended reals. -/
local notation "𝔼" => Idealize.ShloMosaic.Ideal

variable (m : (ℓ : Loc nD τ sig) → Buf (Elt 𝔼) ℓ) (c : Dev nD)

/-- The table of cosines: the first twelve columns and the twelve after them hold the cosine of the pair's angle, the others 1. -/
theorem cosines (p : Fin 2048) (l : Fin 128) :
    (V m c main_v17 (ix2 p l) : EReal)
      = if l.val < 12 then Ideal.cos (angle p.val l.val) else if l.val - 12 < 12 then Ideal.cos (angle p.val (l.val - 12)) else 1 := by
  unfold V hostOps0 hostOps0_1 hostOps0_2 hostOps0_3 hostOps0_4
  simp only [List.flatten_cons, List.flatten_nil, List.append_nil, List.cons_append, List.nil_append]
  after_results
  pointwise
  after_results_simp
  pointwise
  unfold angle
  simp only [dite_eq_ite]

/-- The table of sines that a lane takes with the lane 12 further on: negated, in the first twelve columns. -/
theorem sinesAhead (p : Fin 2048) (l : Fin 128) :
    (V m c main_v20 (ix2 p l) : EReal) = if l.val < 12 then -Ideal.sin (angle p.val l.val) else 0 := by
  unfold V hostOps0 hostOps0_1 hostOps0_2 hostOps0_3 hostOps0_4
  simp only [List.flatten_cons, List.flatten_nil, List.append_nil, List.cons_append, List.nil_append]
  after_results
  pointwise
  unfold angle
  simp only [dite_eq_ite]

/-- The table of sines that a lane takes with the lane 12 before: in columns 12 to 23. -/
theorem sinesBehind (p : Fin 2048) (l : Fin 128) :
    (V m c main_v23 (ix2 p l) : EReal)
      = if l.val < 12 then 0 else if l.val - 12 < 12 then Ideal.sin (angle p.val (l.val - 12)) else 0 := by
  unfold V hostOps0 hostOps0_1 hostOps0_2 hostOps0_3 hostOps0_4
  simp only [List.flatten_cons, List.flatten_nil, List.append_nil, List.cons_append, List.nil_append]
  after_results
  pointwise
  after_results_simp
  pointwise
  unfold angle
  simp only [dite_eq_ite]

/-- The padded weights. -/
theorem padded (q : Fin 1024) (b : Fin 1664) :
    (V m c main_v37 (ix2 q b) : EReal)
      = if h : b.val < 384 then m ((c.tc : Thread nD τ).loc main_arg2) (ix2 q ⟨b.val, by omega⟩)
        else if h : b.val - 384 < 256 then m ((c.tc : Thread nD τ).loc main_arg2) (ix2 q ⟨384 + (b.val - 384), by omega⟩)
        else if h : b.val - 384 - 256 < 512 then
          if h : (b.val - 384 - 256) / 128 < 4 ∧ (b.val - 384 - 256) % 128 < 96 then
            m ((c.tc : Thread nD τ).loc main_arg2) (ix2 q ⟨640 + ((b.val - 384 - 256) / 128 * 96 + (b.val - 384 - 256) % 128), by omega⟩)
          else (0 : EReal)
        else
          if h : (b.val - 384 - 256 - 512) / 128 < 4 ∧ (b.val - 384 - 256 - 512) % 128 < 96 then
            m ((c.tc : Thread nD τ).loc main_arg2)
              (ix2 q ⟨1280 + ((b.val - 384 - 256 - 512) / 128 * 96 + (b.val - 384 - 256 - 512) % 128), by omega⟩)
          else (0 : EReal) := by
  unfold V hostOps0 hostOps0_1 hostOps0_2 hostOps0_3 hostOps0_4
  simp only [List.flatten_cons, List.flatten_nil, List.append_nil, List.cons_append, List.nil_append]
  after_results
  pointwise
  after_results_simp
  simp only [StableHlo.TRef.toBuf, StableHlo.TRef.ofBuf, cast_eq]
  pointwise
  simp only [sitofp_zero]

/-- The transposed weights of the values. -/
theorem transposed (a : Fin 512) (q : Fin 1024) :
    (V m c main_v41 (ix2 a q) : EReal)
      = if h : a.val < 256 then m ((c.tc : Thread nD τ).loc main_arg2) (ix2 q ⟨1024 + a.val, by omega⟩)
        else m ((c.tc : Thread nD τ).loc main_arg2) (ix2 q ⟨1664 + (a.val - 256), by omega⟩) := by
  unfold V hostOps0 hostOps0_1 hostOps0_2 hostOps0_3 hostOps0_4
  simp only [List.flatten_cons, List.flatten_nil, List.append_nil, List.cons_append, List.nil_append]
  after_results
  pointwise

/-- The scale of the normalisation, as one row. -/
theorem scale (q : Fin 1024) :
    (V m c main_v42 (ix2 0 q) : EReal) = m ((c.tc : Thread nD τ).loc main_arg1) (ix1 q) := by
  unfold V hostOps0 hostOps0_1 hostOps0_2 hostOps0_3 hostOps0_4
  simp only [List.flatten_cons, List.flatten_nil, List.append_nil, List.cons_append, List.nil_append]
  after_results
  pointwise

end Cert.KvProjIdeal.Hand

end
-- ==== Proof.KvProjRun.lean ====
/- The arrays of the call that projects keys and values after the run: the blocks of the grid points put together, and the run
   with the six results named entry by entry. -/
module

public import proofs.«01_k».proof.Proof.KvProjMath
public import proofs.«01_k».proof.Proof.KvProjValue
public import proofs.«01_k».proof.Proof.KvProjTables

@[expose] public section

set_option maxRecDepth 16384

noncomputable section

namespace Cert.KvProjIdeal.Hand

open Cert.KvProjIdeal Cert.KvProjIdeal.Gen Idealize.ShloMosaic Idealize.ShloMosaic.TcCoe Idealize.SL.Sem Cert.FfnMath Cert.ProjMath
open Cert.KvProjMath

/-- The float values read as extended reals. -/
local notation "𝔼" => Idealize.ShloMosaic.Ideal

variable (m : (ℓ : Loc nD τ sig) → Buf (Elt 𝔼) ℓ) (ρ : Dev nD → PrngReg)

/-- The six results: the keys and values to compress, the selected keys and values, and those of the window. -/
def keysCmp (c : Dev nD) : S65536x384.Idx → EReal := fun j => entry (m ((c.tc : Thread nD τ).loc main_arg0)) (m ((c.tc : Thread nD τ).loc main_arg1))
  (m ((c.tc : Thread nD τ).loc main_arg2)) (j 0) ⟨(j 1).val, by have := (j 1).isLt; simp at this; omega⟩
@[inherit_doc keysCmp]
def valuesCmp (c : Dev nD) : S65536x256.Idx → EReal := fun j => entry (m ((c.tc : Thread nD τ).loc main_arg0))
  (m ((c.tc : Thread nD τ).loc main_arg1)) (m ((c.tc : Thread nD τ).loc main_arg2)) (j 0) ⟨384 + (j 1).val, by have := (j 1).isLt; simp at this; omega⟩
@[inherit_doc keysCmp]
def keysSel (c : Dev nD) : S65536x512.Idx → EReal := fun j => keys (m ((c.tc : Thread nD τ).loc main_arg0))
  (m ((c.tc : Thread nD τ).loc main_arg1)) (m ((c.tc : Thread nD τ).loc main_arg2)) 640 (by omega) (j 0) (j 1)
@[inherit_doc keysCmp]
def valuesSel (c : Dev nD) : S10240x2048.Idx → EReal := fun j => values (m ((c.tc : Thread nD τ).loc main_arg0))
  (m ((c.tc : Thread nD τ).loc main_arg1)) (m ((c.tc : Thread nD τ).loc main_arg2)) 1024 (by omega) (j 0) (j 1)
@[inherit_doc keysCmp]
def keysWin (c : Dev nD) : S65536x512.Idx → EReal := fun j => keys (m ((c.tc : Thread nD τ).loc main_arg0))
  (m ((c.tc : Thread nD τ).loc main_arg1)) (m ((c.tc : Thread nD τ).loc main_arg2)) 1280 (by omega) (j 0) (j 1)
@[inherit_doc keysCmp]
def valuesWin (c : Dev nD) : S10240x2048.Idx → EReal := fun j => values (m ((c.tc : Thread nD τ).loc main_arg0))
  (m ((c.tc : Thread nD τ).loc main_arg1)) (m ((c.tc : Thread nD τ).loc main_arg2)) 1664 (by omega) (j 0) (j 1)

/-- The number of grid points. -/
theorem points : cfg0.N = 128 := by decide +kernel

/-- The token that row `r` of a grid point's block holds. -/
def tok (t : Fin cfg0.N) (r : Fin 512) : Fin 65536 := ⟨t.val * 512 + r.val, by have := t.isLt.trans_eq points; omega⟩

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![t.val % 4, 0] ∧ win0_5.index t = ![t.val % 4, 0]
    ∧ win0_6.index t = ![t.val % 4, 0] ∧ win0_7.index t = ![t.val, 0] ∧ win0_8.index t = ![t.val, 0] ∧ win0_9.index t = ![t.val, 0]
    ∧ win0_10.index t = ![t.val / 4, t.val % 4] ∧ win0_11.index t = ![t.val, 0] ∧ win0_12.index t = ![t.val / 4, t.val % 4] :=
  (by decide +kernel : ∀ t : Fin grid0.N, _)

variable (c : Dev nD) (t : Fin cfg0.N)

/-- A row of a grid point's block of tokens is its token. -/
theorem blk_tokens (r : Fin 512) (q : Fin 1024) : iblk m c 0 t (ix2 r q) = m ((c.tc : Thread nD τ).loc main_arg0) (ix2 (tok t r) q) := by
  blk_point [iblk, V, idx t, tok]

/-- The scale's block is the whole scale. -/
theorem blk_scale (q : Fin 1024) : iblk m c 1 t (ix2 0 q) = m ((c.tc : Thread nD τ).loc main_arg1) (ix1 q) := by
  rw [← scale m c q]
  blk_point [iblk, idx t]

/-- The padded weights' block is the whole array. -/
theorem blk_padded (q : Fin 1024) (k : Fin 1664) : iblk m c 2 t (ix2 q k) = V m c main_v37 (ix2 q k) := by
  blk_point [iblk, idx t]

/-- The transposed weights' block is the whole array. -/
theorem blk_transposed (k : Fin 512) (q : Fin 1024) : iblk m c 3 t (ix2 k q) = V m c main_v41 (ix2 k q) := by
  blk_point [iblk, idx t]

/-- A row of a grid point's block of cosines is the row of its token's position. -/
theorem blk_cosines (r : Fin 512) (l : Fin 128) : iblk m c 4 t (ix2 r l) = V m c main_v17 (ix2 ⟨(tok t r).val % 2048, by omega⟩ l) := by
  blk_point [iblk, idx t, tok]

@[inherit_doc blk_cosines]
theorem blk_ahead (r : Fin 512) (l : Fin 128) : iblk m c 5 t (ix2 r l) = V m c main_v20 (ix2 ⟨(tok t r).val % 2048, by omega⟩ l) := by
  blk_point [iblk, idx t, tok]

@[inherit_doc blk_cosines]
theorem blk_behind (r : Fin 512) (l : Fin 128) : iblk m c 6 t (ix2 r l) = V m c main_v23 (ix2 ⟨(tok t r).val % 2048, by omega⟩ l) := by
  blk_point [iblk, idx t, tok]

/-- A column of a grid point's projection by weights `w` that are column `o` of the call's. -/
theorem column_entry (r : Fin 512) (w : Fin 1024 → EReal) (o : Fin 1920)
    (hw : ∀ q, w q = m ((c.tc : Thread nD τ).loc main_arg2) (ix2 q o)) :
    column (fun q => iblk m c 0 t (ix2 r q)) (fun q => iblk m c 1 t (ix2 0 q)) w = entry (m ((c.tc : Thread nD τ).loc main_arg0)) (m ((c.tc : Thread nD τ).loc main_arg1)) (m ((c.tc : Thread nD τ).loc main_arg2)) (tok t r) o := by
  unfold entry
  rw [show (fun q => iblk m c 0 t (ix2 r q)) = _ from funext fun q => blk_tokens m c t r q,
    show (fun q => iblk m c 1 t (ix2 0 q)) = _ from funext fun q => blk_scale m c t q, show w = _ from funext hw]

/-- A grid point's keys, of either of the two groups of heads. -/
theorem keys_block (o o' : ℕ) (ho : o + 512 ≤ 1664) (ho' : o' + 384 ≤ 1920) (h : o = 640 ∧ o' = 640 ∨ o = 1152 ∧ o' = 1280)
    (r : Fin 512) (j : Fin 512) :
    blockKeys o ho (iblk m c 0 t) (iblk m c 1 t) (iblk m c 2 t) (iblk m c 4 t) (iblk m c 5 t) (iblk m c 6 t) r j
      = keys (m ((c.tc : Thread nD τ).loc main_arg0)) (m ((c.tc : Thread nD τ).loc main_arg1)) (m ((c.tc : Thread nD τ).loc main_arg2)) o' ho' (tok t r) j := by
  unfold blockKeys keys
  refine turned_roped _ _ _ _ _ _ (fun l => ?_) (fun l => (blk_cosines m c t r l).trans (cosines m c _ l))
    (fun l => (blk_ahead m c t r l).trans (sinesAhead m c _ l)) (fun l => (blk_behind m c t r l).trans (sinesBehind m c _ l)) _
  by_cases hl : l.val < 96
  · rw [dif_pos hl]
    refine column_entry m c t r _ _ fun q => ((blk_padded m c t q _).trans (padded m c q _)).trans ?_
    dsimp only
    rcases h with ⟨rfl, rfl⟩ | ⟨rfl, rfl⟩
    · rw [dif_neg (by omega), dif_neg (by omega), dif_pos (by omega), dif_pos (by omega)]
      exact at_lane _ q (by dsimp only; omega)
    · rw [dif_neg (by omega), dif_neg (by omega), dif_neg (by omega), dif_pos (by omega)]
      exact at_lane _ q (by dsimp only; omega)
  · rw [dif_neg hl]
    refine Eq.trans (congrArg (column _ _) (funext fun q => ((blk_padded m c t q _).trans (padded m c q _)).trans ?_)) (column_zero _ _)
    dsimp only
    rcases h with ⟨rfl, rfl⟩ | ⟨rfl, rfl⟩
    · rw [dif_neg (by omega), dif_neg (by omega), dif_pos (by omega), dif_neg (by omega)]
    · rw [dif_neg (by omega), dif_neg (by omega), dif_neg (by omega), dif_neg (by omega)]

/-- A grid point's values, of either of the two groups of heads. -/
theorem values_block (o o' : ℕ) (ho : o + 256 ≤ 512) (ho' : o' + 256 ≤ 1920) (h : o = 0 ∧ o' = 1024 ∨ o = 256 ∧ o' = 1664)
    (r : Fin 320) (j : Fin 512) (R : Fin 10240) (s : Fin 2048) (hR : R.val = t.val / 4 * 320 + r.val) (hs : s.val = t.val % 4 * 512 + j.val) :
    blockValues o ho (iblk m c 0 t) (iblk m c 1 t) (iblk m c 3 t) r j = values (m ((c.tc : Thread nD τ).loc main_arg0)) (m ((c.tc : Thread nD τ).loc main_arg1)) (m ((c.tc : Thread nD τ).loc main_arg2)) o' ho' R s := by
  unfold blockValues values
  by_cases hr : r.val % 80 < 64
  · refine (dif_pos hr).trans (Eq.trans ?_ (dif_pos (by omega)).symm)
    refine (column_entry m c t j _ ⟨o' + (r.val / 80 * 64 + r.val % 80), by omega⟩ fun q =>
      ((blk_transposed m c t _ q).trans (transposed m c _ q)).trans ?_).trans ?_
    · dsimp only
      rcases h with ⟨rfl, rfl⟩ | ⟨rfl, rfl⟩
      · rw [dif_pos (by omega)]
        exact at_lane _ q (by dsimp only; omega)
      · rw [dif_neg (by omega)]
        exact at_lane _ q (by dsimp only; omega)
    · refine congrArg₂ (entry _ _ _) (Fin.ext ?_) (Fin.ext ?_)
      · unfold tok
        dsimp only
        omega
      · dsimp only
        omega
  · refine (dif_neg hr).trans (Eq.trans ?_ (dif_neg (by omega)).symm)
    exact if_congr (by omega) rfl rfl

/-- The array of window 7 after the run. -/
theorem final_keysCmp : (dats m 0 c).arrAt 7 cfg0.N = keysCmp m c := by
  refine (dats m 0 c).arrAt_eq_of_covers 7 _ (by decide +kernel) fun t hf y => ?_
  blk_simp
  rw [after0_7]
  idx_vars y
  unfold outsAt0
  dsimp only
  rw [out_kcmp]
  unfold keysCmp
  refine (column_entry m c t y0 _ ⟨y1.val, by omega⟩ fun q => ((blk_padded m c t q _).trans (padded m c q _)).trans ?_).trans ?_
  · dsimp only
    rw [dif_pos (by omega)]
  · refine congrArg₂ (entry _ _ _) (Fin.ext ?_) (Fin.ext ?_)
    all_goals blk_simp [idx t, tok]

/-- The array of window 8 after the run. -/
theorem final_valuesCmp : (dats m 0 c).arrAt 8 cfg0.N = valuesCmp m c := by
  refine (dats m 0 c).arrAt_eq_of_covers 8 _ (by decide +kernel) fun t hf y => ?_
  blk_simp
  rw [after0_8]
  idx_vars y
  unfold outsAt0
  dsimp only
  rw [out_vcmp]
  unfold valuesCmp
  refine (column_entry m c t y0 _ ⟨384 + y1.val, by omega⟩ fun q => ((blk_padded m c t q _).trans (padded m c q _)).trans ?_).trans ?_
  · dsimp only
    rw [dif_neg (by omega), dif_pos (by omega)]
    exact at_lane _ q (by dsimp only; omega)
  · refine congrArg₂ (entry _ _ _) (Fin.ext ?_) (Fin.ext ?_)
    all_goals blk_simp [idx t, tok]

/-- The array of window 9 after the run. -/
theorem final_keysSel : (dats m 0 c).arrAt 9 cfg0.N = keysSel m c := by
  refine (dats m 0 c).arrAt_eq_of_covers 9 _ (by decide +kernel) fun t hf y => ?_
  blk_simp
  rw [after0_9]
  idx_vars y
  unfold outsAt0
  dsimp only
  rw [out_ks]
  unfold keysSel
  refine (keys_block m c t _ 640 _ (by omega) (by omega) y0 y1).trans (congrArg₂ (keys _ _ _ 640 (by omega)) (Fin.ext ?_) (Fin.ext ?_))
  all_goals blk_simp [idx t, tok]

/-- The array of window 10 after the run. -/
theorem final_valuesSel : (dats m 0 c).arrAt 10 cfg0.N = valuesSel m c := by
  refine (dats m 0 c).arrAt_eq_of_covers 10 _ (by decide +kernel) fun t hf y => ?_
  blk_simp
  rw [after0_10]
  idx_vars y
  unfold outsAt0
  dsimp only
  rw [out_vs]
  unfold valuesSel
  refine values_block m c t _ 1024 _ (by omega) (by omega) y0 y1 _ _ ?_ ?_
  all_goals blk_simp [idx t]

/-- The array of window 11 after the run. -/
theorem final_keysWin : (dats m 0 c).arrAt 11 cfg0.N = keysWin m c := by
  refine (dats m 0 c).arrAt_eq_of_covers 11 _ (by decide +kernel) fun t hf y => ?_
  blk_simp
  rw [after0_11]
  idx_vars y
  unfold outsAt0
  dsimp only
  rw [out_kw]
  unfold keysWin
  refine (keys_block m c t _ 1280 _ (by omega) (by omega) y0 y1).trans (congrArg₂ (keys _ _ _ 1280 (by omega)) (Fin.ext ?_) (Fin.ext ?_))
  all_goals blk_simp [idx t, tok]

/-- The array of window 12 after the run. -/
theorem final_valuesWin : (dats m 0 c).arrAt 12 cfg0.N = valuesWin m c := by
  refine (dats m 0 c).arrAt_eq_of_covers 12 _ (by decide +kernel) fun t hf y => ?_
  blk_simp
  rw [after0_12]
  idx_vars y
  unfold outsAt0
  dsimp only
  rw [out_vw]
  unfold valuesWin
  refine values_block m c t _ 1664 _ (by omega) (by omega) y0 y1 _ _ ?_ ?_
  all_goals blk_simp [idx t]

/-- The run: the six result arrays as named, the arguments as launched. -/
theorem run : θ_run defs (onTc (τ := τ) (main (F := 𝔼))) ⟨m, fun _ => 0, ρ⟩ fun r => ∀ c : Dev nD,
      r.2.mem ((c.tc : Thread nD τ).loc main_v43_0) = keysCmp m c
      ∧ r.2.mem ((c.tc : Thread nD τ).loc main_v43_1) = valuesCmp m c
      ∧ r.2.mem ((c.tc : Thread nD τ).loc main_v43_2) = keysSel m c
      ∧ r.2.mem ((c.tc : Thread nD τ).loc main_v43_3) = valuesSel m c
      ∧ r.2.mem ((c.tc : Thread nD τ).loc main_v43_4) = keysWin m c
      ∧ r.2.mem ((c.tc : Thread nD τ).loc main_v43_5) = valuesWin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_keysCmp m c), (h c).2.1.trans (final_valuesCmp m c),
    (h c).2.2.1.trans (final_keysSel m c), (h c).2.2.2.1.trans (final_valuesSel m c), (h c).2.2.2.2.1.trans (final_keysWin m c),
    (h c).2.2.2.2.2.1.trans (final_valuesWin m c), (h c).2.2.2.2.2.2⟩) (Value.run_blocks m ρ)

end Cert.KvProjIdeal.Hand

end
-- ==== Proof.KvProjRefValue.lean ====
/- The value of the reference of the call that projects the tokens to keys and values: its operations composed, entry by
   entry. -/
module

public import proofs.«01_k».proof.Proof.Gen.KvProjRefIdeal.Run
public import proofs.«01_k».proof.Proof.KvProjMath

@[expose] public section

set_option maxRecDepth 16384

noncomputable section

namespace Cert.KvProjRefIdeal.Hand

open Cert.KvProjRefIdeal Cert.KvProjRefIdeal.Gen Idealize.ShloMosaic Idealize.SL.Sem Cert.FfnMath Cert.ProjMath Cert.KvProjMath

/-- The float values read as extended reals. -/
local notation "𝔼" => Idealize.ShloMosaic.Ideal

variable (m : (ℓ : Loc nD τ sig) → Buf (Elt 𝔼) ℓ) (ρ : Dev nD → PrngReg)

/-- The six results: the keys and values to compress, the selected keys and values, and those of the window. -/
def keysCmp (c : Dev nD) : S65536x384.Idx → EReal := fun j => entry (m ((c.tc : Thread nD τ).loc main_arg0)) (m ((c.tc : Thread nD τ).loc main_arg1))
  (m ((c.tc : Thread nD τ).loc main_arg2)) (j 0) ⟨(j 1).val, by have := (j 1).isLt; simp at this; omega⟩
@[inherit_doc keysCmp]
def valuesCmp (c : Dev nD) : S65536x256.Idx → EReal := fun j => entry (m ((c.tc : Thread nD τ).loc main_arg0))
  (m ((c.tc : Thread nD τ).loc main_arg1)) (m ((c.tc : Thread nD τ).loc main_arg2)) (j 0) ⟨384 + (j 1).val, by have := (j 1).isLt; simp at this; omega⟩
@[inherit_doc keysCmp]
def keysSel (c : Dev nD) : S65536x512.Idx → EReal := fun j => keys (m ((c.tc : Thread nD τ).loc main_arg0))
  (m ((c.tc : Thread nD τ).loc main_arg1)) (m ((c.tc : Thread nD τ).loc main_arg2)) 640 (by omega) (j 0) (j 1)
@[inherit_doc keysCmp]
def valuesSel (c : Dev nD) : S10240x2048.Idx → EReal := fun j => values (m ((c.tc : Thread nD τ).loc main_arg0))
  (m ((c.tc : Thread nD τ).loc main_arg1)) (m ((c.tc : Thread nD τ).loc main_arg2)) 1024 (by omega) (j 0) (j 1)
@[inherit_doc keysCmp]
def keysWin (c : Dev nD) : S65536x512.Idx → EReal := fun j => keys (m ((c.tc : Thread nD τ).loc main_arg0))
  (m ((c.tc : Thread nD τ).loc main_arg1)) (m ((c.tc : Thread nD τ).loc main_arg2)) 1280 (by omega) (j 0) (j 1)
@[inherit_doc keysCmp]
def valuesWin (c : Dev nD) : S10240x2048.Idx → EReal := fun j => values (m ((c.tc : Thread nD τ).loc main_arg0))
  (m ((c.tc : Thread nD τ).loc main_arg1)) (m ((c.tc : Thread nD τ).loc main_arg2)) 1664 (by omega) (j 0) (j 1)

/-- The run: the six result arrays as named, the arguments as launched. -/
theorem run : θ_run defs (onTc (τ := τ) (main (F := 𝔼))) ⟨m, fun _ => 0, ρ⟩ fun r => ∀ c : Dev nD,
      r.2.mem ((c.tc : Thread nD τ).loc main_v110) = keysCmp m c
      ∧ r.2.mem ((c.tc : Thread nD τ).loc main_v111) = valuesCmp m c
      ∧ r.2.mem ((c.tc : Thread nD τ).loc main_v112) = keysSel m c
      ∧ r.2.mem ((c.tc : Thread nD τ).loc main_v113) = valuesSel m c
      ∧ r.2.mem ((c.tc : Thread nD τ).loc main_v114) = keysWin m c
      ∧ r.2.mem ((c.tc : Thread nD τ).loc main_v115) = valuesWin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  obtain ⟨h0, h1, h2, h3, h4, h5, hk⟩ := h c
  refine ⟨h0.trans ?_, h1.trans ?_, h2.trans ?_, h3.trans ?_, h4.trans ?_, h5.trans ?_, hk⟩
  all_goals
    clear h0 h1 h2 h3 h4 h5 hk
    funext j
    idx_vars j
  · unfold keysCmp entry column
    pointwise [rowNorm]
  · unfold valuesCmp entry column
    pointwise [rowNorm]
  · unfold Value.res_main_v112
    pointwise
    show _ = keys (m ((c.tc : Thread nD τ).loc main_arg0)) (m ((c.tc : Thread nD τ).loc main_arg1)) (m ((c.tc : Thread nD τ).loc main_arg2)) 640 (by omega) j0 j1
    unfold keys roped entry column rowNorm angle
    dsimp only
    by_cases h : j1.val % 128 < 96
    · have hc : j0.val / 2048 < 32 ∧ j0.val % 2048 < 2048 ∧ j1.val / 128 < 4 ∧ j1.val % 128 < 96 := ⟨by omega, by omega, by omega, h⟩
      refine (dif_pos hc).trans (Eq.trans ?_ (dif_pos h).symm)
      by_cases h₁ : j1.val % 128 < 24
      · refine (dif_pos h₁).trans (Eq.trans ?_ (dif_pos h₁).symm)
        by_cases h₂ : j1.val % 128 < 12
        · refine (dif_pos h₂).trans (Eq.trans ?_ (dif_pos h₂).symm)
          with_reducible rfl
        · refine (dif_neg h₂).trans (Eq.trans ?_ (dif_neg h₂).symm)
          simp only [show 12 + (j1.val % 128 - 12) = j1.val % 128 by omega]
      · refine (dif_neg h₁).trans (Eq.trans ?_ (dif_neg h₁).symm)
        simp only [show 24 + (j1.val % 128 - 24) = j1.val % 128 by omega]
    · have hc : ¬(j0.val / 2048 < 32 ∧ j0.val % 2048 < 2048 ∧ j1.val / 128 < 4 ∧ j1.val % 128 < 96) := fun h' => h h'.2.2.2
      refine (dif_neg hc).trans (Eq.trans ?_ (dif_neg h).symm)
      exact sitofp_zero
  · pointwise
    show _ = values (m ((c.tc : Thread nD τ).loc main_arg0)) (m ((c.tc : Thread nD τ).loc main_arg1)) (m ((c.tc : Thread nD τ).loc main_arg2)) 1024 (by omega) j0 j1
    unfold values entry column rowNorm
    dsimp only
    refine dite_congr rfl (fun _ => by with_reducible rfl) fun h => ?_
    by_cases h₁ : j0.val % 80 = 64
    · rw [dif_pos (by omega), if_pos h₁]
    · rw [dif_neg (by omega), if_neg h₁]
  · unfold Value.res_main_v114
    pointwise
    show _ = keys (m ((c.tc : Thread nD τ).loc main_arg0)) (m ((c.tc : Thread nD τ).loc main_arg1)) (m ((c.tc : Thread nD τ).loc main_arg2)) 1280 (by omega) j0 j1
    unfold keys roped entry column rowNorm angle
    dsimp only
    by_cases h : j1.val % 128 < 96
    · have hc : j0.val / 2048 < 32 ∧ j0.val % 2048 < 2048 ∧ j1.val / 128 < 4 ∧ j1.val % 128 < 96 := ⟨by omega, by omega, by omega, h⟩
      refine (dif_pos hc).trans (Eq.trans ?_ (dif_pos h).symm)
      by_cases h₁ : j1.val % 128 < 24
      · refine (dif_pos h₁).trans (Eq.trans ?_ (dif_pos h₁).symm)
        by_cases h₂ : j1.val % 128 < 12
        · refine (dif_pos h₂).trans (Eq.trans ?_ (dif_pos h₂).symm)
          with_reducible rfl
        · refine (dif_neg h₂).trans (Eq.trans ?_ (dif_neg h₂).symm)
          simp only [show 12 + (j1.val % 128 - 12) = j1.val % 128 by omega]
      · refine (dif_neg h₁).trans (Eq.trans ?_ (dif_neg h₁).symm)
        simp only [show 24 + (j1.val % 128 - 24) = j1.val % 128 by omega]
    · have hc : ¬(j0.val / 2048 < 32 ∧ j0.val % 2048 < 2048 ∧ j1.val / 128 < 4 ∧ j1.val % 128 < 96) := fun h' => h h'.2.2.2
      refine (dif_neg hc).trans (Eq.trans ?_ (dif_neg h).symm)
      exact sitofp_zero
  · pointwise
    show _ = values (m ((c.tc : Thread nD τ).loc main_arg0)) (m ((c.tc : Thread nD τ).loc main_arg1)) (m ((c.tc : Thread nD τ).loc main_arg2)) 1664 (by omega) j0 j1
    unfold values entry column rowNorm
    dsimp only
    refine dite_congr rfl (fun _ => by with_reducible rfl) fun h => ?_
    by_cases h₁ : j0.val % 80 = 64
    · rw [dif_pos (by omega), if_pos h₁]
    · rw [dif_neg (by omega), if_neg h₁]

end Cert.KvProjRefIdeal.Hand

end
-- ==== Proof.QProjMath.lean ====
/- The mathematics of the call that projects the tokens to queries and gates: its three results entry by entry, from the tokens,
   the scale of the normalisation, the weights and the gates' bias. -/
module

public import proofs.«01_k».proof.Proof.ProjMath
public import Idealize.ShloMosaic.Lib.IdealHost

@[expose] public section

noncomputable section

namespace Cert.QProjMath

open Idealize.ShloMosaic Cert.FfnMath Cert.ProjMath

variable (H : (⟨2, ![65536, 1024]⟩ : Shape).Idx → EReal) (G : (⟨1, ![1024]⟩ : Shape).Idx → EReal)
  (W : (⟨2, ![1024, 1584]⟩ : Shape).Idx → EReal) (B : (⟨1, ![48]⟩ : Shape).Idx → EReal)

/-- Column `o` of the projection of token `t`. -/
def entry (t : Fin 65536) (o : Fin 1584) : EReal :=
  column (fun q => H (ix2 t q)) (fun q => G (ix1 q)) (fun q => W (ix2 q o))

/-- The factor of the queries: the inverse root of the width of a head, times the binary logarithm of e. -/
def factor : EReal := Ideal.ofBits .f32 1041680192#32

/-- The token of row `r` of the queries: the tokens are cut into tiles of 256, and a tile holds its 256 rows of one head after
    those of the other. -/
def token (r : Fin 1048576) : Fin 65536 := ⟨r.val / 4096 * 256 + r.val % 256, by omega⟩

/-- Lane `l` of row `r` of the queries, before the padding. -/
def lane (r : Fin 1048576) (l : Fin 96) : EReal := entry H G W (token r) ⟨r.val / 256 % 16 * 96 + l.val, by omega⟩ * factor

/-- The queries, every row padded to 128 lanes. -/
def plain (r : Fin 1048576) (l : Fin 128) : EReal := if h : l.val < 96 then lane H G W r ⟨l.val, h⟩ else 0

/-- The queries, every row turned by the token's position in its sequence and padded to 128 lanes. -/
def turnedLane (r : Fin 1048576) (l : Fin 128) : EReal := roped (lane H G W r) (r.val / 4096 % 8 * 256 + r.val % 256) l

/-- The gates of a token: 48 of them, three for each head, and a half in the other 80 lanes. -/
def gates (t : Fin 65536) (l : Fin 128) : EReal :=
  if h : l.val < 48 then Ideal.logistic (entry H G W t ⟨1536 + l.val, by omega⟩ + B (ix1 ⟨l.val, h⟩))
  else Ideal.ofBits .f32 1056964608#32

/-- The constant of the other lanes is a half. -/
theorem half : Ideal.ofBits .f32 1056964608#32 = (((1 : ℝ) / 2 : ℝ) : EReal) := by
  simp [Ideal.ofBits, Ideal.ieee, -EReal.coe_mul]
  norm_num

/-- The logistic of zero is that constant. -/
theorem logistic_zero : Ideal.logistic 0 = Ideal.ofBits .f32 1056964608#32 := by
  rw [half]
  have he : Ideal.exp (-0) = ((1 : ℝ) : EReal) := by
    rw [neg_zero, ← EReal.coe_zero]
    show ((Real.exp 0 : ℝ) : EReal) = _
    rw [Real.exp_zero]
  have h2 : (1 : EReal) + ((1 : ℝ) : EReal) = ((2 : ℝ) : EReal) := by
    rw [← EReal.coe_one, ← EReal.coe_add]
    norm_num
  unfold Ideal.logistic Ideal.div
  rw [he, h2, if_neg (by norm_num), one_mul, ← EReal.coe_inv]
  norm_num

end Cert.QProjMath

end
-- ==== Proof.QProjValue.lean ====
/- The value of the call that projects queries and gates: what a grid point leaves in its three blocks. -/
module

public import proofs.«01_k».proof.Proof.Gen.QProjIdeal.Value
public import proofs.«01_k».proof.Proof.QProjMath
public import Idealize.ShloMosaic.Lib.UnfoldOut

@[expose] public section

set_option maxRecDepth 16384
set_option maxHeartbeats 2000000

noncomputable section

namespace Cert.QProjIdeal.Hand

open Cert.QProjIdeal Cert.QProjIdeal.Gen Idealize.ShloMosaic Idealize.ShloMosaic.TcCoe Idealize.SL.Sem Cert.FfnMath Cert.ProjMath
open Cert.QProjMath

/-- The float values read as extended reals. -/
local notation "𝔼" => Idealize.ShloMosaic.Ideal

/-- The normalised block. -/
theorem normed_apply (x0 : Vec 𝔼 S512x1024 .f32) (x1 : Vec 𝔼 S1x1024 .f32) (r : Fin 512) (k : Fin 1024) :
    k0_pay4 (View.ld x0 r0_0) (View.ld x1 r0_1) (ix2 r k) = rowNorm (fun q => x0 (ix2 r q)) (fun q => x1 (ix2 0 q)) k := by
  unfold k0_pay4 rowNorm
  pointwise

variable (x0 : Vec 𝔼 S512x1024 .f32) (x1 : Vec 𝔼 S1x1024 .f32) (x2 : Vec 𝔼 S1024x2176 .bf16) (x3 : Vec 𝔼 S1x128 .f32)
  (x4 x5 x6 : Vec 𝔼 S512x128 .f32)

/-- The row of a grid point's block of tokens that row `r` of its queries comes from. -/
def inBlock (r : Fin 8192) : Fin 512 := ⟨r.val / 4096 * 256 + r.val % 256, by omega⟩

/-- Lane `l` of row `r` of the queries in a grid point's block. -/
def blockLane (r : Fin 8192) (l : Fin 128) : EReal :=
  column (fun q => x0 (ix2 (inBlock r) q)) (fun q => x1 (ix2 0 q)) (fun q => x2 (ix2 q ⟨r.val / 256 % 16 * 128 + l.val, by omega⟩)) * factor

/-- Two entries of one column agree if their rows have the same number. -/
theorem at_row {n0 n1 : ℕ} (f : (⟨2, ![n0, n1]⟩ : Shape).Idx → EReal) {a a' : Fin n0} (h : a.val = a'.val) (b : Fin n1) :
    f (ix2 a b) = f (ix2 a' b) := by rw [Fin.ext h]

/-- Two terms of a projection's sum agree if their rows and columns have the same numbers. -/
theorem at_term (x0 : Vec 𝔼 S512x1024 .f32) (x1 : Vec 𝔼 S1x1024 .f32) (x2 : Vec 𝔼 S1024x2176 .bf16) (q : Fin 1024) {a a' : Fin 512}
    {b b' : Fin 2176} (ha : a.val = a'.val) (hb : b.val = b'.val) :
    (rowNorm (fun q => x0 (ix2 a q)) (fun q => x1 (ix2 0 q)) q * x2 (ix2 q b) : EReal)
      = rowNorm (fun q => x0 (ix2 a' q)) (fun q => x1 (ix2 0 q)) q * x2 (ix2 q b') := by
  rw [Fin.ext ha, Fin.ext hb]

/-- The block of the queries. -/
theorem out_plain (r : Fin 8192) (j : Fin 128) : out0_7 x0 x1 x2 x3 x4 x5 x6 (ix2 r j) = blockLane x0 x1 x2 r j := by
  have hn := normed_apply x0 x1
  unfold_out out0_7
  refine View.canon_apply_of_pieces (fun y : S8192x128.Idx => (show Elt 𝔼 EltTy.bf16 from blockLane x0 x1 x2 (y 0) (y 1))) _ ?_ (ix2 r j)
    (cover0_7 _ _ _ _ _ _ _ _ _ _ _ _ _ _ _ _ _ _ _ _ _ _ _ _ _ _ _ _ _ _ _ _ (ix2 r j))
  unfold k0_pay11 k0_pay9 k0_pay8
  generalize k0_pay4 (F := 𝔼) _ _ = xn at hn ⊢
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  all_goals
    intro x
    idx_vars x
    refine at_piece (blockLane _ _ _) _ _ _ _ (by omega) (by omega) ?_
    pointwise [k0_pay1, k0_pay8, k0_pay9, k0_pay11, k0_pay13, k0_pay15, k0_pay17, k0_pay19, k0_pay21, k0_pay24, k0_pay26,
      k0_pay28, k0_pay30, k0_pay32, k0_pay34, k0_pay35, k0_pay37, k0_pay39, k0_pay41, k0_pay43, k0_pay45, k0_pay47, k0_pay49,
      k0_pay51, k0_pay53, k0_pay57, k0_pay59, k0_pay61, k0_pay62, k0_pay64, k0_pay66, k0_pay68, k0_pay70, k0_pay72, k0_pay74,
      k0_pay76, k0_pay79, k0_pay81, k0_pay83, k0_pay85, k0_pay87, k0_pay88, k0_pay90, k0_pay92, k0_pay94, k0_pay96, k0_pay98,
      k0_pay100, k0_pay102, k0_pay104, k0_pay106, k0_pay108, blockLane, column, inBlock, factor]
    simp only [hn]
    refine congrArg (· * _) (Finset.sum_congr rfl fun q _ => at_term _ _ _ q ?_ ?_)
    all_goals
      dsimp only
      omega

/-- Lane `l` of row `r` of the turned queries in a grid point's block. -/
def blockTurned (r : Fin 8192) (l : Fin 128) : EReal :=
  turned (blockLane x0 x1 x2 r) (fun l => x4 (ix2 (inBlock r) l)) (fun l => x5 (ix2 (inBlock r) l)) (fun l => x6 (ix2 (inBlock r) l)) l

/-- The block of the turned queries. -/
theorem out_turned (r : Fin 8192) (j : Fin 128) : out0_8 x0 x1 x2 x3 x4 x5 x6 (ix2 r j) = blockTurned x0 x1 x2 x4 x5 x6 r j := by
  have hn := normed_apply x0 x1
  unfold_out out0_8
  refine View.canon_apply_of_pieces (fun y : S8192x128.Idx => (show Elt 𝔼 EltTy.bf16 from blockTurned x0 x1 x2 x4 x5 x6 (y 0) (y 1))) _ ?_ (ix2 r j)
    (cover0_8 _ _ _ _ _ _ _ _ _ _ _ _ _ _ _ _ _ _ _ _ _ _ _ _ _ _ _ _ _ _ _ _ (ix2 r j))
  unfold k0_pay10 k0_pay9 k0_pay8
  generalize k0_pay4 (F := 𝔼) _ _ = xn at hn ⊢
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  all_goals
    intro x
    idx_vars x
    refine at_piece (blockTurned _ _ _ _ _ _) _ _ _ _ (by omega) (by omega) ?_
    pointwise [k0_pay2, k0_pay5, k0_pay6, k0_pay7, k0_pay8, k0_pay9, k0_pay10, k0_pay12, k0_pay14, k0_pay15, k0_pay16,
      k0_pay18, k0_pay20, k0_pay21, k0_pay22, k0_pay23, k0_pay25, k0_pay27, k0_pay28, k0_pay29, k0_pay31, k0_pay33, k0_pay34,
      k0_pay35, k0_pay36, k0_pay38, k0_pay40, k0_pay41, k0_pay42, k0_pay44, k0_pay46, k0_pay47, k0_pay48, k0_pay50, k0_pay52,
      k0_pay53, k0_pay54, k0_pay55, k0_pay56, k0_pay58, k0_pay60, k0_pay61, k0_pay62, k0_pay63, k0_pay65, k0_pay67, k0_pay68,
      k0_pay69, k0_pay71, k0_pay73, k0_pay74, k0_pay75, k0_pay77, k0_pay78, k0_pay80, k0_pay81, k0_pay82, k0_pay84, k0_pay86,
      k0_pay87, k0_pay88, k0_pay89, k0_pay91, k0_pay93, k0_pay94, k0_pay95, k0_pay97, k0_pay99, k0_pay100, k0_pay101,
      k0_pay103, k0_pay105, k0_pay106, k0_pay107, k0_pay109, blockTurned, blockLane, turned, column, inBlock, factor]
    simp only [hn]
    refine congrArg₂ (· + ·) (congrArg₂ (· + ·)
      (congrArg₂ (· * ·) (congrArg (· * _) (Finset.sum_congr rfl fun q _ => at_term _ _ _ q ?_ ?_)) (at_row x4 ?_ _))
      (congrArg₂ (· * ·) (congrArg (· * _) (Finset.sum_congr rfl fun q _ => at_term _ _ _ q ?_ ?_)) (at_row x5 ?_ _)))
      (congrArg₂ (· * ·) (congrArg (· * _) (Finset.sum_congr rfl fun q _ => at_term _ _ _ q ?_ ?_)) (at_row x6 ?_ _))
    all_goals
      dsimp only
      omega

/-- The block of the gates. -/
theorem out_gates (r : Fin 512) (j : Fin 128) :
    out0_9 x0 x1 x2 x3 x4 x5 x6 (ix2 r j)
      = Ideal.logistic (column (fun q => x0 (ix2 r q)) (fun q => x1 (ix2 0 q)) (fun q => x2 (ix2 q ⟨2048 + j.val, by omega⟩)) + x3 (ix2 0 j)) := by
  have hn := normed_apply x0 x1
  unfold_out out0_9
  rw [View.canon_unit_zero (h := by ext a; fin_cases a <;> rfl)]
  unfold column
  generalize k0_pay4 (F := 𝔼) _ _ = xn at hn ⊢
  pointwise [k0_pay3]
  simp only [hn]

end Cert.QProjIdeal.Hand

end
-- ==== Proof.QProjTables.lean ====
/- What the arrays that the call's program prepares for the query projection hold: the three tables by which heads are turned, and the
   weights and the bias with each head of queries, and the gates, padded to 128 columns. -/
module

public import proofs.«01_k».proof.Proof.Gen.QProjIdeal.Value
public import proofs.«01_k».proof.Proof.ProjMath

@[expose] public section

set_option maxRecDepth 16384

noncomputable section

namespace Cert.QProjIdeal.Hand

open Cert.QProjIdeal Cert.QProjIdeal.Gen Idealize.ShloMosaic Idealize.ShloMosaic.TcCoe Idealize.SL.Sem Cert.FfnMath Cert.ProjMath

/-- The float values read as extended reals. -/
local notation "𝔼" => Idealize.ShloMosaic.Ideal

variable (m : (ℓ : Loc nD τ sig) → Buf (Elt 𝔼) ℓ) (c : Dev nD)

/-- The table of cosines: the first twelve columns and the twelve after them hold the cosine of the pair's angle, the others 1. -/
theorem cosines (p : Fin 2048) (l : Fin 128) :
    (V m c main_v17 (ix2 p l) : EReal)
      = if l.val < 12 then Ideal.cos (angle p.val l.val) else if l.val - 12 < 12 then Ideal.cos (angle p.val (l.val - 12)) else 1 := by
  unfold V hostOps0 hostOps0_1 hostOps0_2 hostOps0_3 hostOps0_4 hostOps0_5 hostOps0_6
  simp only [List.flatten_cons, List.flatten_nil, List.append_nil, List.cons_append, List.nil_append]
  after_results
  pointwise
  after_results_simp
  pointwise
  unfold angle
  simp only [dite_eq_ite]

/-- The table of sines that a lane takes with the lane 12 further on: negated, in the first twelve columns. -/
theorem sinesAhead (p : Fin 2048) (l : Fin 128) :
    (V m c main_v20 (ix2 p l) : EReal) = if l.val < 12 then -Ideal.sin (angle p.val l.val) else 0 := by
  unfold V hostOps0 hostOps0_1 hostOps0_2 hostOps0_3 hostOps0_4 hostOps0_5 hostOps0_6
  simp only [List.flatten_cons, List.flatten_nil, List.append_nil, List.cons_append, List.nil_append]
  after_results
  pointwise
  unfold angle
  simp only [dite_eq_ite]

/-- The table of sines that a lane takes with the lane 12 before: in columns 12 to 23. -/
theorem sinesBehind (p : Fin 2048) (l : Fin 128) :
    (V m c main_v23 (ix2 p l) : EReal)
      = if l.val < 12 then 0 else if l.val - 12 < 12 then Ideal.sin (angle p.val (l.val - 12)) else 0 := by
  unfold V hostOps0 hostOps0_1 hostOps0_2 hostOps0_3 hostOps0_4 hostOps0_5 hostOps0_6
  simp only [List.flatten_cons, List.flatten_nil, List.append_nil, List.cons_append, List.nil_append]
  after_results
  pointwise
  after_results_simp
  pointwise
  unfold angle
  simp only [dite_eq_ite]

/-- The padded weights. -/
theorem padded (q : Fin 1024) (b : Fin 2176) :
    (V m c main_v31 (ix2 q b) : EReal)
      = if h : b.val < 2048 then
          if h : b.val / 128 < 16 ∧ b.val % 128 < 96 then
            m ((c.tc : Thread nD τ).loc main_arg2) (ix2 q ⟨b.val / 128 * 96 + b.val % 128, by omega⟩)
          else (0 : EReal)
        else
          if h : b.val - 2048 < 48 then m ((c.tc : Thread nD τ).loc main_arg2) (ix2 q ⟨1536 + (b.val - 2048), by omega⟩)
          else (0 : EReal) := by
  unfold V hostOps0 hostOps0_1 hostOps0_2 hostOps0_3 hostOps0_4 hostOps0_5 hostOps0_6
  simp only [List.flatten_cons, List.flatten_nil, List.append_nil, List.cons_append, List.nil_append]
  after_results
  simp only [StableHlo.TRef.toBuf, StableHlo.TRef.ofBuf, cast_eq]
  pointwise
  simp only [sitofp_zero]

/-- The padded bias, as one row. -/
theorem paddedBias (b : Fin 128) :
    (V m c main_v33 (ix2 0 b) : EReal)
      = if h : b.val < 48 then m ((c.tc : Thread nD τ).loc main_arg3) (ix1 ⟨b.val, h⟩) else (0 : EReal) := by
  unfold V hostOps0 hostOps0_1 hostOps0_2 hostOps0_3 hostOps0_4 hostOps0_5 hostOps0_6
  simp only [List.flatten_cons, List.flatten_nil, List.append_nil, List.cons_append, List.nil_append]
  after_results
  simp only [StableHlo.TRef.toBuf, StableHlo.TRef.ofBuf, cast_eq]
  pointwise
  simp only [sitofp_zero]

/-- The scale of the normalisation, as one row. -/
theorem scale (q : Fin 1024) :
    (V m c main_v34 (ix2 0 q) : EReal) = m ((c.tc : Thread nD τ).loc main_arg1) (ix1 q) := by
  unfold V hostOps0 hostOps0_1 hostOps0_2 hostOps0_3 hostOps0_4 hostOps0_5 hostOps0_6
  simp only [List.flatten_cons, List.flatten_nil, List.append_nil, List.cons_append, List.nil_append]
  after_results
  pointwise

end Cert.QProjIdeal.Hand

end
-- ==== Proof.QProjRun.lean ====
/- The arrays of the call that projects queries and gates after the run: the blocks of the grid points put together, and the run
   with the three results named entry by entry. -/
module

public import proofs.«01_k».proof.Proof.QProjMath
public import proofs.«01_k».proof.Proof.QProjValue
public import proofs.«01_k».proof.Proof.QProjTables

@[expose] public section

set_option maxRecDepth 16384

noncomputable section

namespace Cert.QProjIdeal.Hand

open Cert.QProjIdeal Cert.QProjIdeal.Gen Idealize.ShloMosaic Idealize.ShloMosaic.TcCoe Idealize.SL.Sem Cert.FfnMath Cert.ProjMath
open Cert.QProjMath

/-- The float values read as extended reals. -/
local notation "𝔼" => Idealize.ShloMosaic.Ideal

variable (m : (ℓ : Loc nD τ sig) → Buf (Elt 𝔼) ℓ) (ρ : Dev nD → PrngReg)

/-- The three results: the queries, the queries turned by their positions, the gates. -/
def queries (c : Dev nD) : S1048576x128.Idx → EReal := fun j =>
  plain (m ((c.tc : Thread nD τ).loc main_arg0)) (m ((c.tc : Thread nD τ).loc main_arg1)) (m ((c.tc : Thread nD τ).loc main_arg2)) (j 0) (j 1)
@[inherit_doc queries]
def queriesTurned (c : Dev nD) : S1048576x128.Idx → EReal := fun j =>
  turnedLane (m ((c.tc : Thread nD τ).loc main_arg0)) (m ((c.tc : Thread nD τ).loc main_arg1)) (m ((c.tc : Thread nD τ).loc main_arg2)) (j 0) (j 1)
@[inherit_doc queries]
def gateLanes (c : Dev nD) : S65536x128.Idx → EReal := fun j =>
  gates (m ((c.tc : Thread nD τ).loc main_arg0)) (m ((c.tc : Thread nD τ).loc main_arg1)) (m ((c.tc : Thread nD τ).loc main_arg2)) (m ((c.tc : Thread nD τ).loc main_arg3)) (j 0) (j 1)

/-- The number of grid points. -/
theorem points : cfg0.N = 128 := by decide +kernel

/-- The token that row `r` of a grid point's block holds. -/
def tok (t : Fin cfg0.N) (r : Fin 512) : Fin 65536 := ⟨t.val * 512 + r.val, by have := t.isLt.trans_eq points; omega⟩

/-- The row of the queries that row `r` of a grid point's block of them is. -/
def row (t : Fin cfg0.N) (r : Fin 8192) : Fin 1048576 := ⟨t.val * 8192 + r.val, by have := t.isLt.trans_eq points; omega⟩

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![t.val % 4, 0] ∧ win0_5.index t = ![t.val % 4, 0]
    ∧ win0_6.index t = ![t.val % 4, 0] ∧ win0_7.index t = ![t.val, 0] ∧ win0_8.index t = ![t.val, 0] ∧ win0_9.index t = ![t.val, 0] :=
  (by decide +kernel : ∀ t : Fin grid0.N, _)

variable (c : Dev nD) (t : Fin cfg0.N)

/-- A row of a grid point's block of tokens is its token. -/
theorem blk_tokens (r : Fin 512) (q : Fin 1024) : iblk m c 0 t (ix2 r q) = m ((c.tc : Thread nD τ).loc main_arg0) (ix2 (tok t r) q) := by
  blk_point [iblk, V, idx t, tok]

/-- The scale's block is the whole scale. -/
theorem blk_scale (q : Fin 1024) : iblk m c 1 t (ix2 0 q) = m ((c.tc : Thread nD τ).loc main_arg1) (ix1 q) := by
  rw [← scale m c q]
  blk_point [iblk, idx t]

/-- The padded weights' block is the whole array. -/
theorem blk_padded (q : Fin 1024) (k : Fin 2176) : iblk m c 2 t (ix2 q k) = V m c main_v31 (ix2 q k) := by
  blk_point [iblk, idx t]

/-- The padded bias's block is the whole row. -/
theorem blk_bias (k : Fin 128) : iblk m c 3 t (ix2 0 k) = V m c main_v33 (ix2 0 k) := by
  blk_point [iblk, idx t]

/-- A row of a grid point's block of cosines is the row of its token's position. -/
theorem blk_cosines (r : Fin 512) (l : Fin 128) : iblk m c 4 t (ix2 r l) = V m c main_v17 (ix2 ⟨(tok t r).val % 2048, by omega⟩ l) := by
  blk_point [iblk, idx t, tok]

@[inherit_doc blk_cosines]
theorem blk_ahead (r : Fin 512) (l : Fin 128) : iblk m c 5 t (ix2 r l) = V m c main_v20 (ix2 ⟨(tok t r).val % 2048, by omega⟩ l) := by
  blk_point [iblk, idx t, tok]

@[inherit_doc blk_cosines]
theorem blk_behind (r : Fin 512) (l : Fin 128) : iblk m c 6 t (ix2 r l) = V m c main_v23 (ix2 ⟨(tok t r).val % 2048, by omega⟩ l) := by
  blk_point [iblk, idx t, tok]

/-- A column of a grid point's projection by weights `w` that are column `o` of the call's. -/
theorem column_entry (r : Fin 512) (w : Fin 1024 → EReal) (o : Fin 1584)
    (hw : ∀ q, w q = m ((c.tc : Thread nD τ).loc main_arg2) (ix2 q o)) :
    column (fun q => iblk m c 0 t (ix2 r q)) (fun q => iblk m c 1 t (ix2 0 q)) w = entry (m ((c.tc : Thread nD τ).loc main_arg0)) (m ((c.tc : Thread nD τ).loc main_arg1)) (m ((c.tc : Thread nD τ).loc main_arg2)) (tok t r) o := by
  unfold entry
  rw [show (fun q => iblk m c 0 t (ix2 r q)) = _ from funext fun q => blk_tokens m c t r q,
    show (fun q => iblk m c 1 t (ix2 0 q)) = _ from funext fun q => blk_scale m c t q, show w = _ from funext hw]

/-- The token of a row of the queries, found in the grid point's block of tokens. -/
theorem tok_row (r : Fin 8192) : tok t (inBlock r) = token (row t r) := by
  apply Fin.ext
  unfold tok inBlock token row
  dsimp only
  omega

/-- A grid point's queries. -/
theorem lane_block (r : Fin 8192) (l : Fin 128) :
    blockLane (iblk m c 0 t) (iblk m c 1 t) (iblk m c 2 t) r l
      = plain (m ((c.tc : Thread nD τ).loc main_arg0)) (m ((c.tc : Thread nD τ).loc main_arg1)) (m ((c.tc : Thread nD τ).loc main_arg2)) (row t r) l := by
  unfold blockLane plain QProjMath.lane
  by_cases hl : l.val < 96
  · refine Eq.trans ?_ (dif_pos hl).symm
    refine congrArg (· * factor) ((column_entry m c t (inBlock r) _ ⟨r.val / 256 % 16 * 96 + l.val, by omega⟩ fun q =>
      ((blk_padded m c t q _).trans (padded m c q _)).trans ?_).trans ?_)
    · dsimp only
      rw [dif_pos (by omega), dif_pos (by omega)]
      exact at_lane _ q (by dsimp only; omega)
    · refine congrArg₂ (entry _ _ _) (tok_row t r) (Fin.ext ?_)
      unfold row
      dsimp only
      omega
  · refine Eq.trans ?_ (dif_neg hl).symm
    refine Eq.trans (congrArg (· * factor) (Eq.trans (congrArg (column _ _) (funext fun q =>
      ((blk_padded m c t q _).trans (padded m c q _)).trans ?_)) (column_zero _ _))) (zero_mul factor)
    dsimp only
    rw [dif_pos (by omega), dif_neg (by omega)]

/-- A grid point's turned queries. -/
theorem turned_block (r : Fin 8192) (l : Fin 128) :
    blockTurned (iblk m c 0 t) (iblk m c 1 t) (iblk m c 2 t) (iblk m c 4 t) (iblk m c 5 t) (iblk m c 6 t) r l
      = turnedLane (m ((c.tc : Thread nD τ).loc main_arg0)) (m ((c.tc : Thread nD τ).loc main_arg1)) (m ((c.tc : Thread nD τ).loc main_arg2)) (row t r) l := by
  have hp : (row t r).val / 4096 % 8 * 256 + (row t r).val % 256 = (tok t (inBlock r)).val % 2048 := by
    unfold tok inBlock row
    dsimp only
    omega
  unfold blockTurned turnedLane
  rw [hp]
  exact turned_roped _ _ _ _ _ _ (fun l => lane_block m c t r l) (fun l => (blk_cosines m c t _ l).trans (cosines m c _ l))
    (fun l => (blk_ahead m c t _ l).trans (sinesAhead m c _ l)) (fun l => (blk_behind m c t _ l).trans (sinesBehind m c _ l)) _

/-- A grid point's gates. -/
theorem gates_block (r : Fin 512) (l : Fin 128) :
    Ideal.logistic (column (fun q => iblk m c 0 t (ix2 r q)) (fun q => iblk m c 1 t (ix2 0 q)) (fun q => iblk m c 2 t (ix2 q ⟨2048 + l.val, by omega⟩))
        + iblk m c 3 t (ix2 0 l))
      = gates (m ((c.tc : Thread nD τ).loc main_arg0)) (m ((c.tc : Thread nD τ).loc main_arg1)) (m ((c.tc : Thread nD τ).loc main_arg2))
          (m ((c.tc : Thread nD τ).loc main_arg3)) (tok t r) l := by
  unfold gates
  by_cases hl : l.val < 48
  · refine Eq.trans ?_ (dif_pos hl).symm
    refine congrArg Ideal.logistic (congrArg₂ (· + ·) (column_entry m c t r _ ⟨1536 + l.val, by omega⟩ fun q =>
      ((blk_padded m c t q _).trans (padded m c q _)).trans ?_)
      (((blk_bias m c t l).trans (paddedBias m c l)).trans (dif_pos hl)))
    dsimp only
    rw [dif_neg (by omega), dif_pos (by omega)]
    exact at_lane _ q (by dsimp only; omega)
  · refine Eq.trans ?_ (dif_neg hl).symm
    refine Eq.trans (congrArg Ideal.logistic (Eq.trans (congrArg₂ (· + ·) (Eq.trans (congrArg (column _ _) (funext fun q =>
      ((blk_padded m c t q _).trans (padded m c q _)).trans ?_)) (column_zero _ _))
      (((blk_bias m c t l).trans (paddedBias m c l)).trans (dif_neg hl))) (add_zero 0))) logistic_zero
    dsimp only
    rw [dif_neg (by omega), dif_neg (by omega)]

/-- The array of window 7 after the run. -/
theorem final_queries : (dats m 0 c).arrAt 7 cfg0.N = queries m c := by
  refine (dats m 0 c).arrAt_eq_of_covers 7 _ (by decide +kernel) fun t hf y => ?_
  blk_simp
  rw [after0_7]
  idx_vars y
  rw [out_plain]
  unfold queries
  refine (lane_block m c t y0 y1).trans (congrArg₂ (plain _ _ _) (Fin.ext ?_) (Fin.ext ?_))
  all_goals blk_simp [idx t, row]

/-- The array of window 8 after the run. -/
theorem final_queriesTurned : (dats m 0 c).arrAt 8 cfg0.N = queriesTurned m c := by
  refine (dats m 0 c).arrAt_eq_of_covers 8 _ (by decide +kernel) fun t hf y => ?_
  blk_simp
  rw [after0_8]
  idx_vars y
  rw [out_turned]
  unfold queriesTurned
  refine (turned_block m c t y0 y1).trans (congrArg₂ (turnedLane _ _ _) (Fin.ext ?_) (Fin.ext ?_))
  all_goals blk_simp [idx t, row]

/-- The array of window 9 after the run. -/
theorem final_gates : (dats m 0 c).arrAt 9 cfg0.N = gateLanes m c := by
  refine (dats m 0 c).arrAt_eq_of_covers 9 _ (by decide +kernel) fun t hf y => ?_
  blk_simp
  rw [after0_9]
  idx_vars y
  rw [out_gates]
  unfold gateLanes
  refine (gates_block m c t y0 y1).trans (congrArg₂ (gates _ _ _ _) (Fin.ext ?_) (Fin.ext ?_))
  all_goals blk_simp [idx t, tok]

/-- The run: the three result arrays as named, the arguments as launched. -/
theorem run : θ_run defs (onTc (τ := τ) (main (F := 𝔼))) ⟨m, fun _ => 0, ρ⟩ fun r => ∀ c : Dev nD,
      r.2.mem ((c.tc : Thread nD τ).loc main_v35_0) = queries m c
      ∧ r.2.mem ((c.tc : Thread nD τ).loc main_v35_1) = queriesTurned m c
      ∧ r.2.mem ((c.tc : Thread nD τ).loc main_v35_2) = gateLanes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_queries m c), (h c).2.1.trans (final_queriesTurned m c),
    (h c).2.2.1.trans (final_gates m c), (h c).2.2.2⟩) (Value.run_blocks m ρ)

end Cert.QProjIdeal.Hand

end
-- ==== Proof.QProjRefValue.lean ====
/- The value of the reference of the call that projects the tokens to queries and gates: its operations composed, entry by
   entry. -/
module

public import proofs.«01_k».proof.Proof.Gen.QProjRefIdeal.Run
public import proofs.«01_k».proof.Proof.QProjMath

@[expose] public section

set_option maxRecDepth 16384

noncomputable section

namespace Cert.QProjRefIdeal.Hand

open Cert.QProjRefIdeal Cert.QProjRefIdeal.Gen Idealize.ShloMosaic Idealize.SL.Sem Cert.FfnMath Cert.ProjMath
open Cert.QProjMath

/-- The float values read as extended reals. -/
local notation "𝔼" => Idealize.ShloMosaic.Ideal

variable (m : (ℓ : Loc nD τ sig) → Buf (Elt 𝔼) ℓ) (ρ : Dev nD → PrngReg)

/-- The three results: the queries, the queries turned by their positions, the gates. -/
def queries (c : Dev nD) : S1048576x128.Idx → EReal := fun j =>
  plain (m ((c.tc : Thread nD τ).loc main_arg0)) (m ((c.tc : Thread nD τ).loc main_arg1)) (m ((c.tc : Thread nD τ).loc main_arg2)) (j 0) (j 1)
@[inherit_doc queries]
def queriesTurned (c : Dev nD) : S1048576x128.Idx → EReal := fun j =>
  turnedLane (m ((c.tc : Thread nD τ).loc main_arg0)) (m ((c.tc : Thread nD τ).loc main_arg1)) (m ((c.tc : Thread nD τ).loc main_arg2)) (j 0) (j 1)
@[inherit_doc queries]
def gateLanes (c : Dev nD) : S65536x128.Idx → EReal := fun j =>
  gates (m ((c.tc : Thread nD τ).loc main_arg0)) (m ((c.tc : Thread nD τ).loc main_arg1)) (m ((c.tc : Thread nD τ).loc main_arg2)) (m ((c.tc : Thread nD τ).loc main_arg3)) (j 0) (j 1)

/-- The run: the three result arrays as named, the arguments as launched. -/
theorem run : θ_run defs (onTc (τ := τ) (main (F := 𝔼))) ⟨m, fun _ => 0, ρ⟩ fun r => ∀ c : Dev nD,
      r.2.mem ((c.tc : Thread nD τ).loc main_v34) = queries m c
      ∧ r.2.mem ((c.tc : Thread nD τ).loc main_v73) = queriesTurned m c
      ∧ r.2.mem ((c.tc : Thread nD τ).loc main_v29) = gateLanes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Value.run m ρ)
  obtain ⟨h0, h1, h2, hk⟩ := h c
  refine ⟨h0.trans ?_, h1.trans ?_, h2.trans ?_, hk⟩
  all_goals
    clear h0 h1 h2 hk
    funext j
    idx_vars j
  · pointwise
    simp only [show j0.val / 4096 / 8 * 2048 + (j0.val / 4096 % 8 * 256 + j0.val % 256) = j0.val / 4096 * 256 + j0.val % 256 by omega]
    show _ = plain (m ((c.tc : Thread nD τ).loc main_arg0)) (m ((c.tc : Thread nD τ).loc main_arg1)) (m ((c.tc : Thread nD τ).loc main_arg2)) j0 j1
    unfold plain QProjMath.lane entry column rowNorm token factor
    dsimp only
    by_cases h : j1.val < 96
    · have hc : j0.val / 4096 / 8 < 32 ∧ j0.val / 4096 % 8 * 256 + j0.val % 256 < 2048 ∧ j0.val / 256 % 16 < 16 ∧ j1.val < 96 := ⟨by omega, by omega, by omega, h⟩
      refine (dif_pos hc).trans (Eq.trans ?_ (dif_pos h).symm)
      with_reducible rfl
    · refine (dif_neg fun hc => h hc.2.2.2).trans (Eq.trans ?_ (dif_neg h).symm)
      exact sitofp_zero
  · unfold Value.res_main_v73
    pointwise
    simp only [show j0.val / 4096 / 8 * 2048 + (j0.val / 4096 % 8 * 256 + j0.val % 256) = j0.val / 4096 * 256 + j0.val % 256 by omega]
    show _ = turnedLane (m ((c.tc : Thread nD τ).loc main_arg0)) (m ((c.tc : Thread nD τ).loc main_arg1)) (m ((c.tc : Thread nD τ).loc main_arg2)) j0 j1
    unfold turnedLane roped QProjMath.lane entry column rowNorm angle token factor
    dsimp only
    by_cases h : j1.val < 96
    · have hc : j0.val / 4096 / 8 < 32 ∧ j0.val / 4096 % 8 * 256 + j0.val % 256 < 2048 ∧ j0.val / 256 % 16 < 16 ∧ j1.val < 96 := ⟨by omega, by omega, by omega, h⟩
      refine (dif_pos hc).trans (Eq.trans ?_ (dif_pos h).symm)
      by_cases h₁ : j1.val < 24
      · refine (dif_pos h₁).trans (Eq.trans ?_ (dif_pos h₁).symm)
        by_cases h₂ : j1.val < 12
        · refine (dif_pos h₂).trans (Eq.trans ?_ (dif_pos h₂).symm)
          with_reducible rfl
        · refine (dif_neg h₂).trans (Eq.trans ?_ (dif_neg h₂).symm)
          simp only [show 12 + (j1.val - 12) = j1.val by omega]
      · refine (dif_neg h₁).trans (Eq.trans ?_ (dif_neg h₁).symm)
        simp only [show 24 + (j1.val - 24) = j1.val by omega]
    · refine (dif_neg fun hc => h hc.2.2.2).trans (Eq.trans ?_ (dif_neg h).symm)
      exact sitofp_zero
  · pointwise
    show _ = gates (m ((c.tc : Thread nD τ).loc main_arg0)) (m ((c.tc : Thread nD τ).loc main_arg1)) (m ((c.tc : Thread nD τ).loc main_arg2)) (m ((c.tc : Thread nD τ).loc main_arg3)) j0 j1
    unfold gates Ideal.logistic entry column rowNorm
    dsimp only

end Cert.QProjRefIdeal.Hand

end
-- ==== Proof.CompressMath.lean ====
/- The mathematics of the call that compresses keys or values: a block of 32 tokens, 16 further on than the block before, plus its
   positions, through two layers. The width `D` of a head is 96 for keys and 64 for values. -/
module

public import proofs.«01_k».proof.Proof.RglruInMath
public import proofs.«01_k».proof.Proof.ProjMath

@[expose] public section

noncomputable section

namespace Cert.CompressMath

open Idealize.ShloMosaic Cert.RglruInMath

/-- A column `w` of the second layer on the row `x`. -/
def column₂ {n : ℕ} (x : Fin n → EReal) (W : Fin n → Fin 256 → EReal) (w : Fin 256 → EReal) : EReal :=
  ∑ k, gelu (∑ q, x q * W q k) * w k

/-- A sum over twice as many terms is the sum of its halves. -/
theorem sum_halves {n N : ℕ} (h : n + n = N) (f : Fin N → EReal) :
    ∑ q, f q = (∑ q : Fin n, f ⟨q.val, by omega⟩) + ∑ q : Fin n, f ⟨n + q.val, by omega⟩ := by
  subst h
  exact Fin.sum_univ_add f

/-- A column of the second layer on a row that is joined from two halves. -/
theorem column₂_halves {n N : ℕ} (h : n + n = N) {x : Fin N → EReal} {W : Fin N → Fin 256 → EReal} {w w' : Fin 256 → EReal}
    {x₀ x₁ : Fin n → EReal} {W₀ W₁ : Fin n → Fin 256 → EReal} (hx₀ : ∀ q, x₀ q = x ⟨q.val, by omega⟩) (hx₁ : ∀ q, x₁ q = x ⟨n + q.val, by omega⟩)
    (hW₀ : ∀ q k, W₀ q k = W ⟨q.val, by omega⟩ k) (hW₁ : ∀ q k, W₁ q k = W ⟨n + q.val, by omega⟩ k) (hw : ∀ k, w' k = w k) :
    ∑ k, gelu ((∑ q, x₀ q * W₀ q k) + ∑ q, x₁ q * W₁ q k) * w' k = column₂ x W w := by
  simp only [hx₀, hx₁, hW₀, hW₁, hw, column₂, sum_halves h]

/-- The call's test for the last of 128 rows. -/
theorem mask : ∀ r : Fin 1024, IntOp.cmpi .eq (IntOp.andi (BitVec.ofNat 32 r.val) 127#32) 127#32 = if r.val % 128 < 127 then 0#1 else 1#1 := by
  decide +kernel

/-- Two entries agree if their rows and their columns have the same numbers. -/
theorem at_entry {n0 n1 : ℕ} (f : (⟨2, ![n0, n1]⟩ : Shape).Idx → EReal) {a a' : Fin n0} {b b' : Fin n1} (ha : a.val = a'.val) (hb : b.val = b'.val) :
    f (ix2 a b) = f (ix2 a' b') := by rw [Fin.ext ha, Fin.ext hb]

/-- A column of zeros of the second layer leaves nothing. -/
theorem column₂_zero {n : ℕ} (x : Fin n → EReal) (W : Fin n → Fin 256 → EReal) : column₂ x W (fun _ => 0) = 0 :=
  Finset.sum_eq_zero fun _ _ => mul_zero _

section

variable {D W N : ℕ}

theorem head_lt (hW : 4 * D = W) (hN : 32 * D = N) (g : ℕ) (hg : g < 4) (q : Fin N) : g * D + q.val % D < W := by
  have hD : 0 < D := by have := q.isLt; omega
  have := Nat.mod_lt q.val hD
  have := Nat.mul_le_mul_right D (Nat.le_of_lt_succ hg)
  omega

theorem token_lt (hN : 32 * D = N) (q : Fin N) : q.val / D < 32 :=
  Nat.div_lt_of_lt_mul (by have := q.isLt; rw [Nat.mul_comm]; omega)

/-- The block of row `r` of the result, before the layers: sequence `r / 512`, head `r / 128 % 4`, block `r % 128`, of which
    there are 127. The entries are the tokens' lanes, one token after the other, plus their positions in the block. -/
def block (hW : 4 * D = W) (hN : 32 * D = N) (H : (⟨2, ![65536, W]⟩ : Shape).Idx → EReal) (P : (⟨2, ![32, D]⟩ : Shape).Idx → EReal)
    (r : Fin 16384) (h : r.val % 128 < 127) (q : Fin N) : EReal :=
  H (ix2 ⟨r.val / 512 * 2048 + (r.val % 128 * 16 + q.val / D), by have := token_lt hN q; omega⟩
      ⟨r.val / 128 % 4 * D + q.val % D, head_lt hW hN _ (by omega) q⟩)
    + P (ix2 ⟨q.val / D, token_lt hN q⟩ ⟨q.val % D, Nat.mod_lt _ (by have := q.isLt; omega)⟩)

/-- Lane `l` of row `r` of the result: zero in every row that has no block. -/
def compressed (hW : 4 * D = W) (hN : 32 * D = N) (H : (⟨2, ![65536, W]⟩ : Shape).Idx → EReal) (P : (⟨2, ![32, D]⟩ : Shape).Idx → EReal)
    (W₁ : (⟨2, ![N, 256]⟩ : Shape).Idx → EReal) (W₂ : (⟨2, ![256, D]⟩ : Shape).Idx → EReal) (r : Fin 16384) (l : Fin D) : EReal :=
  if h : r.val % 128 < 127 then column₂ (block hW hN H P r h) (fun q k => W₁ (ix2 q k)) (fun k => W₂ (ix2 k l)) else 0

end

/-- The compressed keys: a row's 96 lanes padded to 128. -/
def keyLane (H : (⟨2, ![65536, 384]⟩ : Shape).Idx → EReal) (P : (⟨2, ![32, 96]⟩ : Shape).Idx → EReal)
    (W₁ : (⟨2, ![3072, 256]⟩ : Shape).Idx → EReal) (W₂ : (⟨2, ![256, 96]⟩ : Shape).Idx → EReal) (r : Fin 16384) (l : Fin 128) : EReal :=
  if h : l.val < 96 then compressed rfl rfl H P W₁ W₂ r ⟨l.val, h⟩ else 0

/-- The compressed values. -/
def valueLane (H : (⟨2, ![65536, 256]⟩ : Shape).Idx → EReal) (P : (⟨2, ![32, 64]⟩ : Shape).Idx → EReal)
    (W₁ : (⟨2, ![2048, 256]⟩ : Shape).Idx → EReal) (W₂ : (⟨2, ![256, 64]⟩ : Shape).Idx → EReal) (r : Fin 16384) (l : Fin 64) : EReal :=
  compressed rfl rfl H P W₁ W₂ r l

end Cert.CompressMath

end
-- ==== Proof.CmpKeysValue.lean ====
/- The value of the call that compresses the keys: what a grid point leaves in its block. -/
module

public import proofs.«01_k».proof.Proof.Gen.CmpKeysIdeal.Value
public import proofs.«01_k».proof.Proof.CompressMath

@[expose] public section

set_option maxRecDepth 16384

noncomputable section

namespace Cert.CmpKeysIdeal.Hand

open Cert.CmpKeysIdeal Cert.CmpKeysIdeal.Gen Idealize.ShloMosaic Idealize.ShloMosaic.TcCoe Idealize.SL.Sem Cert.ProjMath Cert.RglruInMath
open Cert.CompressMath

/-- The float values read as extended reals. -/
local notation "𝔼" => Idealize.ShloMosaic.Ideal

variable (x0 : Vec 𝔼 S1024x1536 .bf16) (x1 : Vec 𝔼 S2x1536 .f32) (x2 : Vec 𝔼 S2x1536x256 .bf16) (x3 : Vec 𝔼 S256x128 .bf16)

/-- Row `r` of a grid point's block of the result, where it has a block: the half block of that row with the next one. -/
def blockLane (r : Fin 1024) (j : Fin 128) : EReal :=
  ∑ k : Fin 256, gelu ((∑ q : Fin 1536, (x0 (ix2 r q) + x1 (ix2 0 q)) * x2 (ix3 0 q k))
    + ∑ q : Fin 1536, (x0 (ix2 ⟨(r.val + 1024 - 1023) % 1024, by omega⟩ q) + x1 (ix2 1 q)) * x2 (ix3 1 q k)) * x3 (ix2 k j)

/-- What a grid point leaves in row `r` of its block. -/
theorem out_block (r : Fin 1024) (j : Fin 128) :
    (out0_4 x0 x1 x2 x3 (ix2 r j) : EReal)
      = if r.val % 128 < 127 then blockLane x0 x1 x2 x3 r j else (0 : EReal) := by
  unfold out0_4
  rw [View.canon_unit_zero (h := by ext a; fin_cases a <;> rfl)]
  unfold k0_pay1 k0_pay2 k0_pay3 blockLane gelu
  pointwise
  rw [mask r]
  by_cases h : r.val % 128 < 127
  · rw [if_pos h, if_pos h]
    rfl
  · rw [if_neg h, if_neg h]
    rfl

variable (m : (ℓ : Loc nD τ sig) → Buf (Elt 𝔼) ℓ) (c : Dev nD)

/-- The tokens in half blocks of 16, by sequence and head. -/
theorem halves (r : Fin 16384) (q : Fin 1536) :
    (V m c main_v2 (ix2 r q) : EReal)
      = m ((c.tc : Thread nD τ).loc main_arg0) (ix2 ⟨r.val / 512 * 2048 + (r.val % 128 * 16 + q.val / 96), by omega⟩ ⟨r.val / 128 % 4 * 96 + q.val % 96, by omega⟩) := by
  unfold V hostOps0 hostOps0_1 hostOps0_2
  simp only [List.flatten_cons, List.flatten_nil, List.append_nil, List.cons_append, List.nil_append]
  after_results
  pointwise

/-- The positions, in two halves. -/
theorem positions (a : Fin 2) (q : Fin 1536) :
    (V m c main_v3 (ix2 a q) : EReal) = m ((c.tc : Thread nD τ).loc main_arg1) (ix2 ⟨a.val * 16 + q.val / 96, by omega⟩ ⟨q.val % 96, by omega⟩) := by
  unfold V hostOps0 hostOps0_1 hostOps0_2
  simp only [List.flatten_cons, List.flatten_nil, List.append_nil, List.cons_append, List.nil_append]
  after_results
  pointwise

/-- The first layer's weights, in two halves. -/
theorem weights (a : Fin 2) (q : Fin 1536) (k : Fin 256) :
    (V m c main_v5 (ix3 a q k) : EReal) = m ((c.tc : Thread nD τ).loc main_arg2) (ix2 ⟨a.val * 1536 + q.val, by omega⟩ k) := by
  unfold V hostOps0 hostOps0_1 hostOps0_2
  simp only [List.flatten_cons, List.flatten_nil, List.append_nil, List.cons_append, List.nil_append]
  after_results
  pointwise

/-- The second layer's weights, padded to 128 columns. -/
theorem padded (k : Fin 256) (l : Fin 128) :
    (V m c main_v7 (ix2 k l) : EReal) = if h : l.val < 96 then m ((c.tc : Thread nD τ).loc main_arg3) (ix2 k ⟨l.val, h⟩) else (0 : EReal) := by
  unfold V hostOps0 hostOps0_1 hostOps0_2
  simp only [List.flatten_cons, List.flatten_nil, List.append_nil, List.cons_append, List.nil_append]
  after_results
  simp only [StableHlo.TRef.toBuf, StableHlo.TRef.ofBuf, cast_eq]
  pointwise
  simp only [sitofp_zero]

end Cert.CmpKeysIdeal.Hand

end
-- ==== Proof.CmpKeysRun.lean ====
/- The array of the call that compresses the keys after the run: the blocks of the grid points put together, and the run with the
   result named entry by entry. -/
module

public import proofs.«01_k».proof.Proof.CmpKeysValue

@[expose] public section

set_option maxRecDepth 16384

noncomputable section

namespace Cert.CmpKeysIdeal.Hand

open Cert.CmpKeysIdeal Cert.CmpKeysIdeal.Gen Idealize.ShloMosaic Idealize.ShloMosaic.TcCoe Idealize.SL.Sem Cert.ProjMath Cert.RglruInMath
open Cert.CompressMath

/-- The float values read as extended reals. -/
local notation "𝔼" => Idealize.ShloMosaic.Ideal

variable (m : (ℓ : Loc nD τ sig) → Buf (Elt 𝔼) ℓ) (ρ : Dev nD → PrngReg)

/-- The compressed keys, every row padded to 128 lanes. -/
def keys (c : Dev nD) : S16384x128.Idx → EReal := fun j =>
  keyLane (m ((c.tc : Thread nD τ).loc main_arg0)) (m ((c.tc : Thread nD τ).loc main_arg1)) (m ((c.tc : Thread nD τ).loc main_arg2))
    (m ((c.tc : Thread nD τ).loc main_arg3)) (j 0) (j 1)

/-- The number of grid points. -/
theorem points : cfg0.N = 16 := by decide +kernel

/-- The row of the result that row `r` of a grid point's block is. -/
def row (t : Fin cfg0.N) (r : Fin 1024) : Fin 16384 := ⟨t.val * 1024 + r.val, by have := t.isLt.trans_eq points; omega⟩

/-- The block index of every window at every grid point. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

variable (c : Dev nD) (t : Fin cfg0.N)

/-- A row of a grid point's half blocks. -/
theorem blk_halves (r : Fin 1024) (q : Fin 1536) : iblk m c 0 t (ix2 r q) = V m c main_v2 (ix2 (row t r) q) := by
  blk_point [iblk, idx t, row]

/-- The positions' block is the whole array. -/
theorem blk_positions (a : Fin 2) (q : Fin 1536) : iblk m c 1 t (ix2 a q) = V m c main_v3 (ix2 a q) := by
  blk_point [iblk, idx t]

/-- The first weights' block is the whole array. -/
theorem blk_weights (a : Fin 2) (q : Fin 1536) (k : Fin 256) : iblk m c 2 t (ix3 a q k) = V m c main_v5 (ix3 a q k) := by
  blk_point [iblk, idx t]

/-- The second weights' block is the whole array. -/
theorem blk_padded (k : Fin 256) (l : Fin 128) : iblk m c 3 t (ix2 k l) = V m c main_v7 (ix2 k l) := by
  blk_point [iblk, idx t]

/-- A row of a grid point's result that has a block, before the columns of the second layer are read. -/
theorem row_block (r : Fin 1024) (l : Fin 128) (h : (row t r).val % 128 < 127) :
    blockLane (iblk m c 0 t) (iblk m c 1 t) (iblk m c 2 t) (iblk m c 3 t) r l
      = column₂ (block (D := 96) (W := 384) (N := 3072) rfl rfl (m ((c.tc : Thread nD τ).loc main_arg0)) (m ((c.tc : Thread nD τ).loc main_arg1)) (row t r) h)
          (fun q k => m ((c.tc : Thread nD τ).loc main_arg2) (ix2 q k)) (fun k => V m c main_v7 (ix2 k l)) := by
  unfold blockLane column₂
  unfold row at h
  dsimp only at h
  refine column₂_halves (n := 1536) rfl
    (fun q => congrArg₂ (fun a b : EReal => a + b)
      (((blk_halves m c t _ q).trans (halves m c _ q)).trans (at_entry _ ?_ ?_)) (((blk_positions m c t 0 q).trans (positions m c 0 q)).trans (at_entry _ ?_ ?_)))
    (fun q => congrArg₂ (fun a b : EReal => a + b)
      (((blk_halves m c t _ q).trans (halves m c _ q)).trans (at_entry _ ?_ ?_)) (((blk_positions m c t 1 q).trans (positions m c 1 q)).trans (at_entry _ ?_ ?_)))
    (fun q k => ((blk_weights m c t 0 q k).trans (weights m c 0 q k)).trans (at_entry _ ?_ rfl))
    (fun q k => ((blk_weights m c t 1 q k).trans (weights m c 1 q k)).trans (at_entry _ ?_ rfl)) (fun k => blk_padded m c t k l)
  all_goals
    simp only [row, Fin.val_zero, Fin.val_one]
    try omega

/-- A grid point's result. -/
theorem lane_block (r : Fin 1024) (l : Fin 128) :
    (if r.val % 128 < 127 then blockLane (iblk m c 0 t) (iblk m c 1 t) (iblk m c 2 t) (iblk m c 3 t) r l else (0 : EReal))
      = keyLane (m ((c.tc : Thread nD τ).loc main_arg0)) (m ((c.tc : Thread nD τ).loc main_arg1)) (m ((c.tc : Thread nD τ).loc main_arg2))
          (m ((c.tc : Thread nD τ).loc main_arg3)) (row t r) l := by
  have hr : r.val % 128 = (row t r).val % 128 := by
    unfold row
    dsimp only
    omega
  rw [hr]
  unfold keyLane compressed
  by_cases h : (row t r).val % 128 < 127
  · refine (if_pos h).trans ((row_block m c t r l h).trans ?_)
    by_cases hl : l.val < 96
    · refine Eq.trans ?_ ((dif_pos hl).trans (dif_pos h)).symm
      exact congrArg (column₂ _ _) (funext fun k => (padded m c k l).trans (dif_pos hl))
    · refine Eq.trans ?_ (dif_neg hl).symm
      exact (congrArg (column₂ _ _) (funext fun k => (padded m c k l).trans (dif_neg hl))).trans (column₂_zero _ _)
  · refine (if_neg h).trans ?_
    by_cases hl : l.val < 96
    · exact ((dif_pos hl).trans (dif_neg h)).symm
    · refine Eq.trans ?_ (dif_neg hl).symm
      rfl

/-- The array of window 4 after the run. -/
theorem final_keys : (dats m 0 c).arrAt 4 cfg0.N = keys m c := by
  refine (dats m 0 c).arrAt_eq_of_covers 4 _ (by decide +kernel) fun t hf y => ?_
  blk_simp
  rw [after0_4]
  idx_vars y
  rw [out_block]
  unfold keys
  refine (lane_block m c t y0 y1).trans (congrArg₂ (keyLane _ _ _ _) (Fin.ext ?_) (Fin.ext ?_))
  all_goals blk_simp [idx t, row]

/-- The run: the result array as named, the arguments as launched. -/
theorem run : θ_run defs (onTc (τ := τ) (main (F := 𝔼))) ⟨m, fun _ => 0, ρ⟩ fun r => ∀ c : Dev nD,
      r.2.mem ((c.tc : Thread nD τ).loc main_v8) = keys m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_keys m c), (h c).2⟩) (Value.run_blocks m ρ)

end Cert.CmpKeysIdeal.Hand

end
-- ==== Proof.CmpKeysRefValue.lean ====
/- The value of the reference of the keys' compression: its operations composed, entry by entry. -/
module

public import proofs.«01_k».proof.Proof.Gen.CmpKeysRefIdeal.Run
public import proofs.«01_k».proof.Proof.CompressMath

@[expose] public section

set_option maxRecDepth 16384

noncomputable section

namespace Cert.CmpKeysRefIdeal.Hand

open Cert.CmpKeysRefIdeal Cert.CmpKeysRefIdeal.Gen Idealize.ShloMosaic Idealize.SL.Sem Cert.ProjMath Cert.RglruInMath Cert.CompressMath

/-- The float values read as extended reals. -/
local notation "𝔼" => Idealize.ShloMosaic.Ideal

variable (m : (ℓ : Loc nD τ sig) → Buf (Elt 𝔼) ℓ) (ρ : Dev nD → PrngReg)

/-- The compressed keys, every row padded to 128 lanes. -/
def keys (c : Dev nD) : S16384x128.Idx → EReal := fun j =>
  keyLane (m ((c.tc : Thread nD τ).loc main_arg0)) (m ((c.tc : Thread nD τ).loc main_arg1)) (m ((c.tc : Thread nD τ).loc main_arg2))
    (m ((c.tc : Thread nD τ).loc main_arg3)) (j 0) (j 1)

/-- The blocks of 32 tokens: two half blocks joined, numbered through all sequences. -/
def tokens (x : Vec 𝔼 S65536x384 .bf16) : Vec 𝔼 S4064x32x4x96 .bf16 :=
  shapeCast _ (concatenate S32x127x32x384 2 [⟨S32x127x16x384, (extractStridedSlice S32x127x16x384 ![0, 0, 0, 0] (shapeCast _ x shapeCasts_S65536x384_S32x128x16x384) slices_S32x128x16x384_S32x127x16x384_0_0_0_0)⟩, ⟨S32x127x16x384, (extractStridedSlice S32x127x16x384 ![0, 1, 0, 0] (shapeCast _ x shapeCasts_S65536x384_S32x128x16x384) slices_S32x128x16x384_S32x127x16x384_0_1_0_0)⟩] concatenates_S32x127x16x384_S32x127x16x384_S32x127x32x384_d2) shapeCasts_S32x127x32x384_S4064x32x4x96

/-- The blocks with their positions, by head. -/
def blocks (y : Vec 𝔼 S4064x32x4x96 .bf16) (p : Vec 𝔼 S32x96 .f32) : Vec 𝔼 S4064x4x3072 .f32 :=
  shapeCast _ (transpose S4064x4x32x96 [0, 2, 1, 3] (addf (F := 𝔼) (extf .f32 y bitsLt_bf16_f32) (broadcastInDim S4064x32x4x96 ![0, 1, 2, 3] bcast_S1x32x1x96_S4064x32x4x96_0_1_2_3 (broadcastInDim S1x32x1x96 ![1, 3] bcast_S32x96_S1x32x1x96_1_3 p))) transposes_S4064x32x4x96_S4064x4x32x96_0_2_1_3) shapeCasts_S4064x4x32x96_S4064x4x3072

/-- The first layer, before its activation. -/
def hidden (b : Vec 𝔼 S4064x4x3072 .f32) (w : Vec 𝔼 S3072x256 .f32) : Vec 𝔼 S4064x4x256 .f32 :=
  Host.dotGeneral (F := 𝔼) (φ₁ := .f32) (φ₂ := .f32) dot_S4064x4x3072_S3072x256_S4064x4x256_2_0_01_1_n_n none b w

/-- The activation and the second layer. -/
def second (v : Vec 𝔼 S4064x4x256 .f32) (w : Vec 𝔼 S256x96 .f32) : Vec 𝔼 S4064x4x96 .f32 :=
  Host.dotGeneral (F := 𝔼) (φ₁ := .f32) (φ₂ := .f32) dot_S4064x4x256_S256x96_S4064x4x96_2_0_01_1_n_n none (mulf v (mulf (broadcastInDim S4064x4x256 ![] bcast_S_S4064x4x256 (constant S_ .f32 0x3F000000#32)) (addf (broadcastInDim S4064x4x256 ![] bcast_S_S4064x4x256 (constant S_ .f32 0x3F800000#32)) (Host.tanh (mulf (broadcastInDim S4064x4x256 ![] bcast_S_S4064x4x256 (constant S_ .f32 0x3F4C422A#32)) (addf v (mulf (broadcastInDim S4064x4x256 ![] bcast_S_S4064x4x256 (constant S_ .f32 0x3D372713#32)) (mulf (mulf v v) v)))))))) w

/-- The rows by sequence and head, padded. -/
def rows (z : Vec 𝔼 S4064x4x96 .f32) : Vec 𝔼 S16384x128 .f32 :=
  shapeCast _ (pad S32x4x128x128 ![0, 0, 0, 0] ![0, 0, 1, 32] ![0, 0, 0, 0] (transpose S32x4x127x96 [0, 2, 1, 3] (shapeCast _ z shapeCasts_S4064x4x96_S32x127x4x96) transposes_S32x127x4x96_S32x4x127x96_0_2_1_3) (sitofp (F := 𝔼) .f32 (constantI S_ 32 0#32)) pads_S32x4x127x96_S32x4x128x128_000_000_010_0320 h_S_) shapeCasts_S32x4x128x128_S16384x128

theorem tokens_at (x : Vec 𝔼 S65536x384 .bf16) (n : Fin 4064) (s : Fin 32) (g : Fin 4) (d : Fin 96) :
    (tokens x (ix4 n s g d) : EReal)
      = x (ix2 ⟨n.val / 127 * 2048 + (n.val % 127 * 16 + s.val), by omega⟩ ⟨g.val * 96 + d.val, by omega⟩) := by
  unfold tokens
  pointwise
  split
  all_goals exact at_entry _ (by dsimp only; omega) rfl

theorem blocks_at (y : Vec 𝔼 S4064x32x4x96 .bf16) (p : Vec 𝔼 S32x96 .f32) (n : Fin 4064) (g : Fin 4) (q : Fin 3072) :
    (blocks y p (ix3 n g q) : EReal)
      = (fun a b : EReal => a + b) (y (ix4 n ⟨q.val / 96, by omega⟩ g ⟨q.val % 96, by omega⟩)) (p (ix2 ⟨q.val / 96, by omega⟩ ⟨q.val % 96, by omega⟩)) := by
  unfold blocks
  pointwise

theorem hidden_at (b : Vec 𝔼 S4064x4x3072 .f32) (w : Vec 𝔼 S3072x256 .f32) (n : Fin 4064) (g : Fin 4) (k : Fin 256) :
    (hidden b w (ix3 n g k) : EReal) = ∑ q : Fin 3072, (fun a b : EReal => a * b) (b (ix3 n g q)) (w (ix2 q k)) := by
  unfold hidden
  pointwise

theorem second_at (v : Vec 𝔼 S4064x4x256 .f32) (w : Vec 𝔼 S256x96 .f32) (n : Fin 4064) (g : Fin 4) (d : Fin 96) :
    (second v w (ix3 n g d) : EReal) = ∑ k : Fin 256, (fun a b : EReal => a * b) (gelu (v (ix3 n g k))) (w (ix2 k d)) := by
  unfold second gelu
  pointwise

theorem rows_at (z : Vec 𝔼 S4064x4x96 .f32) (r : Fin 16384) (l : Fin 128) :
    (rows z (ix2 r l) : EReal)
      = if h : l.val < 96 then if h' : r.val % 128 < 127 then
          z (ix3 ⟨r.val / 512 * 127 + r.val % 128, by omega⟩ ⟨r.val / 128 % 4, by omega⟩ ⟨l.val, h⟩) else (0 : EReal) else (0 : EReal) := by
  unfold rows
  pointwise
  simp only [sitofp_zero]
  by_cases h : l.val < 96
  · by_cases h' : r.val % 128 < 127
    · refine (dif_pos ⟨by omega, by omega, h', h⟩).trans (Eq.trans ?_ ((dif_pos h).trans (dif_pos h')).symm)
      rfl
    · exact (dif_neg fun hh => h' hh.2.2.1).trans ((dif_pos h).trans (dif_neg h')).symm
  · refine (dif_neg fun hh => h hh.2.2.2).trans (Eq.trans ?_ (dif_neg h).symm)
    rfl

/-- The run: the result array as named, the arguments as launched. -/
theorem run : θ_run defs (onTc (τ := τ) (main (F := 𝔼))) ⟨m, fun _ => 0, ρ⟩ fun r => ∀ c : Dev nD,
      r.2.mem ((c.tc : Thread nD τ).loc main_v30) = keys m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  clear h
  funext j
  idx_vars j
  refine Eq.trans (b := rows (second (hidden (blocks (tokens (m ((c.tc : Thread nD τ).loc main_arg0))) (m ((c.tc : Thread nD τ).loc main_arg1)))
    (m ((c.tc : Thread nD τ).loc main_arg2))) (m ((c.tc : Thread nD τ).loc main_arg3))) (ix2 j0 j1)) rfl ?_
  refine (rows_at _ j0 j1).trans ?_
  refine Eq.trans ?_ (rfl : keyLane (m ((c.tc : Thread nD τ).loc main_arg0)) (m ((c.tc : Thread nD τ).loc main_arg1))
    (m ((c.tc : Thread nD τ).loc main_arg2)) (m ((c.tc : Thread nD τ).loc main_arg3)) j0 j1 = keys m c (ix2 j0 j1))
  unfold keyLane compressed
  by_cases hl : j1.val < 96
  · refine (dif_pos hl).trans (Eq.trans ?_ (dif_pos hl).symm)
    by_cases h : j0.val % 128 < 127
    · refine (dif_pos h).trans (Eq.trans ?_ (dif_pos h).symm)
      refine (second_at _ _ _ _ _).trans (Finset.sum_congr rfl fun k _ => congrArg₂ (fun a b : EReal => a * b) (congrArg gelu ?_) rfl)
      refine (hidden_at _ _ _ _ _).trans (Finset.sum_congr rfl fun q _ => congrArg₂ (fun a b : EReal => a * b) ?_ rfl)
      refine (blocks_at _ _ _ _ _).trans (congrArg₂ (fun a b : EReal => a + b) ((tokens_at _ _ _ _ _).trans (at_entry _ ?_ ?_)) rfl)
      all_goals
        dsimp only
        try omega
    · refine (dif_neg h).trans (Eq.trans ?_ (dif_neg h).symm)
      rfl
  · refine (dif_neg hl).trans (Eq.trans ?_ (dif_neg hl).symm)
    rfl

end Cert.CmpKeysRefIdeal.Hand

end
-- ==== Proof.CmpValuesValue.lean ====
/- The value of the call that compresses the values: what a grid point leaves in its block. -/
module

public import proofs.«01_k».proof.Proof.Gen.CmpValuesIdeal.Value
public import proofs.«01_k».proof.Proof.CompressMath

@[expose] public section

set_option maxRecDepth 16384

noncomputable section

namespace Cert.CmpValuesIdeal.Hand

open Cert.CmpValuesIdeal Cert.CmpValuesIdeal.Gen Idealize.ShloMosaic Idealize.ShloMosaic.TcCoe Idealize.SL.Sem Cert.ProjMath Cert.RglruInMath
open Cert.CompressMath

/-- The float values read as extended reals. -/
local notation "𝔼" => Idealize.ShloMosaic.Ideal

variable (x0 : Vec 𝔼 S1024x1024 .bf16) (x1 : Vec 𝔼 S2x1024 .f32) (x2 : Vec 𝔼 S2x1024x256 .bf16) (x3 : Vec 𝔼 S256x64 .bf16)

/-- Row `r` of a grid point's block of the result, where it has a block: the half block of that row with the next one. -/
def blockLane (r : Fin 1024) (j : Fin 64) : EReal :=
  ∑ k : Fin 256, gelu ((∑ q : Fin 1024, (x0 (ix2 r q) + x1 (ix2 0 q)) * x2 (ix3 0 q k))
    + ∑ q : Fin 1024, (x0 (ix2 ⟨(r.val + 1024 - 1023) % 1024, by omega⟩ q) + x1 (ix2 1 q)) * x2 (ix3 1 q k)) * x3 (ix2 k j)

/-- What a grid point leaves in row `r` of its block. -/
theorem out_block (r : Fin 1024) (j : Fin 64) :
    (out0_4 x0 x1 x2 x3 (ix2 r j) : EReal)
      = if r.val % 128 < 127 then blockLane x0 x1 x2 x3 r j else (0 : EReal) := by
  unfold out0_4
  rw [View.canon_unit_zero (h := by ext a; fin_cases a <;> rfl)]
  unfold k0_pay1 k0_pay2 k0_pay3 blockLane gelu
  pointwise
  rw [mask r]
  by_cases h : r.val % 128 < 127
  · rw [if_pos h, if_pos h]
    rfl
  · rw [if_neg h, if_neg h]
    rfl

variable (m : (ℓ : Loc nD τ sig) → Buf (Elt 𝔼) ℓ) (c : Dev nD)

/-- The tokens in half blocks of 16, by sequence and head. -/
theorem halves (r : Fin 16384) (q : Fin 1024) :
    (V m c main_v2 (ix2 r q) : EReal)
      = m ((c.tc : Thread nD τ).loc main_arg0) (ix2 ⟨r.val / 512 * 2048 + (r.val % 128 * 16 + q.val / 64), by omega⟩ ⟨r.val / 128 % 4 * 64 + q.val % 64, by omega⟩) := by
  unfold V hostOps0
  after_results
  pointwise

/-- The positions, in two halves. -/
theorem positions (a : Fin 2) (q : Fin 1024) :
    (V m c main_v3 (ix2 a q) : EReal) = m ((c.tc : Thread nD τ).loc main_arg1) (ix2 ⟨a.val * 16 + q.val / 64, by omega⟩ ⟨q.val % 64, by omega⟩) := by
  unfold V hostOps0
  after_results
  pointwise

/-- The first layer's weights, in two halves. -/
theorem weights (a : Fin 2) (q : Fin 1024) (k : Fin 256) :
    (V m c main_v5 (ix3 a q k) : EReal) = m ((c.tc : Thread nD τ).loc main_arg2) (ix2 ⟨a.val * 1024 + q.val, by omega⟩ k) := by
  unfold V hostOps0
  after_results
  pointwise

/-- The second layer's weights. -/
theorem weights₂ (k : Fin 256) (l : Fin 64) :
    (V m c main_v6 (ix2 k l) : EReal) = m ((c.tc : Thread nD τ).loc main_arg3) (ix2 k l) := by
  unfold V hostOps0
  after_results
  pointwise

end Cert.CmpValuesIdeal.Hand

end
-- ==== Proof.CmpValuesRun.lean ====
/- The array of the call that compresses the values after the run: the blocks of the grid points put together, and the run with the
   result named entry by entry. -/
module

public import proofs.«01_k».proof.Proof.CmpValuesValue

@[expose] public section

set_option maxRecDepth 16384

noncomputable section

namespace Cert.CmpValuesIdeal.Hand

open Cert.CmpValuesIdeal Cert.CmpValuesIdeal.Gen Idealize.ShloMosaic Idealize.ShloMosaic.TcCoe Idealize.SL.Sem Cert.ProjMath Cert.RglruInMath
open Cert.CompressMath

/-- The float values read as extended reals. -/
local notation "𝔼" => Idealize.ShloMosaic.Ideal

variable (m : (ℓ : Loc nD τ sig) → Buf (Elt 𝔼) ℓ) (ρ : Dev nD → PrngReg)

/-- The compressed values. -/
def values (c : Dev nD) : S16384x64.Idx → EReal := fun j =>
  valueLane (m ((c.tc : Thread nD τ).loc main_arg0)) (m ((c.tc : Thread nD τ).loc main_arg1)) (m ((c.tc : Thread nD τ).loc main_arg2))
    (m ((c.tc : Thread nD τ).loc main_arg3)) (j 0) (j 1)

/-- The number of grid points. -/
theorem points : cfg0.N = 16 := by decide +kernel

/-- The row of the result that row `r` of a grid point's block is. -/
def row (t : Fin cfg0.N) (r : Fin 1024) : Fin 16384 := ⟨t.val * 1024 + r.val, by have := t.isLt.trans_eq points; omega⟩

/-- The block index of every window at every grid point. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

variable (c : Dev nD) (t : Fin cfg0.N)

/-- A row of a grid point's half blocks. -/
theorem blk_halves (r : Fin 1024) (q : Fin 1024) : iblk m c 0 t (ix2 r q) = V m c main_v2 (ix2 (row t r) q) := by
  blk_point [iblk, idx t, row]

/-- The positions' block is the whole array. -/
theorem blk_positions (a : Fin 2) (q : Fin 1024) : iblk m c 1 t (ix2 a q) = V m c main_v3 (ix2 a q) := by
  blk_point [iblk, idx t]

/-- The first weights' block is the whole array. -/
theorem blk_weights (a : Fin 2) (q : Fin 1024) (k : Fin 256) : iblk m c 2 t (ix3 a q k) = V m c main_v5 (ix3 a q k) := by
  blk_point [iblk, idx t]

/-- The second weights' block is the whole array. -/
theorem blk_weights₂ (k : Fin 256) (l : Fin 64) : iblk m c 3 t (ix2 k l) = V m c main_v6 (ix2 k l) := by
  blk_point [iblk, idx t]

/-- A row of a grid point's result that has a block, its sums over the whole block. -/
theorem row_block (r : Fin 1024) (l : Fin 64) (h : (row t r).val % 128 < 127) :
    blockLane (iblk m c 0 t) (iblk m c 1 t) (iblk m c 2 t) (iblk m c 3 t) r l
      = column₂ (block (D := 64) (W := 256) (N := 2048) rfl rfl (m ((c.tc : Thread nD τ).loc main_arg0)) (m ((c.tc : Thread nD τ).loc main_arg1)) (row t r) h)
          (fun q k => m ((c.tc : Thread nD τ).loc main_arg2) (ix2 q k)) (fun k => m ((c.tc : Thread nD τ).loc main_arg3) (ix2 k l)) := by
  unfold blockLane column₂
  unfold row at h
  dsimp only at h
  refine column₂_halves (n := 1024) rfl
    (fun q => congrArg₂ (fun a b : EReal => a + b)
      (((blk_halves m c t _ q).trans (halves m c _ q)).trans (at_entry _ ?_ ?_)) (((blk_positions m c t 0 q).trans (positions m c 0 q)).trans (at_entry _ ?_ ?_)))
    (fun q => congrArg₂ (fun a b : EReal => a + b)
      (((blk_halves m c t _ q).trans (halves m c _ q)).trans (at_entry _ ?_ ?_)) (((blk_positions m c t 1 q).trans (positions m c 1 q)).trans (at_entry _ ?_ ?_)))
    (fun q k => ((blk_weights m c t 0 q k).trans (weights m c 0 q k)).trans (at_entry _ ?_ rfl))
    (fun q k => ((blk_weights m c t 1 q k).trans (weights m c 1 q k)).trans (at_entry _ ?_ rfl)) (fun k => (blk_weights₂ m c t k l).trans (weights₂ m c k l))
  all_goals
    simp only [row, Fin.val_zero, Fin.val_one]
    try omega

/-- A grid point's result. -/
theorem lane_block (r : Fin 1024) (l : Fin 64) :
    (if r.val % 128 < 127 then blockLane (iblk m c 0 t) (iblk m c 1 t) (iblk m c 2 t) (iblk m c 3 t) r l else (0 : EReal))
      = valueLane (m ((c.tc : Thread nD τ).loc main_arg0)) (m ((c.tc : Thread nD τ).loc main_arg1)) (m ((c.tc : Thread nD τ).loc main_arg2))
          (m ((c.tc : Thread nD τ).loc main_arg3)) (row t r) l := by
  have hr : r.val % 128 = (row t r).val % 128 := by
    unfold row
    dsimp only
    omega
  rw [hr]
  unfold valueLane compressed
  by_cases h : (row t r).val % 128 < 127
  · refine (if_pos h).trans ((row_block m c t r l h).trans (Eq.trans ?_ (dif_pos h).symm))
    rfl
  · refine (if_neg h).trans (Eq.trans ?_ (dif_neg h).symm)
    rfl

/-- The array of window 4 after the run. -/
theorem final_values : (dats m 0 c).arrAt 4 cfg0.N = values m c := by
  refine (dats m 0 c).arrAt_eq_of_covers 4 _ (by decide +kernel) fun t hf y => ?_
  blk_simp
  rw [after0_4]
  idx_vars y
  rw [out_block]
  unfold values
  refine (lane_block m c t y0 y1).trans (congrArg₂ (valueLane _ _ _ _) (Fin.ext ?_) (Fin.ext ?_))
  all_goals blk_simp [idx t, row]

/-- The run: the result array as named, the arguments as launched. -/
theorem run : θ_run defs (onTc (τ := τ) (main (F := 𝔼))) ⟨m, fun _ => 0, ρ⟩ fun r => ∀ c : Dev nD,
      r.2.mem ((c.tc : Thread nD τ).loc main_v7) = values m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_values m c), (h c).2⟩) (Value.run_blocks m ρ)

end Cert.CmpValuesIdeal.Hand

end
-- ==== Proof.CmpValuesRefValue.lean ====
/- The value of the reference of the values' compression: its operations composed, entry by entry. -/
module

public import proofs.«01_k».proof.Proof.Gen.CmpValuesRefIdeal.Run
public import proofs.«01_k».proof.Proof.CompressMath

@[expose] public section

set_option maxRecDepth 16384

noncomputable section

namespace Cert.CmpValuesRefIdeal.Hand

open Cert.CmpValuesRefIdeal Cert.CmpValuesRefIdeal.Gen Idealize.ShloMosaic Idealize.SL.Sem Cert.ProjMath Cert.RglruInMath Cert.CompressMath

/-- The float values read as extended reals. -/
local notation "𝔼" => Idealize.ShloMosaic.Ideal

variable (m : (ℓ : Loc nD τ sig) → Buf (Elt 𝔼) ℓ) (ρ : Dev nD → PrngReg)

/-- The compressed values. -/
def values (c : Dev nD) : S16384x64.Idx → EReal := fun j =>
  valueLane (m ((c.tc : Thread nD τ).loc main_arg0)) (m ((c.tc : Thread nD τ).loc main_arg1)) (m ((c.tc : Thread nD τ).loc main_arg2))
    (m ((c.tc : Thread nD τ).loc main_arg3)) (j 0) (j 1)

/-- The blocks of 32 tokens: two half blocks joined, numbered through all sequences. -/
def tokens (x : Vec 𝔼 S65536x256 .bf16) : Vec 𝔼 S4064x32x4x64 .bf16 :=
  shapeCast _ (concatenate S32x127x32x256 2 [⟨S32x127x16x256, (extractStridedSlice S32x127x16x256 ![0, 0, 0, 0] (shapeCast _ x shapeCasts_S65536x256_S32x128x16x256) slices_S32x128x16x256_S32x127x16x256_0_0_0_0)⟩, ⟨S32x127x16x256, (extractStridedSlice S32x127x16x256 ![0, 1, 0, 0] (shapeCast _ x shapeCasts_S65536x256_S32x128x16x256) slices_S32x128x16x256_S32x127x16x256_0_1_0_0)⟩] concatenates_S32x127x16x256_S32x127x16x256_S32x127x32x256_d2) shapeCasts_S32x127x32x256_S4064x32x4x64

/-- The blocks with their positions, by head. -/
def blocks (y : Vec 𝔼 S4064x32x4x64 .bf16) (p : Vec 𝔼 S32x64 .f32) : Vec 𝔼 S4064x4x2048 .f32 :=
  shapeCast _ (transpose S4064x4x32x64 [0, 2, 1, 3] (addf (F := 𝔼) (extf .f32 y bitsLt_bf16_f32) (broadcastInDim S4064x32x4x64 ![0, 1, 2, 3] bcast_S1x32x1x64_S4064x32x4x64_0_1_2_3 (broadcastInDim S1x32x1x64 ![1, 3] bcast_S32x64_S1x32x1x64_1_3 p))) transposes_S4064x32x4x64_S4064x4x32x64_0_2_1_3) shapeCasts_S4064x4x32x64_S4064x4x2048

/-- The first layer, before its activation. -/
def hidden (b : Vec 𝔼 S4064x4x2048 .f32) (w : Vec 𝔼 S2048x256 .f32) : Vec 𝔼 S4064x4x256 .f32 :=
  Host.dotGeneral (F := 𝔼) (φ₁ := .f32) (φ₂ := .f32) dot_S4064x4x2048_S2048x256_S4064x4x256_2_0_01_1_n_n none b w

/-- The activation and the second layer. -/
def second (v : Vec 𝔼 S4064x4x256 .f32) (w : Vec 𝔼 S256x64 .f32) : Vec 𝔼 S4064x4x64 .f32 :=
  Host.dotGeneral (F := 𝔼) (φ₁ := .f32) (φ₂ := .f32) dot_S4064x4x256_S256x64_S4064x4x64_2_0_01_1_n_n none (mulf v (mulf (broadcastInDim S4064x4x256 ![] bcast_S_S4064x4x256 (constant S_ .f32 0x3F000000#32)) (addf (broadcastInDim S4064x4x256 ![] bcast_S_S4064x4x256 (constant S_ .f32 0x3F800000#32)) (Host.tanh (mulf (broadcastInDim S4064x4x256 ![] bcast_S_S4064x4x256 (constant S_ .f32 0x3F4C422A#32)) (addf v (mulf (broadcastInDim S4064x4x256 ![] bcast_S_S4064x4x256 (constant S_ .f32 0x3D372713#32)) (mulf (mulf v v) v)))))))) w

/-- The rows by sequence and head, with a row of zeros after each head's blocks. -/
def rows (z : Vec 𝔼 S4064x4x64 .f32) : Vec 𝔼 S16384x64 .f32 :=
  shapeCast _ (pad S32x4x128x64 ![0, 0, 0, 0] ![0, 0, 1, 0] ![0, 0, 0, 0] (transpose S32x4x127x64 [0, 2, 1, 3] (shapeCast _ z shapeCasts_S4064x4x64_S32x127x4x64) transposes_S32x127x4x64_S32x4x127x64_0_2_1_3) (sitofp (F := 𝔼) .f32 (constantI S_ 32 0#32)) pads_S32x4x127x64_S32x4x128x64_000_000_010_000 h_S_) shapeCasts_S32x4x128x64_S16384x64

theorem tokens_at (x : Vec 𝔼 S65536x256 .bf16) (n : Fin 4064) (s : Fin 32) (g : Fin 4) (d : Fin 64) :
    (tokens x (ix4 n s g d) : EReal)
      = x (ix2 ⟨n.val / 127 * 2048 + (n.val % 127 * 16 + s.val), by omega⟩ ⟨g.val * 64 + d.val, by omega⟩) := by
  unfold tokens
  pointwise
  split
  all_goals exact at_entry _ (by dsimp only; omega) rfl

theorem blocks_at (y : Vec 𝔼 S4064x32x4x64 .bf16) (p : Vec 𝔼 S32x64 .f32) (n : Fin 4064) (g : Fin 4) (q : Fin 2048) :
    (blocks y p (ix3 n g q) : EReal)
      = (fun a b : EReal => a + b) (y (ix4 n ⟨q.val / 64, by omega⟩ g ⟨q.val % 64, by omega⟩)) (p (ix2 ⟨q.val / 64, by omega⟩ ⟨q.val % 64, by omega⟩)) := by
  unfold blocks
  pointwise

theorem hidden_at (b : Vec 𝔼 S4064x4x2048 .f32) (w : Vec 𝔼 S2048x256 .f32) (n : Fin 4064) (g : Fin 4) (k : Fin 256) :
    (hidden b w (ix3 n g k) : EReal) = ∑ q : Fin 2048, (fun a b : EReal => a * b) (b (ix3 n g q)) (w (ix2 q k)) := by
  unfold hidden
  pointwise

theorem second_at (v : Vec 𝔼 S4064x4x256 .f32) (w : Vec 𝔼 S256x64 .f32) (n : Fin 4064) (g : Fin 4) (d : Fin 64) :
    (second v w (ix3 n g d) : EReal) = ∑ k : Fin 256, (fun a b : EReal => a * b) (gelu (v (ix3 n g k))) (w (ix2 k d)) := by
  unfold second gelu
  pointwise

theorem rows_at (z : Vec 𝔼 S4064x4x64 .f32) (r : Fin 16384) (l : Fin 64) :
    (rows z (ix2 r l) : EReal)
      = if h : r.val % 128 < 127 then
          z (ix3 ⟨r.val / 512 * 127 + r.val % 128, by omega⟩ ⟨r.val / 128 % 4, by omega⟩ l) else (0 : EReal) := by
  unfold rows
  pointwise
  simp only [sitofp_zero]
  by_cases h : r.val % 128 < 127
  · refine (dif_pos ⟨by omega, by omega, h⟩).trans (Eq.trans ?_ (dif_pos h).symm)
    rfl
  · refine (dif_neg fun hh => h hh.2.2).trans (Eq.trans ?_ (dif_neg h).symm)
    rfl

/-- The run: the result array as named, the arguments as launched. -/
theorem run : θ_run defs (onTc (τ := τ) (main (F := 𝔼))) ⟨m, fun _ => 0, ρ⟩ fun r => ∀ c : Dev nD,
      r.2.mem ((c.tc : Thread nD τ).loc main_v30) = values m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  clear h
  funext j
  idx_vars j
  refine Eq.trans (b := rows (second (hidden (blocks (tokens (m ((c.tc : Thread nD τ).loc main_arg0))) (m ((c.tc : Thread nD τ).loc main_arg1)))
    (m ((c.tc : Thread nD τ).loc main_arg2))) (m ((c.tc : Thread nD τ).loc main_arg3))) (ix2 j0 j1)) rfl ?_
  refine (rows_at _ j0 j1).trans ?_
  refine Eq.trans ?_ (rfl : valueLane (m ((c.tc : Thread nD τ).loc main_arg0)) (m ((c.tc : Thread nD τ).loc main_arg1))
    (m ((c.tc : Thread nD τ).loc main_arg2)) (m ((c.tc : Thread nD τ).loc main_arg3)) j0 j1 = values m c (ix2 j0 j1))
  unfold valueLane compressed
  by_cases h : j0.val % 128 < 127
  · refine (dif_pos h).trans (Eq.trans ?_ (dif_pos h).symm)
    refine (second_at _ _ _ _ _).trans (Finset.sum_congr rfl fun k _ => congrArg₂ (fun a b : EReal => a * b) (congrArg gelu ?_) rfl)
    refine (hidden_at _ _ _ _ _).trans (Finset.sum_congr rfl fun q _ => congrArg₂ (fun a b : EReal => a * b) ?_ rfl)
    refine (blocks_at _ _ _ _ _).trans (congrArg₂ (fun a b : EReal => a + b) ((tokens_at _ _ _ _ _).trans (at_entry _ ?_ ?_)) rfl)
    all_goals
      dsimp only
      try omega
  · refine (dif_neg h).trans (Eq.trans ?_ (dif_neg h).symm)
    rfl

end Cert.CmpValuesRefIdeal.Hand

end
-- ==== Proof.lean ====
/- The certificate's claim, assembled from the modules under Proof/: the attention call's frames (NsaKernelFrame,
   NsaKernelIdealFrame), the feed-forward calls' values (FfnValue, FfnFinalValue) and their references' (FfnRefValue,
   FfnFinalRefValue), and the same of the three calls that project the tokens (RglruInValue, KvProjRun, QProjRun; RglruInRefValue,
   KvProjRefValue, QProjRefValue) and of the two that compress keys and values (CmpKeysRun, CmpValuesRun; CmpKeysRefValue,
   CmpValuesRefValue). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalRefIdeal
public import proofs.«01_k».proof.Proof.Gen.RglruIn
public import proofs.«01_k».proof.Proof.Gen.RglruIn.Skeleton
public import proofs.«01_k».proof.Proof.Gen.RglruIn.Launch
public import proofs.«01_k».proof.Proof.Gen.RglruIn.Points
public import proofs.«01_k».proof.Proof.Gen.RglruIn.Frame
public import proofs.«01_k».proof.Proof.Gen.RglruInIdeal
public import proofs.«01_k».proof.Proof.Gen.RglruInIdeal.Skeleton
public import proofs.«01_k».proof.Proof.Gen.RglruInIdeal.Launch
public import proofs.«01_k».proof.Proof.Gen.RglruInIdeal.Points
public import proofs.«01_k».proof.Proof.Gen.RglruInIdeal.Frame
public import proofs.«01_k».proof.Proof.Gen.RglruInRefIdeal
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjRefIdeal
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjRefIdeal
public import proofs.«01_k».proof.Proof.Gen.FfnIdeal.Value
public import proofs.«01_k».proof.Proof.Gen.FfnFinalIdeal.Value
public import proofs.«01_k».proof.Proof.Gen.FfnRefIdeal.Run
public import proofs.«01_k».proof.Proof.Gen.FfnFinalRefIdeal.Run
public import proofs.«01_k».proof.Proof.Gen.RglruInIdeal.Value
public import proofs.«01_k».proof.Proof.Gen.RglruInRefIdeal.Run
public import proofs.«01_k».proof.Proof.Gen.KvProjIdeal.Value
public import proofs.«01_k».proof.Proof.Gen.KvProjRefIdeal.Run
public import proofs.«01_k».proof.Proof.Gen.QProjIdeal.Value
public import proofs.«01_k».proof.Proof.Gen.QProjRefIdeal.Run
public import proofs.«01_k».proof.Proof.Gen.CmpKeys
public import proofs.«01_k».proof.Proof.Gen.CmpKeys.Skeleton
public import proofs.«01_k».proof.Proof.Gen.CmpKeys.Launch
public import proofs.«01_k».proof.Proof.Gen.CmpKeys.Points
public import proofs.«01_k».proof.Proof.Gen.CmpKeys.Frame
public import proofs.«01_k».proof.Proof.Gen.CmpKeysIdeal
public import proofs.«01_k».proof.Proof.Gen.CmpKeysIdeal.Skeleton
public import proofs.«01_k».proof.Proof.Gen.CmpKeysIdeal.Launch
public import proofs.«01_k».proof.Proof.Gen.CmpKeysIdeal.Points
public import proofs.«01_k».proof.Proof.Gen.CmpKeysIdeal.Frame
public import proofs.«01_k».proof.Proof.Gen.CmpKeysRefIdeal
public import proofs.«01_k».proof.Proof.Gen.CmpKeysIdeal.Value
public import proofs.«01_k».proof.Proof.Gen.CmpKeysRefIdeal.Run
public import proofs.«01_k».proof.Proof.Gen.CmpValues
public import proofs.«01_k».proof.Proof.Gen.CmpValues.Skeleton
public import proofs.«01_k».proof.Proof.Gen.CmpValues.Launch
public import proofs.«01_k».proof.Proof.Gen.CmpValues.Points
public import proofs.«01_k».proof.Proof.Gen.CmpValues.Frame
public import proofs.«01_k».proof.Proof.Gen.CmpValuesIdeal
public import proofs.«01_k».proof.Proof.Gen.CmpValuesIdeal.Skeleton
public import proofs.«01_k».proof.Proof.Gen.CmpValuesIdeal.Launch
public import proofs.«01_k».proof.Proof.Gen.CmpValuesIdeal.Points
public import proofs.«01_k».proof.Proof.Gen.CmpValuesIdeal.Frame
public import proofs.«01_k».proof.Proof.Gen.CmpValuesRefIdeal
public import proofs.«01_k».proof.Proof.Gen.CmpValuesIdeal.Value
public import proofs.«01_k».proof.Proof.Gen.CmpValuesRefIdeal.Run
public import proofs.«01_k».proof.Proof.NsaKernelFrame
public import proofs.«01_k».proof.Proof.NsaKernelIdealFrame
public import proofs.«01_k».proof.Proof.FfnValue
public import proofs.«01_k».proof.Proof.FfnRefValue
public import proofs.«01_k».proof.Proof.FfnFinalValue
public import proofs.«01_k».proof.Proof.FfnFinalRefValue
public import proofs.«01_k».proof.Proof.RglruInValue
public import proofs.«01_k».proof.Proof.RglruInRefValue
public import proofs.«01_k».proof.Proof.KvProjRun
public import proofs.«01_k».proof.Proof.KvProjRefValue
public import proofs.«01_k».proof.Proof.QProjRun
public import proofs.«01_k».proof.Proof.QProjRefValue
public import proofs.«01_k».proof.Proof.CmpKeysRun
public import proofs.«01_k».proof.Proof.CmpKeysRefValue
public import proofs.«01_k».proof.Proof.CmpValuesRun
public import proofs.«01_k».proof.Proof.CmpValuesRefValue
public import Idealize.ShloMosaic.Lib.Tactic
public import Idealize.ShloMosaic.Adequacy
public import Idealize.ShloMosaic.Init

@[expose] public section

noncomputable section

namespace Cert.Proof

open Idealize.ShloMosaic Idealize.SL.Sem

/-- The named constant of the attention call: the mask, of which the ideal reading is minus infinity. -/
theorem preserves_nsa : Cert.preserves_Kernel_KernelIdeal :=
  IdealRules.named_const.statement Cert.KernelIdeal.κ "mask" .f32 0xF149F2CA#32 ⊥ rfl

/-- The reference of the layer's feed-forward block runs, keeps its arguments and leaves every semaphore counter at zero. -/
theorem frame_ffnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The same of the reference of the last feed-forward block with the final normalisation. -/
theorem frame_ffnFinalRef : Cert.quiescent_FfnFinalRefIdeal (hFfnFinalRefIdeal := Cert.FfnFinalRefIdeal.Gen.facts) := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

/-- The same of the reference of the projection that opens the recurrent block. -/
theorem frame_rglruInRef : Cert.quiescent_RglruInRefIdeal (hRglruInRefIdeal := Cert.RglruInRefIdeal.Gen.facts) := fun m ρ _ =>
  (θ_run Cert.RglruInRefIdeal.defs _ _).mono (fun r h => ⟨fun c => (h c).2.2, sem_eq_zero_of_no_sems (by decide) r.2⟩)
    (Cert.RglruInRefIdeal.Value.run (F := Ideal) m ρ)

/-- The same of the reference of the projection to keys and values. -/
theorem frame_kvProjRef : Cert.quiescent_KvProjRefIdeal (hKvProjRefIdeal := Cert.KvProjRefIdeal.Gen.facts) := fun m ρ _ =>
  (θ_run Cert.KvProjRefIdeal.defs _ _).mono (fun r h => ⟨fun c => (h c).2.2.2.2.2.2, sem_eq_zero_of_no_sems (by decide) r.2⟩)
    (Cert.KvProjRefIdeal.Value.run (F := Ideal) m ρ)

/-- The same of the reference of the projection to queries and gates. -/
theorem frame_qProjRef : Cert.quiescent_QProjRefIdeal (hQProjRefIdeal := Cert.QProjRefIdeal.Gen.facts) := fun m ρ _ =>
  (θ_run Cert.QProjRefIdeal.defs _ _).mono (fun r h => ⟨fun c => (h c).2.2.2, sem_eq_zero_of_no_sems (by decide) r.2⟩)
    (Cert.QProjRefIdeal.Value.run (F := Ideal) m ρ)

/-- The same of the reference of the keys' compression. -/
theorem frame_cmpKeysRef : Cert.quiescent_CmpKeysRefIdeal (hCmpKeysRefIdeal := Cert.CmpKeysRefIdeal.Gen.facts) := fun m ρ _ =>
  (θ_run Cert.CmpKeysRefIdeal.defs _ _).mono (fun r h => ⟨fun c => (h c).2, sem_eq_zero_of_no_sems (by decide) r.2⟩)
    (Cert.CmpKeysRefIdeal.Value.run (F := Ideal) m ρ)

/-- The same of the reference of the values' compression. -/
theorem frame_cmpValuesRef : Cert.quiescent_CmpValuesRefIdeal (hCmpValuesRefIdeal := Cert.CmpValuesRefIdeal.Gen.facts) := fun m ρ _ =>
  (θ_run Cert.CmpValuesRefIdeal.defs _ _).mono (fun r h => ⟨fun c => (h c).2, sem_eq_zero_of_no_sems (by decide) r.2⟩)
    (Cert.CmpValuesRefIdeal.Value.run (F := Ideal) m ρ)

/-- The feed-forward call and its reference leave the same array. -/
theorem value_ffn : Cert.algebraic_FfnIdeal_FfnRefIdeal (hFfnIdeal := Cert.FfnIdeal.Gen.facts) (hFfnRefIdeal := Cert.FfnRefIdeal.Gen.facts) := by
  intro m g m' g' _ h
  refine ⟨Cert.FfnIdeal.Hand.result m, Cert.FfnIdeal.Hand.run m g,
    (θ_run _ _ _).mono (fun _ hr c => ⟨(hr c).1.trans ?_, (hr c).2⟩) (Cert.FfnRefIdeal.Hand.run m' g')⟩
  obtain ⟨h0, h1, h2, h3, h4⟩ := h c
  unfold Cert.FfnRefIdeal.Hand.result
  rw [h0, h1, h2, h3]
  rfl

/-- The last feed-forward call, with the final normalisation, and its reference leave the same array. -/
theorem value_ffnFinal : Cert.algebraic_FfnFinalIdeal_FfnFinalRefIdeal (hFfnFinalIdeal := Cert.FfnFinalIdeal.Gen.facts) (hFfnFinalRefIdeal := Cert.FfnFinalRefIdeal.Gen.facts) := by
  intro m g m' g' _ h
  refine ⟨Cert.FfnFinalIdeal.Hand.result m, Cert.FfnFinalIdeal.Hand.run m g,
    (θ_run _ _ _).mono (fun _ hr c => ⟨(hr c).1.trans ?_, (hr c).2⟩) (Cert.FfnFinalRefIdeal.Hand.run m' g')⟩
  obtain ⟨h0, h1, h2, h3, h4⟩ := h c
  unfold Cert.FfnFinalRefIdeal.Hand.result
  rw [h0, h1, h2, h3, h4]
  rfl

/-- The call of the projection that opens the recurrent block and its reference leave the same arrays. -/
theorem value_rglruIn : Cert.algebraic_RglruInIdeal_RglruInRefIdeal (hRglruInIdeal := Cert.RglruInIdeal.Gen.facts) (hRglruInRefIdeal := Cert.RglruInRefIdeal.Gen.facts) := by
  intro m g m' g' _ h
  refine ⟨Cert.RglruInIdeal.Hand.branch m, Cert.RglruInIdeal.Hand.gated m, Cert.RglruInIdeal.Hand.run m g,
    (θ_run _ _ _).mono (fun _ hr c => ⟨(hr c).1.trans ?_, (hr c).2.1.trans ?_, (hr c).2.2⟩)
      (Cert.RglruInRefIdeal.Hand.run m' g')⟩
  all_goals obtain ⟨h0, h1, h2⟩ := h c
  · unfold Cert.RglruInRefIdeal.Hand.branch
    rw [h0, h1, h2]
    rfl
  · unfold Cert.RglruInRefIdeal.Hand.gated
    rw [h0, h1, h2]
    rfl

/-- The call of the projection to keys and values and its reference leave the same arrays. -/
theorem value_kvProj : Cert.algebraic_KvProjIdeal_KvProjRefIdeal (hKvProjIdeal := Cert.KvProjIdeal.Gen.facts) (hKvProjRefIdeal := Cert.KvProjRefIdeal.Gen.facts) := by
  intro m g m' g' _ h
  refine ⟨Cert.KvProjIdeal.Hand.keysCmp m, Cert.KvProjIdeal.Hand.valuesCmp m, Cert.KvProjIdeal.Hand.keysSel m, Cert.KvProjIdeal.Hand.valuesSel m, Cert.KvProjIdeal.Hand.keysWin m, Cert.KvProjIdeal.Hand.valuesWin m, Cert.KvProjIdeal.Hand.run m g,
    (θ_run _ _ _).mono (fun _ hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2⟩)
      (Cert.KvProjRefIdeal.Hand.run m' g')⟩
  all_goals obtain ⟨h0, h1, h2⟩ := h c
  · unfold Cert.KvProjRefIdeal.Hand.keysCmp
    rw [h0, h1, h2]
    rfl
  · unfold Cert.KvProjRefIdeal.Hand.valuesCmp
    rw [h0, h1, h2]
    rfl
  · unfold Cert.KvProjRefIdeal.Hand.keysSel
    rw [h0, h1, h2]
    rfl
  · unfold Cert.KvProjRefIdeal.Hand.valuesSel
    rw [h0, h1, h2]
    rfl
  · unfold Cert.KvProjRefIdeal.Hand.keysWin
    rw [h0, h1, h2]
    rfl
  · unfold Cert.KvProjRefIdeal.Hand.valuesWin
    rw [h0, h1, h2]
    rfl

/-- The call of the projection to queries and gates and its reference leave the same arrays. -/
theorem value_qProj : Cert.algebraic_QProjIdeal_QProjRefIdeal (hQProjIdeal := Cert.QProjIdeal.Gen.facts) (hQProjRefIdeal := Cert.QProjRefIdeal.Gen.facts) := by
  intro m g m' g' _ h
  refine ⟨Cert.QProjIdeal.Hand.queries m, Cert.QProjIdeal.Hand.queriesTurned m, Cert.QProjIdeal.Hand.gateLanes m, Cert.QProjIdeal.Hand.run m g,
    (θ_run _ _ _).mono (fun _ hr c => ⟨(hr c).1.trans ?_, (hr c).2.1.trans ?_, (hr c).2.2.1.trans ?_, (hr c).2.2.2⟩)
      (Cert.QProjRefIdeal.Hand.run m' g')⟩
  all_goals obtain ⟨h0, h1, h2, h3⟩ := h c
  · unfold Cert.QProjRefIdeal.Hand.queries
    rw [h0, h1, h2]
    rfl
  · unfold Cert.QProjRefIdeal.Hand.queriesTurned
    rw [h0, h1, h2]
    rfl
  · unfold Cert.QProjRefIdeal.Hand.gateLanes
    rw [h0, h1, h2, h3]
    rfl

/-- The call that compresses the keys and its reference leave the same array. -/
theorem value_cmpKeys : Cert.algebraic_CmpKeysIdeal_CmpKeysRefIdeal (hCmpKeysIdeal := Cert.CmpKeysIdeal.Gen.facts) (hCmpKeysRefIdeal := Cert.CmpKeysRefIdeal.Gen.facts) := by
  intro m g m' g' _ h
  refine ⟨Cert.CmpKeysIdeal.Hand.keys m, Cert.CmpKeysIdeal.Hand.run m g,
    (θ_run _ _ _).mono (fun _ hr c => ⟨(hr c).1.trans ?_, (hr c).2⟩) (Cert.CmpKeysRefIdeal.Hand.run m' g')⟩
  obtain ⟨h0, h1, h2, h3⟩ := h c
  unfold Cert.CmpKeysRefIdeal.Hand.keys
  rw [h0, h1, h2, h3]
  rfl

/-- The call that compresses the values and its reference leave the same array. -/
theorem value_cmpValues : Cert.algebraic_CmpValuesIdeal_CmpValuesRefIdeal (hCmpValuesIdeal := Cert.CmpValuesIdeal.Gen.facts) (hCmpValuesRefIdeal := Cert.CmpValuesRefIdeal.Gen.facts) := by
  intro m g m' g' _ h
  refine ⟨Cert.CmpValuesIdeal.Hand.values m, Cert.CmpValuesIdeal.Hand.run m g,
    (θ_run _ _ _).mono (fun _ hr c => ⟨(hr c).1.trans ?_, (hr c).2⟩) (Cert.CmpValuesRefIdeal.Hand.run m' g')⟩
  obtain ⟨h0, h1, h2, h3⟩ := h c
  unfold Cert.CmpValuesRefIdeal.Hand.values
  rw [h0, h1, h2, h3]
  rfl

/-- Everything claimed. -/
theorem claim : Cert.Claim := ⟨Cert.Kernel.Gen.facts, Cert.KernelIdeal.Gen.facts, Cert.Ffn.Gen.facts, Cert.FfnIdeal.Gen.facts, Cert.FfnRefIdeal.Gen.facts, Cert.FfnFinal.Gen.facts, Cert.FfnFinalIdeal.Gen.facts, Cert.FfnFinalRefIdeal.Gen.facts,
  Cert.RglruIn.Gen.facts, Cert.RglruInIdeal.Gen.facts, Cert.RglruInRefIdeal.Gen.facts,
  Cert.KvProj.Gen.facts, Cert.KvProjIdeal.Gen.facts, Cert.KvProjRefIdeal.Gen.facts,
  Cert.QProj.Gen.facts, Cert.QProjIdeal.Gen.facts, Cert.QProjRefIdeal.Gen.facts,
  Cert.CmpKeys.Gen.facts, Cert.CmpKeysIdeal.Gen.facts, Cert.CmpKeysRefIdeal.Gen.facts,
  Cert.CmpValues.Gen.facts, Cert.CmpValuesIdeal.Gen.facts, Cert.CmpValuesRefIdeal.Gen.facts,
  fun m ρ _ => Cert.Kernel.Hand.frame m ρ, fun m ρ _ => Cert.KernelIdeal.Hand.frame m ρ,
  fun m ρ _ => Cert.Ffn.Gen.frame m ρ, fun m ρ _ => Cert.FfnIdeal.Gen.frame m ρ, frame_ffnRef,
  fun m ρ _ => Cert.FfnFinal.Gen.frame m ρ, fun m ρ _ => Cert.FfnFinalIdeal.Gen.frame m ρ, frame_ffnFinalRef,
  fun m ρ _ => Cert.RglruIn.Gen.frame m ρ, fun m ρ _ => Cert.RglruInIdeal.Gen.frame m ρ, frame_rglruInRef,
  fun m ρ _ => Cert.KvProj.Gen.frame m ρ, fun m ρ _ => Cert.KvProjIdeal.Gen.frame m ρ, frame_kvProjRef,
  fun m ρ _ => Cert.QProj.Gen.frame m ρ, fun m ρ _ => Cert.QProjIdeal.Gen.frame m ρ, frame_qProjRef,
  fun m ρ _ => Cert.CmpKeys.Gen.frame m ρ, fun m ρ _ => Cert.CmpKeysIdeal.Gen.frame m ρ, frame_cmpKeysRef,
  fun m ρ _ => Cert.CmpValues.Gen.frame m ρ, fun m ρ _ => Cert.CmpValuesIdeal.Gen.frame m ρ, frame_cmpValuesRef,
  preserves_nsa, trivial, value_ffn, trivial, value_ffnFinal, trivial, value_rglruIn, trivial, value_kvProj, trivial, value_qProj,
  trivial, value_cmpKeys, trivial, value_cmpValues⟩

end Cert.Proof

end
